-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_v9_5) = v5 c
          ∧ r.2.mem ((c.tc : Thread Cert.ReferenceIdeal.nD Cert.ReferenceIdeal.τ).loc Cert.ReferenceIdeal.main_v9_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x12288 : Shape := ⟨3, ![2, 8192, 12288]⟩
abbrev S2x8192 : Shape := ⟨2, ![2, 8192]⟩
abbrev S2x8192x3072 : Shape := ⟨3, ![2, 8192, 3072]⟩
abbrev S12288x3072 : Shape := ⟨2, ![12288, 3072]⟩
abbrev S12288x24 : Shape := ⟨2, ![12288, 24]⟩
abbrev S_ : Shape := ⟨0, ![]⟩
abbrev S16384x12288 : Shape := ⟨2, ![16384, 12288]⟩
abbrev S16384x3072 : Shape := ⟨2, ![16384, 3072]⟩
abbrev S16x1x1024 : Shape := ⟨3, ![16, 1, 1024]⟩
abbrev S12x8x128 : Shape := ⟨3, ![12, 8, 128]⟩
abbrev S1024x1024 : Shape := ⟨2, ![1024, 1024]⟩
abbrev S1024x3072 : Shape := ⟨2, ![1024, 3072]⟩
abbrev S1x1x1024 : Shape := ⟨3, ![1, 1, 1024]⟩
abbrev S1x8x128 : Shape := ⟨3, ![1, 8, 128]⟩
abbrev S1x1024 : Shape := ⟨2, ![1, 1024]⟩
abbrev S8x128 : Shape := ⟨2, ![8, 128]⟩
abbrev S8x3072 : Shape := ⟨2, ![8, 3072]⟩
abbrev S1 : Shape := ⟨1, ![1]⟩
abbrev S3 : Shape := ⟨1, ![3]⟩
abbrev S128x3072 : Shape := ⟨2, ![128, 3072]⟩
abbrev S128x24 : Shape := ⟨2, ![128, 24]⟩
abbrev S1x12x8x128 : Shape := ⟨4, ![1, 12, 8, 128]⟩
abbrev S1x1x1x1 : Shape := ⟨4, ![1, 1, 1, 1]⟩
abbrev S1x1x1 : Shape := ⟨3, ![1, 1, 1]⟩
abbrev S32x128 : Shape := ⟨2, ![32, 128]⟩
abbrev S32x24 : Shape := ⟨2, ![32, 24]⟩
abbrev S32x1 : Shape := ⟨2, ![32, 1]⟩
abbrev S32 : Shape := ⟨1, ![32]⟩
abbrev S1x1 : Shape := ⟨2, ![1, 1]⟩

abbrev nBuf : Space → Nat
  | .hbm => 39
  | .vmem => 38
  | .smem => 2
  | _ => 0

abbrev bufTy : (tb : Table) → Fin (tcTables nBuf tb) → BufTy
  | .hbm, ⟨0, _⟩ => ⟨S2x8192x12288, .fp8e4m3⟩
  | .hbm, ⟨1, _⟩ => ⟨S2x8192, .f32⟩
  | .hbm, ⟨2, _⟩ => ⟨S2x8192x3072, .fp8e5m2⟩
  | .hbm, ⟨3, _⟩ => ⟨S2x8192, .f32⟩
  | .hbm, ⟨4, _⟩ => ⟨S12288x3072, .bf16⟩
  | .hbm, ⟨5, _⟩ => ⟨S12288x3072, .i8⟩
  | .hbm, ⟨6, _⟩ => ⟨S12288x24, .f32⟩
  | .hbm, ⟨7, _⟩ => ⟨S12288x3072, .i8⟩
  | .hbm, ⟨8, _⟩ => ⟨S12288x24, .f32⟩
  | .hbm, ⟨9, _⟩ => ⟨S_, .i32⟩
  | .hbm, ⟨10, _⟩ => ⟨S_, .f32⟩
  | .hbm, ⟨11, _⟩ => ⟨S16384x12288, .fp8e4m3⟩
  | .hbm, ⟨12, _⟩ => ⟨S16384x3072, .fp8e5m2⟩
  | .hbm, ⟨13, _⟩ => ⟨S16x1x1024, .f32⟩
  | .hbm, ⟨14, _⟩ => ⟨S16x1x1024, .f32⟩
  | .hbm, ⟨15, _⟩ => ⟨S12288x3072, .f32⟩
  | .hbm, ⟨16, _⟩ => ⟨S12x8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S1, .f32⟩
  | .hbm, ⟨29, _⟩ => ⟨S3, .f32⟩
  | .hbm, ⟨30, _⟩ => ⟨S12288x3072, .bf16⟩
  | .hbm, ⟨31, _⟩ => ⟨S12288x3072, .f32⟩
  | .hbm, ⟨32, _⟩ => ⟨S8x128, .f32⟩
  | .hbm, ⟨33, _⟩ => ⟨S12288x3072, .i8⟩
  | .hbm, ⟨34, _⟩ => ⟨S12288x24, .f32⟩
  | .hbm, ⟨35, _⟩ => ⟨S12288x3072, .i8⟩
  | .hbm, ⟨36, _⟩ => ⟨S12288x24, .f32⟩
  | .hbm, ⟨37, _⟩ => ⟨S1x1, .f32⟩
  | .hbm, ⟨38, _⟩ => ⟨S_, .f32⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1024x3072, .fp8e5m2⟩
  | .local _ .vmem, ⟨3, _⟩ => ⟨S1024x3072, .fp8e5m2⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x3072, .f32⟩
  | .local _ .vmem, ⟨9, _⟩ => ⟨S1024x3072, .f32⟩
  | .local _ .vmem, ⟨10, _⟩ => ⟨S1x8x128, .f32⟩
  | .local _ .vmem, ⟨11, _⟩ => ⟨S1x8x128, .f32⟩
  | .local _ .vmem, ⟨12, _⟩ => ⟨S12x8x128, .f32⟩
  | .local _ .vmem, ⟨13, _⟩ => ⟨S128x3072, .f32⟩
  | .local _ .vmem, ⟨14, _⟩ => ⟨S128x3072, .f32⟩
  | .local _ .vmem, ⟨15, _⟩ => ⟨S128x3072, .bf16⟩
  | .local _ .vmem, ⟨16, _⟩ => ⟨S128x3072, .bf16⟩
  | .local _ .vmem, ⟨17, _⟩ => ⟨S128x3072, .i8⟩
  | .local _ .vmem, ⟨18, _⟩ => ⟨S128x3072, .i8⟩
  | .local _ .vmem, ⟨19, _⟩ => ⟨S128x24, .f32⟩
  | .local _ .vmem, ⟨20, _⟩ => ⟨S128x24, .f32⟩
  | .local _ .vmem, ⟨21, _⟩ => ⟨S128x3072, .i8⟩
  | .local _ .vmem, ⟨22, _⟩ => ⟨S128x3072, .i8⟩
  | .local _ .vmem, ⟨23, _⟩ => ⟨S128x24, .f32⟩
  | .local _ .vmem, ⟨24, _⟩ => ⟨S128x24, .f32⟩
  | .local _ .vmem, ⟨25, _⟩ => ⟨S128x3072, .bf16⟩
  | .local _ .vmem, ⟨26, _⟩ => ⟨S128x3072, .bf16⟩
  | .local _ .vmem, ⟨27, _⟩ => ⟨S128x3072, .f32⟩
  | .local _ .vmem, ⟨28, _⟩ => ⟨S128x3072, .f32⟩
  | .local _ .vmem, ⟨29, _⟩ => ⟨S8x128, .f32⟩
  | .local _ .vmem, ⟨30, _⟩ => ⟨S128x3072, .i8⟩
  | .local _ .vmem, ⟨31, _⟩ => ⟨S128x3072, .i8⟩
  | .local _ .vmem, ⟨32, _⟩ => ⟨S128x24, .f32⟩
  | .local _ .vmem, ⟨33, _⟩ => ⟨S128x24, .f32⟩
  | .local _ .vmem, ⟨34, _⟩ => ⟨S128x3072, .i8⟩
  | .local _ .vmem, ⟨35, _⟩ => ⟨S128x3072, .i8⟩
  | .local _ .vmem, ⟨36, _⟩ => ⟨S128x24, .f32⟩
  | .local _ .vmem, ⟨37, _⟩ => ⟨S128x24, .f32⟩
  | .local _ .smem, ⟨0, _⟩ => ⟨S3, .f32⟩
  | .local _ .smem, ⟨1, _⟩ => ⟨S1, .f32⟩
  | _, _ => ⟨S2x8192x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev main_v14_6 : Ref sig .tc := ⟨.hbm, 36, rfl⟩
abbrev main_v15 : Ref sig .tc := ⟨.hbm, 37, rfl⟩
abbrev main_v16 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg0_0 : Ref sig .tc := ⟨.smem, 0, rfl⟩
abbrev cc1_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem11_0 : DmaSem sig := 31
abbrev cc1_sem11_1 : DmaSem sig := 32
abbrev cc1_sem12_0 : DmaSem sig := 33
abbrev cc1_sem12_1 : DmaSem sig := 34
abbrev cc1_sem13_0 : DmaSem sig := 35
abbrev cc1_sem13_1 : DmaSem sig := 36
abbrev cc1_sem14_0 : DmaSem sig := 37
abbrev cc1_sem14_1 : DmaSem sig := 38

abbrev nD : Nat := 1
abbrev τ : Topo := Topo.v7x

variable {F : FTy → Type} [FloatOps F]

abbrev grid0 : Pipeline.Grid := ⟨2, ![12, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_14 : BitVec 32 := 0#32
  let v24 : BitVec 1 := Scalar.cmpi .ne v23 c0_i32_14
  v24

@[reducible] def k0_t1_loop : Scf.Loop 32 :=
  let c0_i32_16 : BitVec 32 := 0#32
  let c128_i32 : BitVec 32 := 128#32
  let v26 : BitVec 32 := Scalar.addi c0_i32_16 c128_i32
  let c1_i32 : BitVec 32 := 1#32
  ⟨c0_i32_16, v26, c1_i32⟩
def k0_mult1 (k0_t1 : Fin k0_t1_loop.trips) : BitVec 32 :=
  let c0_i32_16 : BitVec 32 := 0#32
  let c1_i32 : BitVec 32 := 1#32
  let arg8 : BitVec 32 := Scf.iv c0_i32_16 c1_i32 k0_t1
  let c8_i32 : BitVec 32 := 8#32
  let v31 : BitVec 32 := Scalar.muli arg8 c8_i32
  v31
def k0_off1 (k0_t1 : Fin k0_t1_loop.trips) : Fin 2 → Nat :=
  let c0_i32_16 : BitVec 32 := 0#32
  let c1_i32 : BitVec 32 := 1#32
  let arg8 : BitVec 32 := Scf.iv c0_i32_16 c1_i32 k0_t1
  let c8_i32 : BitVec 32 := 8#32
  let v31 : BitVec 32 := Scalar.muli arg8 c8_i32
  let v32 : BitVec 32 := v31
  let v33 : Index := Scalar.indexCast v32
  let c0_21 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3072 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![96], ![false]⟩

@[reducible] def k1_t1_loop : Scf.Loop 32 :=
  let c0_i32_1 : BitVec 32 := 0#32
  let c4_i32 : BitVec 32 := 4#32
  let v7 : BitVec 32 := Scalar.addi c0_i32_1 c4_i32
  let c1_i32 : BitVec 32 := 1#32
  ⟨c0_i32_1, v7, c1_i32⟩
def k1_mult1 (k1_t1 : Fin k1_t1_loop.trips) : BitVec 32 :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  v8
def k1_off1 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v10 : Index := Scalar.indexCast v9
  let c0_3 : Index := 0#32
  ![v10.toNat, 0]
def k1_off2 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v16 : Index := Scalar.indexCast v9
  let c0_6 : Index := 0#32
  ![v16.toNat, 0]
def k1_off3 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v113 : Index := Scalar.indexCast v9
  let c128 : Index := 128#32
  ![v113.toNat, 128]
def k1_off4 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v210 : Index := Scalar.indexCast v9
  let c256 : Index := 256#32
  ![v210.toNat, 256]
def k1_off5 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v307 : Index := Scalar.indexCast v9
  let c384 : Index := 384#32
  ![v307.toNat, 384]
def k1_off6 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v404 : Index := Scalar.indexCast v9
  let c512 : Index := 512#32
  ![v404.toNat, 512]
def k1_off7 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v501 : Index := Scalar.indexCast v9
  let c640 : Index := 640#32
  ![v501.toNat, 640]
def k1_off8 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v598 : Index := Scalar.indexCast v9
  let c768 : Index := 768#32
  ![v598.toNat, 768]
def k1_off9 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v695 : Index := Scalar.indexCast v9
  let c896 : Index := 896#32
  ![v695.toNat, 896]
def k1_off10 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v792 : Index := Scalar.indexCast v9
  let c1024 : Index := 1024#32
  ![v792.toNat, 1024]
def k1_off11 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v889 : Index := Scalar.indexCast v9
  let c1152 : Index := 1152#32
  ![v889.toNat, 1152]
def k1_off12 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v986 : Index := Scalar.indexCast v9
  let c1280 : Index := 1280#32
  ![v986.toNat, 1280]
def k1_off13 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1083 : Index := Scalar.indexCast v9
  let c1408 : Index := 1408#32
  ![v1083.toNat, 1408]
def k1_off14 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1180 : Index := Scalar.indexCast v9
  let c1536 : Index := 1536#32
  ![v1180.toNat, 1536]
def k1_off15 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1277 : Index := Scalar.indexCast v9
  let c1664 : Index := 1664#32
  ![v1277.toNat, 1664]
def k1_off16 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1374 : Index := Scalar.indexCast v9
  let c1792 : Index := 1792#32
  ![v1374.toNat, 1792]
def k1_off17 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1471 : Index := Scalar.indexCast v9
  let c1920 : Index := 1920#32
  ![v1471.toNat, 1920]
def k1_off18 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1568 : Index := Scalar.indexCast v9
  let c2048 : Index := 2048#32
  ![v1568.toNat, 2048]
def k1_off19 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1665 : Index := Scalar.indexCast v9
  let c2176 : Index := 2176#32
  ![v1665.toNat, 2176]
def k1_off20 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1762 : Index := Scalar.indexCast v9
  let c2304 : Index := 2304#32
  ![v1762.toNat, 2304]
def k1_off21 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1859 : Index := Scalar.indexCast v9
  let c2432 : Index := 2432#32
  ![v1859.toNat, 2432]
def k1_off22 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v1956 : Index := Scalar.indexCast v9
  let c2560 : Index := 2560#32
  ![v1956.toNat, 2560]
def k1_off23 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v2053 : Index := Scalar.indexCast v9
  let c2688 : Index := 2688#32
  ![v2053.toNat, 2688]
def k1_off24 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v2150 : Index := Scalar.indexCast v9
  let c2816 : Index := 2816#32
  ![v2150.toNat, 2816]
def k1_off25 (k1_t1 : Fin k1_t1_loop.trips) : Fin 2 → Nat :=
  let c0_i32_1 : BitVec 32 := 0#32
  let c1_i32 : BitVec 32 := 1#32
  let arg17 : BitVec 32 := Scf.iv c0_i32_1 c1_i32 k1_t1
  let c32_i32 : BitVec 32 := 32#32
  let v8 : BitVec 32 := Scalar.muli arg17 c32_i32
  let v9 : BitVec 32 := v8
  let v2247 : Index := Scalar.indexCast v9
  let c2944 : Index := 2944#32
  ![v2247.toNat, 2944]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x3072 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x24 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x3072 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x24 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x3072 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x3072 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x3072 .i8 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x24 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x3072 .i8 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x24 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== ReferenceIdeal.lean ====
abbrev S2x8192x12288 : Shape := ⟨3, ![2, 8192, 12288]⟩
abbrev S2x8192 : Shape := ⟨2, ![2, 8192]⟩
abbrev S2x8192x3072 : Shape := ⟨3, ![2, 8192, 3072]⟩
abbrev S12288x3072 : Shape := ⟨2, ![12288, 3072]⟩
abbrev S12288x24 : Shape := ⟨2, ![12288, 24]⟩
abbrev S_ : Shape := ⟨0, ![]⟩
abbrev S1 : Shape := ⟨1, ![1]⟩
abbrev S2 : Shape := ⟨1, ![2]⟩
abbrev S2x8192x1 : Shape := ⟨3, ![2, 8192, 1]⟩
abbrev S1x12288x3072 : Shape := ⟨3, ![1, 12288, 3072]⟩
abbrev S1x1x1 : Shape := ⟨3, ![1, 1, 1]⟩
abbrev S12288x24x128 : Shape := ⟨3, ![12288, 24, 128]⟩
abbrev S12288x24x1 : Shape := ⟨3, ![12288, 24, 1]⟩

abbrev nBuf : Space → Nat
  | .hbm => 32
  | .vmem => 15
  | .smem => 3
  | _ => 0

abbrev bufTy : (tb : Table) → Fin (tcTables nBuf tb) → BufTy
  | .hbm, ⟨0, _⟩ => ⟨S2x8192x12288, .fp8e4m3⟩
  | .hbm, ⟨1, _⟩ => ⟨S2x8192, .f32⟩
  | .hbm, ⟨2, _⟩ => ⟨S2x8192x3072, .fp8e5m2⟩
  | .hbm, ⟨3, _⟩ => ⟨S2x8192, .f32⟩
  | .hbm, ⟨4, _⟩ => ⟨S12288x3072, .bf16⟩
  | .hbm, ⟨5, _⟩ => ⟨S12288x3072, .i8⟩
  | .hbm, ⟨6, _⟩ => ⟨S12288x24, .f32⟩
  | .hbm, ⟨7, _⟩ => ⟨S12288x3072, .i8⟩
  | .hbm, ⟨8, _⟩ => ⟨S12288x24, .f32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S2, .f32⟩
  | .hbm, ⟨23, _⟩ => ⟨S1, .f32⟩
  | .hbm, ⟨24, _⟩ => ⟨S12288x3072, .bf16⟩
  | .hbm, ⟨25, _⟩ => ⟨S12288x3072, .f32⟩
  | .hbm, ⟨26, _⟩ => ⟨S1, .f32⟩
  | .hbm, ⟨27, _⟩ => ⟨S12288x3072, .i8⟩
  | .hbm, ⟨28, _⟩ => ⟨S12288x24, .f32⟩
  | .hbm, ⟨29, _⟩ => ⟨S12288x3072, .i8⟩
  | .hbm, ⟨30, _⟩ => ⟨S12288x24, .f32⟩
  | .hbm, ⟨31, _⟩ => ⟨S_, .f32⟩
  | .local _ .vmem, ⟨0, _⟩ => ⟨S2x8192x12288, .fp8e4m3⟩
  | .local _ .vmem, ⟨1, _⟩ => ⟨S2x8192, .f32⟩
  | .local _ .vmem, ⟨2, _⟩ => ⟨S2x8192x3072, .fp8e5m2⟩
  | .local _ .vmem, ⟨3, _⟩ => ⟨S2x8192, .f32⟩
  | .local _ .vmem, ⟨4, _⟩ => ⟨S12288x3072, .bf16⟩
  | .local _ .vmem, ⟨5, _⟩ => ⟨S12288x3072, .i8⟩
  | .local _ .vmem, ⟨6, _⟩ => ⟨S12288x24, .f32⟩
  | .local _ .vmem, ⟨7, _⟩ => ⟨S12288x3072, .i8⟩
  | .local _ .vmem, ⟨8, _⟩ => ⟨S12288x24, .f32⟩
  | .local _ .vmem, ⟨9, _⟩ => ⟨S12288x3072, .bf16⟩
  | .local _ .vmem, ⟨10, _⟩ => ⟨S12288x3072, .f32⟩
  | .local _ .vmem, ⟨11, _⟩ => ⟨S12288x3072, .i8⟩
  | .local _ .vmem, ⟨12, _⟩ => ⟨S12288x24, .f32⟩
  | .local _ .vmem, ⟨13, _⟩ => ⟨S12288x3072, .i8⟩
  | .local _ .vmem, ⟨14, _⟩ => ⟨S12288x24, .f32⟩
  | .local _ .smem, ⟨0, _⟩ => ⟨S2, .f32⟩
  | .local _ .smem, ⟨1, _⟩ => ⟨S1, .f32⟩
  | .local _ .smem, ⟨2, _⟩ => ⟨S1, .f32⟩
  | _, _ => ⟨S2x8192x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v10 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg14_0 : Ref sig .tc := ⟨.vmem, 11, rfl⟩
abbrev cc0_stg15_0 : Ref sig .tc := ⟨.vmem, 12, rfl⟩
abbrev cc0_stg16_0 : Ref sig .tc := ⟨.vmem, 13, rfl⟩
abbrev cc0_stg17_0 : Ref sig .tc := ⟨.vmem, 14, rfl⟩
abbrev cc0_stg9_0 : Ref sig .tc := ⟨.smem, 0, rfl⟩
abbrev cc0_stg10_0 : Ref sig .tc := ⟨.smem, 1, rfl⟩
abbrev cc0_stg13_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S2x8192x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x3072 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x3072 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x3072 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12288x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12288x3072 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12288x24 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S12288x3072 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S12288x24 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.Kernel.Wgrad.lean ====
/-
The first pallas_call (the weight gradient): its body run at every kind of grid point, the proof data of its pipeline,
and the body obligation, from any contents of the buffers when the region is entered.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Wgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The contents of core `c`'s TensorCore buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 192 := Nat.lt_of_lt_of_eq t.isLt N_0
    have e0 : (grid0.coords t 0).val = t.val / 16 % 12 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 192 := Nat.lt_of_lt_of_eq t.isLt N_0
    have e0 : (grid0.coords t 0).val = t.val / 16 % 12 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 4, through which its contents are stated (`View.read_writes_of_cover`: the
    choice does not matter). -/
abbrev VO0_4 : View sig .tc .vmem S1024x3072 .f32 := (Memref.whole cc0_stg4_0 : Memref sig .tc .vmem S1024x3072 .f32).view
/-- One staging buffer of output window 5, through which its contents are stated (`View.read_writes_of_cover`: the
    choice does not matter). -/
abbrev VO0_5 : View sig .tc .vmem S1x8x128 .f32 := (Memref.whole cc0_stg5_0 : Memref sig .tc .vmem S1x8x128 .f32).view
/-- Each window's current staging memref at point `t`, spelled as the pipeline passes it (`bodyAt0`), and its wholeness. -/
abbrev ms0_0 (t : Fin cfg0.N) : Memref sig .tc .vmem S1024x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3072 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 176: 12 of 192), WITH the
    proof that on whole staging memrefs — the inputs' at their contents, the outputs it leaves idle (5: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : cond0_0 i) (hc1 : ¬cond0_1 i)
    (x0 : Vec F S1024x1024 .fp8e4m3) (x1 : Vec F S1024x3072 .fp8e5m2) (x2 : Vec F S1x1x1024 .f32) (x3 : Vec F S1x1x1024 .f32) :
    Σ' (L4 : List (View.Piece (Elt F) S1024x3072 .f32)), { L5 : List (View.Piece (Elt F) S1x8x128 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5) -∗ K ⟨⟩))
          ⊢ wp frame (wpE (defs₀ (F := F)) Variants.none c none) E (cc0_wgrad i arg2 harg2 arg3 harg3 arg4 harg4 arg5 harg5 arg6 harg6 arg7 harg7) K } := by
  refine ⟨?_, [], fun xi5 E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact H5

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 190: 168 of 192), WITH the
    proof that on whole staging memrefs — the inputs' at their contents, the outputs it reads before covering (4) at their running contents `xo·`, the outputs it leaves idle (5: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : ¬cond0_1 i)
    (x0 : Vec F S1024x1024 .fp8e4m3) (x1 : Vec F S1024x3072 .fp8e5m2) (x2 : Vec F S1x1x1024 .f32) (x3 : Vec F S1x1x1024 .f32) (xo4 : Vec F S1024x3072 .f32) :
    Σ' (L4 : List (View.Piece (Elt F) S1024x3072 .f32)), { L5 : List (View.Piece (Elt F) S1x8x128 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xi5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5) -∗ K ⟨⟩))
          ⊢ wp frame (wpE (defs₀ (F := F)) Variants.none c none) E (cc0_wgrad i arg2 harg2 arg3 harg3 arg4 harg4 arg5 harg5 arg6 harg6 arg7 harg7) K } := by
  refine ⟨?_, [], fun xi5 E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact H5

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 191: 12 of 192), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) :
    Σ' (L4 : List (View.Piece (Elt F) S1024x3072 .f32)), { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_wgrad i arg2 harg2 arg3 harg3 arg4 harg4 arg5 harg5 arg6 harg6 arg7 harg7) K } := by
  refine ⟨?_, ?_, fun E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (2 stores of `S1024x3072`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : cond0_0 i) (hc1 : ¬cond0_1 i)
    (x0 : Vec F S1024x1024 .fp8e4m3) (x1 : Vec F S1024x3072 .fp8e5m2) (x2 : Vec F S1x1x1024 .f32) (x3 : Vec F S1x1x1024 .f32) (y : S1024x3072.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x3072.size (by sl_kernel_rfl) y

/-- What case A leaves in output 4's staging buffer: its pieces read back over junk. -/
def out0_A_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : cond0_0 i) (hc1 : ¬cond0_1 i)
    (x0 : Vec F S1024x1024 .fp8e4m3) (x1 : Vec F S1024x3072 .fp8e5m2) (x2 : Vec F S1x1x1024 .f32) (x3 : Vec F S1x1x1024 .f32) : Vec F S1024x3072 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : cond0_0 i) (hc1 : ¬cond0_1 i)
    (x0 : Vec F S1024x1024 .fp8e4m3) (x1 : Vec F S1024x3072 .fp8e5m2) (x2 : Vec F S1x1x1024 .f32) (x3 : Vec F S1x1x1024 .f32) : Vec F S1x8x128 .f32 :=
  VO0_5.read (Elt F) (VO0_5.writes (Elt F) VO0_5.junk (kernelRun0_A c i arg2 harg2 arg3 harg3 arg4 harg4 arg5 harg5 arg6 harg6 arg7 harg7 hc0 hc1 x0 x1 x2 x3).2.1)

/-- Case B's pieces for output 4 tile its block (1 store of `S1024x3072`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : ¬cond0_1 i)
    (x0 : Vec F S1024x1024 .fp8e4m3) (x1 : Vec F S1024x3072 .fp8e5m2) (x2 : Vec F S1x1x1024 .f32) (x3 : Vec F S1x1x1024 .f32) (xo4 : Vec F S1024x3072 .f32) (y : S1024x3072.Idx) :
    ∃ pc ∈ (kernelRun0_B c i arg2 harg2 arg3 harg3 arg4 harg4 arg5 harg5 arg6 harg6 arg7 harg7 hc0 hc1 x0 x1 x2 x3 xo4).1, y ∈ pc.1.set :=
  View.cover_of_tiledL (kernelRun0_B c i arg2 harg2 arg3 harg3 arg4 harg4 arg5 harg5 arg6 harg6 arg7 harg7 hc0 hc1 x0 x1 x2 x3 xo4).1 S1024x3072.size (by sl_kernel_rfl) y

/-- What case B leaves in output 4's staging buffer: its pieces read back over junk. -/
def out0_B_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : ¬cond0_1 i)
    (x0 : Vec F S1024x1024 .fp8e4m3) (x1 : Vec F S1024x3072 .fp8e5m2) (x2 : Vec F S1x1x1024 .f32) (x3 : Vec F S1x1x1024 .f32) (xo4 : Vec F S1024x3072 .f32) : Vec F S1024x3072 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xo4).1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : ¬cond0_1 i)
    (x0 : Vec F S1024x1024 .fp8e4m3) (x1 : Vec F S1024x3072 .fp8e5m2) (x2 : Vec F S1x1x1024 .f32) (x3 : Vec F S1x1x1024 .f32) (xo4 : Vec F S1024x3072 .f32) : Vec F S1x8x128 .f32 :=
  VO0_5.read (Elt F) (VO0_5.writes (Elt F) VO0_5.junk (kernelRun0_B c i arg2 harg2 arg3 harg3 arg4 harg4 arg5 harg5 arg6 harg6 arg7 harg7 hc0 hc1 x0 x1 x2 x3 xo4).2.1)

/-- Case C's pieces for output 4 tile its block (1 store of `S1024x3072`, checked by the kernel's evaluation: Lib/Ring.lean `Piece.tiledL`, linear in the pieces, through a loop's `@[irreducible]` trip theorem too), so they cover it. -/
theorem cover0_C_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) (y : S1024x3072.Idx) :
    ∃ pc ∈ (kernelRun0_C c i arg2 harg2 arg3 harg3 arg4 harg4 arg5 harg5 arg6 harg6 arg7 harg7 hc0 hc1 x0 x1 x2 x3 xo4).1, y ∈ pc.1.set :=
  View.cover_of_tiledL (kernelRun0_C c i arg2 harg2 arg3 harg3 arg4 harg4 arg5 harg5 arg6 harg6 arg7 harg7 hc0 hc1 x0 x1 x2 x3 xo4).1 S1024x3072.size (by sl_kernel_rfl) y

/-- What case C leaves in output 4's staging buffer: its pieces read back over junk. -/
def out0_C_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) : Vec F S1024x3072 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xo4).1)

/-- Case C's pieces for output 5 tile its block (1 store of `S1x8x128`, checked by the kernel's evaluation: Lib/Ring.lean `Piece.tiledL`, linear in the pieces, through a loop's `@[irreducible]` trip theorem too), so they cover it. -/
theorem cover0_C_5 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) (y : S1x8x128.Idx) :
    ∃ pc ∈ (kernelRun0_C c i arg2 harg2 arg3 harg3 arg4 harg4 arg5 harg5 arg6 harg6 arg7 harg7 hc0 hc1 x0 x1 x2 x3 xo4).2.1, y ∈ pc.1.set :=
  View.cover_of_tiledL (kernelRun0_C c i arg2 harg2 arg3 harg3 arg4 harg4 arg5 harg5 arg6 harg6 arg7 harg7 hc0 hc1 x0 x1 x2 x3 xo4).2.1 S1x8x128.size (by sl_kernel_rfl) y

/-- What case C leaves in output 5's staging buffer: its pieces read back over junk. -/
def out0_C_5 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) : Vec F S1x8x128 .f32 :=
  VO0_5.read (Elt F) (VO0_5.writes (Elt F) VO0_5.junk (kernelRun0_C c i arg2 harg2 arg3 harg3 arg4 harg4 arg5 harg5 arg6 harg6 arg7 harg7 hc0 hc1 x0 x1 x2 x3 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x3072 .f32 × Vec F S1x8x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk W c 0 ⟨0, hn⟩) (iblk W c 1 ⟨0, hn⟩) (iblk W c 2 ⟨0, hn⟩) (iblk W c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk W c 0 ⟨0, hn⟩) (iblk W c 1 ⟨0, hn⟩) (iblk W c 2 ⟨0, hn⟩) (iblk W c 3 ⟨0, hn⟩))
  | n + 1, hn =>
    if h0 : (n + 1) % 16 = 0 then
      if h1 : (n + 1) % 16 = 15 then
        False.elim (by have hN : n + 1 < 192 := lt_of_lt_of_eq hn (show cfg0.N = 192 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk W c 0 ⟨n + 1, hn⟩) (iblk W c 1 ⟨n + 1, hn⟩) (iblk W c 2 ⟨n + 1, hn⟩) (iblk W c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk W c 0 ⟨n + 1, hn⟩) (iblk W c 1 ⟨n + 1, hn⟩) (iblk W c 2 ⟨n + 1, hn⟩) (iblk W c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1)

/-- `outsAt0` at a point of case A: that case's contents. -/
theorem outsAt0_A (c : Dev nD) (t : Fin cfg0.N) (h0 : t.val % 16 = 0) (h1 : ¬t.val % 16 = 15) :
    outsAt0 W c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk W c 0 t) (iblk W c 1 t) (iblk W c 2 t) (iblk W c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk W c 0 t) (iblk W c 1 t) (iblk W c 2 t) (iblk W c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 W c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk W c 0 t) (iblk W c 1 t) (iblk W c 2 t) (iblk W c 3 t) (outsAt0 W c (t.val - 1) (Nat.lt_of_le_of_lt (Nat.sub_le _ _) t.isLt)).1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk W c 0 t) (iblk W c 1 t) (iblk W c 2 t) (iblk W c 3 t) (outsAt0 W c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 W c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk W c 0 t) (iblk W c 1 t) (iblk W c 2 t) (iblk W c 3 t) (outsAt0 W c (t.val - 1) (Nat.lt_of_le_of_lt (Nat.sub_le _ _) t.isLt)).1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk W c 0 t) (iblk W c 1 t) (iblk W c 2 t) (iblk W c 3 t) (outsAt0 W c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt0 W c t.val t.isLt).1
    | ⟨5, _⟩ => (outsAt0 W c t.val t.isLt).2
  Φ _ := Pipeline.scopedRest spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat W c).A w = V W c (Pipeline.arrRef spec0 w) := by
  dsimp only [dat]

/-- What the body leaves, window by window (the proof data's `match` reduced by `dsimp`). -/
theorem after0_0 (c : Dev nD) (t : Fin cfg0.N) : (dat W c).after 0 t = iblk W c 0 t := by dsimp only [dat]
theorem after0_1 (c : Dev nD) (t : Fin cfg0.N) : (dat W c).after 1 t = iblk W c 1 t := by dsimp only [dat]
theorem after0_2 (c : Dev nD) (t : Fin cfg0.N) : (dat W c).after 2 t = iblk W c 2 t := by dsimp only [dat]
theorem after0_3 (c : Dev nD) (t : Fin cfg0.N) : (dat W c).after 3 t = iblk W c 3 t := by dsimp only [dat]
theorem after0_4 (c : Dev nD) (t : Fin cfg0.N) : (dat W c).after 4 t = (outsAt0 W c t.val t.isLt).1 := by dsimp only [dat]
theorem after0_5 (c : Dev nD) (t : Fin cfg0.N) : (dat W c).after 5 t = (outsAt0 W c t.val t.isLt).2 := by dsimp only [dat]

/-- Each input's current staging buffer holds its block at every point, fetched there or not (`beforeK_W_of`). -/
theorem before0_0 (c : Dev nD) (t : Fin cfg0.N) (d) : (dat W c).before 0 t d = iblk W c 0 t :=
  before0_0_of W (dat W c) (A_eq W c 0) (after0_0 W c) t d
theorem before0_1 (c : Dev nD) (t : Fin cfg0.N) (d) : (dat W c).before 1 t d = iblk W c 1 t :=
  before0_1_of W (dat W c) (A_eq W c 1) (after0_1 W c) t d
theorem before0_2 (c : Dev nD) (t : Fin cfg0.N) (d) : (dat W c).before 2 t d = iblk W c 2 t :=
  before0_2_of W (dat W c) (A_eq W c 2) (after0_2 W c) t d
theorem before0_3 (c : Dev nD) (t : Fin cfg0.N) (d) : (dat W c).before 3 t d = iblk W c 3 t :=
  before0_3_of W (dat W c) (A_eq W c 3) (after0_3 W c) t d
/-- At a point of case B output 4's current staging buffer holds what the body left at the point before: the point is
    not the first, the buffer was not written back between (`flush0_4`), the window is live and uncut (Lib/Pipeline/Frame.lean
    `Dat.before_out_kept`). -/
theorem before0_4_B (c : Dev nD) (t : Fin cfg0.N) (h0 : ¬t.val % 16 = 0) (h1 : ¬t.val % 16 = 15) (d) :
    (dat W c).before 4 t d = (outsAt0 W c (t.val - 1) (Nat.lt_of_le_of_lt (Nat.sub_le _ _) t.isLt)).1 := by
  have hN : t.val < 192 := lt_of_lt_of_eq t.isLt (show cfg0.N = 192 from N_0)
  rw [Dat.before_out_kept _ 4 rfl t (by omega) (Bool.eq_false_iff.mpr fun h => by have := (flush0_4 _).mp h; dsimp only at this; omega)
    (fun _ => rfl) (fun _ _ => rfl)]
  dsimp only [dat]
/-- At a point of case C output 4's current staging buffer holds what the body left at the point before: the point is
    not the first, the buffer was not written back between (`flush0_4`), the window is live and uncut (Lib/Pipeline/Frame.lean
    `Dat.before_out_kept`). -/
theorem before0_4_C (c : Dev nD) (t : Fin cfg0.N) (h0 : ¬t.val % 16 = 0) (h1 : t.val % 16 = 15) (d) :
    (dat W c).before 4 t d = (outsAt0 W c (t.val - 1) (Nat.lt_of_le_of_lt (Nat.sub_le _ _) t.isLt)).1 := by
  have hN : t.val < 192 := lt_of_lt_of_eq t.isLt (show cfg0.N = 192 from N_0)
  rw [Dat.before_out_kept _ 4 rfl t (by omega) (Bool.eq_false_iff.mpr fun h => by have := (flush0_4 _).mp h; dsimp only at this; omega)
    (fun _ => rfl) (fun _ _ => rfl)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat W c).Φ t.castSucc ∗ (dat W c).owesAt () t.castSucc
    ∗ (∃ d, owns (c : Thread nD τ) (ms0_0 t) fullShare ((dat W c).before 0 t d))
    ∗ (∃ d, owns (c : Thread nD τ) (ms0_1 t) fullShare ((dat W c).before 1 t d))
    ∗ (∃ d, owns (c : Thread nD τ) (ms0_2 t) fullShare ((dat W c).before 2 t d))
    ∗ (∃ d, owns (c : Thread nD τ) (ms0_3 t) fullShare ((dat W c).before 3 t d))
    ∗ (∃ d, owns (c : Thread nD τ) (ms0_4 t) fullShare ((dat W c).before 4 t d))
    ∗ (∃ d, owns (c : Thread nD τ) (ms0_5 t) fullShare ((dat W c).before 5 t d)))

/-- and what it returns. -/
def bodyPost (c : Dev nD) (t : Fin cfg0.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t)

set_option maxHeartbeats 1200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2, before0_3]
  rw [show (dat W c).Φ t.succ = (dat W c).Φ t.castSucc from rfl,
    show (dat W c).owesAt () t.succ = (dat W c).owesAt () t.castSucc from rfl]
  have hN : t.val < 192 := lt_of_lt_of_eq t.isLt (show cfg0.N = 192 from N_0)
  by_cases h0 : t.val % 16 = 0
  · by_cases h1 : t.val % 16 = 15
    · exfalso; omega
    · rw [show (dat W c).leavesExact 0 t = owns (c : Thread nD τ) (ms0_0 t) fullShare ((dat W c).after 0 t) from by
      unfold Dat.leavesExact; rw [liveAt0_0 t], after0_0]
      rw [show (dat W c).leavesExact 1 t = owns (c : Thread nD τ) (ms0_1 t) fullShare ((dat W c).after 1 t) from by
      unfold Dat.leavesExact; rw [liveAt0_1 t], after0_1]
      rw [show (dat W c).leavesExact 2 t = owns (c : Thread nD τ) (ms0_2 t) fullShare ((dat W c).after 2 t) from by
      unfold Dat.leavesExact; rw [liveAt0_2 t], after0_2]
      rw [show (dat W c).leavesExact 3 t = owns (c : Thread nD τ) (ms0_3 t) fullShare ((dat W c).after 3 t) from by
      unfold Dat.leavesExact; rw [liveAt0_3 t], after0_3]
      rw [show (dat W c).leavesExact 4 t = owns (c : Thread nD τ) (ms0_4 t) fullShare ((dat W c).after 4 t) from by
      unfold Dat.leavesExact; rw [liveAt0_4 t], after0_4]
      rw [Dat.leavesExact_idle (dat W c) 5 t (idleAt0_5_A t ((hcond0_0 t).mpr h0) (fun h => h1 ((hcond0_1 t).mp h))) (noFlush0_5_A t ((hcond0_0 t).mpr h0) (fun h => h1 ((hcond0_1 t).mp h)))]
      rw [outsAt0_A W c t h0 h1]
      unfold out0_A_4; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk W c 0 t) (iblk W c 1 t) (iblk W c 2 t) (iblk W c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, ⟨%e4, H4⟩, H5⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _)
      iexists _; iexact H5
  · by_cases h1 : t.val % 16 = 15
    · rw [show (dat W c).leavesExact 0 t = owns (c : Thread nD τ) (ms0_0 t) fullShare ((dat W c).after 0 t) from by
      unfold Dat.leavesExact; rw [liveAt0_0 t], after0_0]
      rw [show (dat W c).leavesExact 1 t = owns (c : Thread nD τ) (ms0_1 t) fullShare ((dat W c).after 1 t) from by
      unfold Dat.leavesExact; rw [liveAt0_1 t], after0_1]
      rw [show (dat W c).leavesExact 2 t = owns (c : Thread nD τ) (ms0_2 t) fullShare ((dat W c).after 2 t) from by
      unfold Dat.leavesExact; rw [liveAt0_2 t], after0_2]
      rw [show (dat W c).leavesExact 3 t = owns (c : Thread nD τ) (ms0_3 t) fullShare ((dat W c).after 3 t) from by
      unfold Dat.leavesExact; rw [liveAt0_3 t], after0_3]
      rw [show (dat W c).leavesExact 4 t = owns (c : Thread nD τ) (ms0_4 t) fullShare ((dat W c).after 4 t) from by
      unfold Dat.leavesExact; rw [liveAt0_4 t], after0_4]
      rw [show (dat W c).leavesExact 5 t = owns (c : Thread nD τ) (ms0_5 t) fullShare ((dat W c).after 5 t) from by
      unfold Dat.leavesExact; rw [liveAt0_5_C t (fun h => h0 ((hcond0_0 t).mp h)) ((hcond0_1 t).mpr h1)], after0_5]
      rw [outsAt0_C W c t h0 h1]
      simp only [before0_4_C W c t h0 h1]
      unfold out0_C_4 out0_C_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ (fun h => h0 ((hcond0_0 t).mp h)) ((hcond0_1 t).mpr h1) (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _)
    · rw [show (dat W c).leavesExact 0 t = owns (c : Thread nD τ) (ms0_0 t) fullShare ((dat W c).after 0 t) from by
      unfold Dat.leavesExact; rw [liveAt0_0 t], after0_0]
      rw [show (dat W c).leavesExact 1 t = owns (c : Thread nD τ) (ms0_1 t) fullShare ((dat W c).after 1 t) from by
      unfold Dat.leavesExact; rw [liveAt0_1 t], after0_1]
      rw [show (dat W c).leavesExact 2 t = owns (c : Thread nD τ) (ms0_2 t) fullShare ((dat W c).after 2 t) from by
      unfold Dat.leavesExact; rw [liveAt0_2 t], after0_2]
      rw [show (dat W c).leavesExact 3 t = owns (c : Thread nD τ) (ms0_3 t) fullShare ((dat W c).after 3 t) from by
      unfold Dat.leavesExact; rw [liveAt0_3 t], after0_3]
      rw [show (dat W c).leavesExact 4 t = owns (c : Thread nD τ) (ms0_4 t) fullShare ((dat W c).after 4 t) from by
      unfold Dat.leavesExact; rw [liveAt0_4 t], after0_4]
      rw [Dat.leavesExact_idle (dat W c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B W c t h0 h1]
      simp only [before0_4_B W c t h0 h1]
      unfold out0_B_4; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) (fun h => h1 ((hcond0_1 t).mp h)) (iblk W c 0 t) (iblk W c 1 t) (iblk W c 2 t) (iblk W c 3 t) _).2.2 _ Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, ⟨%e4, H4⟩, H5⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _)
      iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat W c) (defs₀ (F := F)) Variants.none () Set.univ := fun t => by
  rw [bigSep_W0, bigSep_W0, defs₀_row]
  exact triple_restated (sound_body W c t) rfl .rfl fun _ => .rfl

end Cert.Kernel.Wgrad

end
-- ==== Proof.Kernel.AdamRun.lean ====
/-
The body of the second kernel (the Adam step), run once at a generic grid point, in its two cases.
-/
module

public import proofs.«01_k».proof.Proof.Gen.Kernel.Loops
public import proofs.«01_k».proof.Proof.Gen.Kernel.Regions
public import proofs.«01_k».proof.Proof.Gen.Kernel.Points
public import Idealize.ShloMosaic.Lib.Tactic

@[expose] public section

set_option maxRecDepth 16384

noncomputable section

namespace Cert.Kernel.Adam

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's only conditional, from the grid coordinate. -/
abbrev cond1_0 (i : grid1.Coords) : Prop := (Scalar.cmpi .ne (Scalar.extui (Scalar.cmpi .eq (BitVec.ofNat 32 (i 0).val) 0#32)) 0#32) = 1#1

set_option maxHeartbeats 1000000 in
/-- The body at the first grid point, where its conditional is taken: on whole staging buffers holding `x0 … x7` it runs,
    and leaves in each output and in the scratch word a list of stored pieces (the witness the run finds). -/
noncomputable def run1A (c : Dev nD) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (hc0 : cond1_0 i)
    (x0 : Vec F S3 .f32) (x1 : Vec F S12x8x128 .f32) (x2 : Vec F S128x3072 .f32) (x3 : Vec F S128x3072 .bf16) (x4 : Vec F S128x3072 .i8) (x5 : Vec F S128x24 .f32) (x6 : Vec F S128x3072 .i8) (x7 : Vec F S128x24 .f32) :
    Σ' (L8 : List (View.Piece (Elt F) S128x3072 .bf16)), Σ' (L9 : List (View.Piece (Elt F) S128x3072 .f32)), Σ' (L10 : List (View.Piece (Elt F) S8x128 .f32)), Σ' (L11 : List (View.Piece (Elt F) S128x3072 .i8)), Σ' (L12 : List (View.Piece (Elt F) S128x24 .f32)), Σ' (L13 : List (View.Piece (Elt F) S128x3072 .i8)), Σ' (L14 : List (View.Piece (Elt F) S128x24 .f32)), { LS : List (View.Piece (Elt F) S1 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ (∃ f, arg11.view.loc (c : Thread nD τ) ↦[arg11.view.set]{fullShare} arg11.view.writes (Elt F) f L10)
            ∗ (∃ f, arg12.view.loc (c : Thread nD τ) ↦[arg12.view.set]{fullShare} arg12.view.writes (Elt F) f L11)
            ∗ (∃ f, arg13.view.loc (c : Thread nD τ) ↦[arg13.view.set]{fullShare} arg13.view.writes (Elt F) f L12)
            ∗ (∃ f, arg14.view.loc (c : Thread nD τ) ↦[arg14.view.set]{fullShare} arg14.view.writes (Elt F) f L13)
            ∗ (∃ f, arg15.view.loc (c : Thread nD τ) ↦[arg15.view.set]{fullShare} arg15.view.writes (Elt F) f L14)
            ∗ (∃ f, arg16.view.loc (c : Thread nD τ) ↦[arg16.view.set]{fullShare} arg16.view.writes (Elt F) f LS)) -∗ K ⟨⟩))
          ⊢ wp frame (wpE (defs₀ (F := F)) Variants.none c none) E (cc1_adam8bit i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc1_adam8bit_eq_skeleton]; unfold cc1_adam8bit_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds, %fs, -, HS⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HS

set_option maxHeartbeats 1000000 in
/-- The body at a later grid point, where its conditional is not taken and the scratch word holds `xs`: it runs, leaves
    in each output but the norm a list of stored pieces, and hands the norm's buffer and the scratch word back as they were. -/
noncomputable def run1B (c : Dev nD) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (hc0 : ¬cond1_0 i)
    (x0 : Vec F S3 .f32) (x1 : Vec F S12x8x128 .f32) (x2 : Vec F S128x3072 .f32) (x3 : Vec F S128x3072 .bf16) (x4 : Vec F S128x3072 .i8) (x5 : Vec F S128x24 .f32) (x6 : Vec F S128x3072 .i8) (x7 : Vec F S128x24 .f32) (xs : Vec F S1 .f32) :
    Σ' (L8 : List (View.Piece (Elt F) S128x3072 .bf16)), Σ' (L9 : List (View.Piece (Elt F) S128x3072 .f32)), Σ' (L11 : List (View.Piece (Elt F) S128x3072 .i8)), Σ' (L12 : List (View.Piece (Elt F) S128x24 .f32)), Σ' (L13 : List (View.Piece (Elt F) S128x3072 .i8)), { L14 : List (View.Piece (Elt F) S128x24 .f32) //
      ∀ (xi10 : Vec F S8x128 .f32) (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ (∃ d, owns (c : Thread nD τ) arg9 fullShare d)
          ∗ (∃ d, owns (c : Thread nD τ) arg10 fullShare d)
          ∗ owns (c : Thread nD τ) arg11 fullShare xi10
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ owns (c : Thread nD τ) arg16 fullShare xs
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ owns (c : Thread nD τ) arg11 fullShare xi10
            ∗ (∃ f, arg12.view.loc (c : Thread nD τ) ↦[arg12.view.set]{fullShare} arg12.view.writes (Elt F) f L11)
            ∗ (∃ f, arg13.view.loc (c : Thread nD τ) ↦[arg13.view.set]{fullShare} arg13.view.writes (Elt F) f L12)
            ∗ (∃ f, arg14.view.loc (c : Thread nD τ) ↦[arg14.view.set]{fullShare} arg14.view.writes (Elt F) f L13)
            ∗ (∃ f, arg15.view.loc (c : Thread nD τ) ↦[arg15.view.set]{fullShare} arg15.view.writes (Elt F) f L14)
            ∗ owns (c : Thread nD τ) arg16 fullShare xs) -∗ K ⟨⟩))
          ⊢ wp frame (wpE (defs₀ (F := F)) Variants.none c none) E (cc1_adam8bit i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun xi10 E K => ?run⟩
  case run =>
    simp only [cc1_adam8bit_eq_skeleton]; unfold cc1_adam8bit_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%d12, %f12, -, H12⟩, ⟨%d13, %f13, -, H13⟩, ⟨%d14, %f14, -, H14⟩, ⟨%fs, %hfs, HS⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg11.eq_unread hf10
    obtain rfl := harg16.eq_unread hfs
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    iexists _; isplitr; · ipureintro; exact harg16.read_unread _
    iexact HS

end Cert.Kernel.Adam

end
-- ==== Proof.Kernel.AdamCover.lean ====
/-
The pieces the body of the second pallas_call stores cover each of its outputs' blocks.
-/
module

public import proofs.«01_k».proof.Proof.Kernel.AdamRun
public import Idealize.ShloMosaic.Lib.Ring

@[expose] public section

set_option maxRecDepth 16384

noncomputable section

namespace Cert.Kernel.Adam

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (x0 : Vec F S3 .f32) (x1 : Vec F S12x8x128 .f32) (x2 : Vec F S128x3072 .f32) (x3 : Vec F S128x3072 .bf16) (x4 : Vec F S128x3072 .i8) (x5 : Vec F S128x24 .f32) (x6 : Vec F S128x3072 .i8) (x7 : Vec F S128x24 .f32)

/-- At the first grid point the pieces stored in output 8 cover its block. -/
theorem cover1_A_8 (hc0 : cond1_0 i) (y : S128x3072.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1 S32x128.size (by sl_kernel_rfl) y

/-- At the first grid point the pieces stored in output 9 cover its block. -/
theorem cover1_A_9 (hc0 : cond1_0 i) (y : S128x3072.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1 S32x128.size (by sl_kernel_rfl) y

/-- At the first grid point the pieces stored in output 10 cover its block. -/
theorem cover1_A_10 (hc0 : cond1_0 i) (y : S8x128.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1 S8x128.size (by sl_kernel_rfl) y

/-- At the first grid point the pieces stored in output 11 cover its block. -/
theorem cover1_A_11 (hc0 : cond1_0 i) (y : S128x3072.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1 S32x128.size (by sl_kernel_rfl) y

/-- At the first grid point the pieces stored in output 12 cover its block. -/
theorem cover1_A_12 (hc0 : cond1_0 i) (y : S128x24.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1 S32x24.size (by sl_kernel_rfl) y

/-- At the first grid point the pieces stored in output 13 cover its block. -/
theorem cover1_A_13 (hc0 : cond1_0 i) (y : S128x3072.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1 S32x128.size (by sl_kernel_rfl) y

/-- At the first grid point the pieces stored in output 14 cover its block. -/
theorem cover1_A_14 (hc0 : cond1_0 i) (y : S128x24.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1 S32x24.size (by sl_kernel_rfl) y

/-- At the first grid point the pieces stored in the scratch word cover its block. -/
theorem cover1_A_S (hc0 : cond1_0 i) (y : S1.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.2.1 S1.size (by sl_kernel_rfl) y

/-- At a later grid point the pieces stored in output 8 cover its block. -/
theorem cover1_B_8 (hc0 : ¬cond1_0 i) (xs : Vec F S1 .f32) (y : S128x3072.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).1 S32x128.size (by sl_kernel_rfl) y

/-- At a later grid point the pieces stored in output 9 cover its block. -/
theorem cover1_B_9 (hc0 : ¬cond1_0 i) (xs : Vec F S1 .f32) (y : S128x3072.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.1 S32x128.size (by sl_kernel_rfl) y

/-- At a later grid point the pieces stored in output 11 cover its block. -/
theorem cover1_B_11 (hc0 : ¬cond1_0 i) (xs : Vec F S1 .f32) (y : S128x3072.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.1 S32x128.size (by sl_kernel_rfl) y

/-- At a later grid point the pieces stored in output 12 cover its block. -/
theorem cover1_B_12 (hc0 : ¬cond1_0 i) (xs : Vec F S1 .f32) (y : S128x24.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.1 S32x24.size (by sl_kernel_rfl) y

/-- At a later grid point the pieces stored in output 13 cover its block. -/
theorem cover1_B_13 (hc0 : ¬cond1_0 i) (xs : Vec F S1 .f32) (y : S128x3072.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.2.1 S32x128.size (by sl_kernel_rfl) y

/-- At a later grid point the pieces stored in output 14 cover its block. -/
theorem cover1_B_14 (hc0 : ¬cond1_0 i) (xs : Vec F S1 .f32) (y : S128x24.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.2.2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.2.2.1 S32x24.size (by sl_kernel_rfl) y

end

end Cert.Kernel.Adam

end
-- ==== Proof.Kernel.AdamDat.lean ====
/-
The second pallas_call (the Adam step): the proof data of its pipeline and the body obligation, from any contents of the
buffers when the region is entered. The scratch word is carried from the first grid point on, and so is the norm's buffer,
which only the first point stores.
-/
module

public import proofs.«01_k».proof.Proof.Kernel.AdamCover
public import proofs.«01_k».proof.Proof.Gen.Kernel.Launch
public import proofs.«01_k».proof.Proof.Gen.Kernel.Regions
public import Idealize.ShloMosaic.Lib.Pipeline.FrameBody
public import Idealize.ShloMosaic.Lib.Pipeline.TableIdle
public import Idealize.ShloMosaic.Lib.Ring
public import Idealize.ShloMosaic.Lib.WordCmp

@[expose] public section

set_option maxRecDepth 16384

noncomputable section

namespace Cert.Kernel.Adam

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The contents of core `c`'s TensorCore buffers when the region is entered. -/
abbrev V (c : Dev nD) (b : Ref sig .tc) : Buf (Elt F) ((c : Thread nD τ).loc b) := W c (Proc.devRef .tc b)

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before1_2_of {c : Dev nD} (dat : Dat τ (Elt F) Unit ℕ (UR sig nD τ) ℕ cfg1 c) (hA : dat.A 2 = V W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before1_3_of {c : Dev nD} (dat : Dat τ (Elt F) Unit ℕ (UR sig nD τ) ℕ cfg1 c) (hA : dat.A 3 = V W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before1_4_of {c : Dev nD} (dat : Dat τ (Elt F) Unit ℕ (UR sig nD τ) ℕ cfg1 c) (hA : dat.A 4 = V W c (Pipeline.arrRef spec1 4))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before1_5_of {c : Dev nD} (dat : Dat τ (Elt F) Unit ℕ (UR sig nD τ) ℕ cfg1 c) (hA : dat.A 5 = V W c (Pipeline.arrRef spec1 5))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before1_6_of {c : Dev nD} (dat : Dat τ (Elt F) Unit ℕ (UR sig nD τ) ℕ cfg1 c) (hA : dat.A 6 = V W c (Pipeline.arrRef spec1 6))
    (hafter : ∀ t, dat.after 6 t = iblk W c 6 t) (t : Fin cfg1.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before1_7_of {c : Dev nD} (dat : Dat τ (Elt F) Unit ℕ (UR sig nD τ) ℕ cfg1 c) (hA : dat.A 7 = V W c (Pipeline.arrRef spec1 7))
    (hafter : ∀ t, dat.after 7 t = iblk W c 7 t) (t : Fin cfg1.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The body's conditional is taken at the first point only. -/
theorem hcond1_0 : ∀ t : Fin cfg1.N, cond1_0 (grid1.coords t) ↔ t.val = 0 :=
  (fun t => by
    have ht : t.val < 96 := Nat.lt_of_lt_of_eq t.isLt N_1
    have e0 : (grid1.coords t 0).val = t.val / 1 % 96 := Pipeline.Grid.coords_val t 0 (by decide) rfl
    simp only [cond1_0, e0]
    word_cmp
   : ∀ t : Fin grid1.N, cond1_0 (grid1.coords t) ↔ t.val = 0)

/-- The norm's window is idle at every point but the first. -/
theorem idleAt1_10 : ∀ t : Fin cfg1.N, t.val ≠ 0 → cfg1.idle 10 (grid1.coords t) = true := by decide +kernel
/-- The norm's window is stored at the first point. -/
theorem liveAt1_10 : ∀ t : Fin cfg1.N, t.val = 0 → cfg1.idle 10 (grid1.coords t) = false := by decide +kernel
/-- Window 0 is never idle. -/
theorem liveAt1_0 : ∀ t : Fin cfg1.N, cfg1.idle 0 (grid1.coords t) = false := fun _ => rfl
/-- Window 1 is never idle. -/
theorem liveAt1_1 : ∀ t : Fin cfg1.N, cfg1.idle 1 (grid1.coords t) = false := fun _ => rfl
/-- Window 2 is never idle. -/
theorem liveAt1_2 : ∀ t : Fin cfg1.N, cfg1.idle 2 (grid1.coords t) = false := fun _ => rfl
/-- Window 3 is never idle. -/
theorem liveAt1_3 : ∀ t : Fin cfg1.N, cfg1.idle 3 (grid1.coords t) = false := fun _ => rfl
/-- Window 4 is never idle. -/
theorem liveAt1_4 : ∀ t : Fin cfg1.N, cfg1.idle 4 (grid1.coords t) = false := fun _ => rfl
/-- Window 5 is never idle. -/
theorem liveAt1_5 : ∀ t : Fin cfg1.N, cfg1.idle 5 (grid1.coords t) = false := fun _ => rfl
/-- Window 6 is never idle. -/
theorem liveAt1_6 : ∀ t : Fin cfg1.N, cfg1.idle 6 (grid1.coords t) = false := fun _ => rfl
/-- Window 7 is never idle. -/
theorem liveAt1_7 : ∀ t : Fin cfg1.N, cfg1.idle 7 (grid1.coords t) = false := fun _ => rfl
/-- Window 8 is never idle. -/
theorem liveAt1_8 : ∀ t : Fin cfg1.N, cfg1.idle 8 (grid1.coords t) = false := fun _ => rfl
/-- Window 9 is never idle. -/
theorem liveAt1_9 : ∀ t : Fin cfg1.N, cfg1.idle 9 (grid1.coords t) = false := fun _ => rfl
/-- Window 11 is never idle. -/
theorem liveAt1_11 : ∀ t : Fin cfg1.N, cfg1.idle 11 (grid1.coords t) = false := fun _ => rfl
/-- Window 12 is never idle. -/
theorem liveAt1_12 : ∀ t : Fin cfg1.N, cfg1.idle 12 (grid1.coords t) = false := fun _ => rfl
/-- Window 13 is never idle. -/
theorem liveAt1_13 : ∀ t : Fin cfg1.N, cfg1.idle 13 (grid1.coords t) = false := fun _ => rfl
/-- Window 14 is never idle. -/
theorem liveAt1_14 : ∀ t : Fin cfg1.N, cfg1.idle 14 (grid1.coords t) = false := fun _ => rfl
/-- The norm's buffer holds nothing stored exactly before the first point (and after the last). -/
theorem fresh1_10 (n : ℕ) (h : n ≤ cfg1.N) : cfg1.fresh 10 n = decide (n = 0 ∨ n = 96) :=
  cfg1.fresh_tab 10 (fun n => decide (n = 0 ∨ n = 96)) rfl (by decide +kernel) n h

/-- One buffer of output window 8, through which its contents are stated. -/
abbrev VO1_8 : View sig .tc .vmem S128x3072 .bf16 := (Memref.whole cc1_stg8_0 : Memref sig .tc .vmem S128x3072 .bf16).view
/-- One buffer of output window 9, through which its contents are stated. -/
abbrev VO1_9 : View sig .tc .vmem S128x3072 .f32 := (Memref.whole cc1_stg9_0 : Memref sig .tc .vmem S128x3072 .f32).view
/-- One buffer of output window 10, through which its contents are stated. -/
abbrev VO1_10 : View sig .tc .vmem S8x128 .f32 := (Memref.whole cc1_stg10_0 : Memref sig .tc .vmem S8x128 .f32).view
/-- One buffer of output window 11, through which its contents are stated. -/
abbrev VO1_11 : View sig .tc .vmem S128x3072 .i8 := (Memref.whole cc1_stg11_0 : Memref sig .tc .vmem S128x3072 .i8).view
/-- One buffer of output window 12, through which its contents are stated. -/
abbrev VO1_12 : View sig .tc .vmem S128x24 .f32 := (Memref.whole cc1_stg12_0 : Memref sig .tc .vmem S128x24 .f32).view
/-- One buffer of output window 13, through which its contents are stated. -/
abbrev VO1_13 : View sig .tc .vmem S128x3072 .i8 := (Memref.whole cc1_stg13_0 : Memref sig .tc .vmem S128x3072 .i8).view
/-- One buffer of output window 14, through which its contents are stated. -/
abbrev VO1_14 : View sig .tc .vmem S128x24 .f32 := (Memref.whole cc1_stg14_0 : Memref sig .tc .vmem S128x24 .f32).view
/-- One buffer of the scratch word, through which its contents are stated. -/
abbrev VO1_S : View sig .tc .smem S1 .f32 := (Memref.whole cc1_scratch0 : Memref sig .tc .smem S1 .f32).view
/-- Each window's current staging memref at point `t`, and its wholeness. -/
abbrev ms1_0 (t : Fin cfg1.N) : Memref sig .tc .smem S3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S12x8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x3072 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x3072 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x3072 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x24 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x3072 .i8 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x24 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x3072 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x3072 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x3072 .i8 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x24 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S128x3072 .i8 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x24 .f32 := win1_14.stage (cfg1.slots t 14)
abbrev hs1_14 (t : Fin cfg1.N) : (ms1_14 t).IsWhole := hstage1_14 ((cfg1.slots t 14).cast nbuf1_14)
/-- The scratch word, whole. -/
abbrev scM : Memref sig .tc .smem S1 .f32 := Memref.whole cc1_scratch0
/-- The scratch word's memref is whole. -/
abbrev hscM : scM.IsWhole := Memref.isWhole_whole _

/-- The body's run at the first point, on the point's buffers and blocks. -/
abbrev runA (c : Dev nD) (t : Fin cfg1.N) (h : t.val = 0) :=
  run1A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM ((hcond1_0 t).mpr h) (iblk W c 0 t) (iblk W c 1 t) (iblk W c 2 t) (iblk W c 3 t) (iblk W c 4 t) (iblk W c 5 t) (iblk W c 6 t) (iblk W c 7 t)
/-- The body's run at a later point, on the point's buffers and blocks, the scratch word at `xs`. -/
abbrev runB (c : Dev nD) (t : Fin cfg1.N) (h : ¬t.val = 0) (xs : Vec F S1 .f32) :=
  run1B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (fun h' => h ((hcond1_0 t).mp h')) (iblk W c 0 t) (iblk W c 1 t) (iblk W c 2 t) (iblk W c 3 t) (iblk W c 4 t) (iblk W c 5 t) (iblk W c 6 t) (iblk W c 7 t) xs

/-- The first grid point. -/
def t0 : Fin cfg1.N := ⟨0, lt_of_lt_of_eq (by decide : 0 < 96) (show 96 = cfg1.N from N_1.symm)⟩

/-- The scratch word after the first point. -/
def scv (c : Dev nD) : Vec F S1 .f32 := VO1_S.read (Elt F) (VO1_S.writes (Elt F) VO1_S.junk (runA W c t0 rfl).2.2.2.2.2.2.2.1)
/-- The norm's block after the first point. -/
def nrm (c : Dev nD) : Vec F S8x128 .f32 := VO1_10.read (Elt F) (VO1_10.writes (Elt F) VO1_10.junk (runA W c t0 rfl).2.2.1)
/-- Output 8's block after the body at point `t`. -/
def out8 (c : Dev nD) (t : Fin cfg1.N) : Vec F S128x3072 .bf16 :=
  if h : t.val = 0 then VO1_8.read (Elt F) (VO1_8.writes (Elt F) VO1_8.junk (runA W c t h).1)
  else VO1_8.read (Elt F) (VO1_8.writes (Elt F) VO1_8.junk (runB W c t h (scv W c)).1)
/-- Output 9's block after the body at point `t`. -/
def out9 (c : Dev nD) (t : Fin cfg1.N) : Vec F S128x3072 .f32 :=
  if h : t.val = 0 then VO1_9.read (Elt F) (VO1_9.writes (Elt F) VO1_9.junk (runA W c t h).2.1)
  else VO1_9.read (Elt F) (VO1_9.writes (Elt F) VO1_9.junk (runB W c t h (scv W c)).2.1)
/-- Output 11's block after the body at point `t`. -/
def out11 (c : Dev nD) (t : Fin cfg1.N) : Vec F S128x3072 .i8 :=
  if h : t.val = 0 then VO1_11.read (Elt F) (VO1_11.writes (Elt F) VO1_11.junk (runA W c t h).2.2.2.1)
  else VO1_11.read (Elt F) (VO1_11.writes (Elt F) VO1_11.junk (runB W c t h (scv W c)).2.2.1)
/-- Output 12's block after the body at point `t`. -/
def out12 (c : Dev nD) (t : Fin cfg1.N) : Vec F S128x24 .f32 :=
  if h : t.val = 0 then VO1_12.read (Elt F) (VO1_12.writes (Elt F) VO1_12.junk (runA W c t h).2.2.2.2.1)
  else VO1_12.read (Elt F) (VO1_12.writes (Elt F) VO1_12.junk (runB W c t h (scv W c)).2.2.2.1)
/-- Output 13's block after the body at point `t`. -/
def out13 (c : Dev nD) (t : Fin cfg1.N) : Vec F S128x3072 .i8 :=
  if h : t.val = 0 then VO1_13.read (Elt F) (VO1_13.writes (Elt F) VO1_13.junk (runA W c t h).2.2.2.2.2.1)
  else VO1_13.read (Elt F) (VO1_13.writes (Elt F) VO1_13.junk (runB W c t h (scv W c)).2.2.2.2.1)
/-- Output 14's block after the body at point `t`. -/
def out14 (c : Dev nD) (t : Fin cfg1.N) : Vec F S128x24 .f32 :=
  if h : t.val = 0 then VO1_14.read (Elt F) (VO1_14.writes (Elt F) VO1_14.junk (runA W c t h).2.2.2.2.2.2.1)
  else VO1_14.read (Elt F) (VO1_14.writes (Elt F) VO1_14.junk (runB W c t h (scv W c)).2.2.2.2.2.1)

/-- The other region's staging buffers, each whole at some contents: what rides along untouched. -/
def restR (c : Dev nD) : sProp 𝕄 :=
  iprop((∃ f : Buf (Elt F) ((c : Thread nD τ).loc cc0_stg0_0), ((c : Thread nD τ).loc cc0_stg0_0) ↦{fullShare} f) ∗
    (∃ f : Buf (Elt F) ((c : Thread nD τ).loc cc0_stg0_1), ((c : Thread nD τ).loc cc0_stg0_1) ↦{fullShare} f) ∗
    (∃ f : Buf (Elt F) ((c : Thread nD τ).loc cc0_stg1_0), ((c : Thread nD τ).loc cc0_stg1_0) ↦{fullShare} f) ∗
    (∃ f : Buf (Elt F) ((c : Thread nD τ).loc cc0_stg1_1), ((c : Thread nD τ).loc cc0_stg1_1) ↦{fullShare} f) ∗
    (∃ f : Buf (Elt F) ((c : Thread nD τ).loc cc0_stg2_0), ((c : Thread nD τ).loc cc0_stg2_0) ↦{fullShare} f) ∗
    (∃ f : Buf (Elt F) ((c : Thread nD τ).loc cc0_stg2_1), ((c : Thread nD τ).loc cc0_stg2_1) ↦{fullShare} f) ∗
    (∃ f : Buf (Elt F) ((c : Thread nD τ).loc cc0_stg3_0), ((c : Thread nD τ).loc cc0_stg3_0) ↦{fullShare} f) ∗
    (∃ f : Buf (Elt F) ((c : Thread nD τ).loc cc0_stg3_1), ((c : Thread nD τ).loc cc0_stg3_1) ↦{fullShare} f) ∗
    (∃ f : Buf (Elt F) ((c : Thread nD τ).loc cc0_stg4_0), ((c : Thread nD τ).loc cc0_stg4_0) ↦{fullShare} f) ∗
    (∃ f : Buf (Elt F) ((c : Thread nD τ).loc cc0_stg4_1), ((c : Thread nD τ).loc cc0_stg4_1) ↦{fullShare} f) ∗
    (∃ f : Buf (Elt F) ((c : Thread nD τ).loc cc0_stg5_0), ((c : Thread nD τ).loc cc0_stg5_0) ↦{fullShare} f) ∗
    (∃ f : Buf (Elt F) ((c : Thread nD τ).loc cc0_stg5_1), ((c : Thread nD τ).loc cc0_stg5_1) ↦{fullShare} f))

/-- The scoped rest of the second region: the other region's staging buffers and the scratch word. -/
theorem scoped_split (c : Dev nD) :
    (Pipeline.scopedRest spec1 c : sProp 𝕄) ⊢ iprop(restR c ∗ (∃ d, owns (c : Thread nD τ) scM fullShare d)) := by
  rw [scopedRest1_eq]; unfold restR; simp only [scM, owns_whole]
  iintro ⟨H0, H1, H2, H3, H4, H5, H6, H7, H8, H9, H10, H11, HS⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iexact HS

/-- And back. -/
theorem scoped_join (c : Dev nD) :
    iprop(restR c ∗ (∃ d, owns (c : Thread nD τ) scM fullShare d)) ⊢ (Pipeline.scopedRest spec1 c : sProp 𝕄) := by
  rw [scopedRest1_eq]; unfold restR; simp only [scM, owns_whole]
  iintro ⟨⟨H0, H1, H2, H3, H4, H5, H6, H7, H8, H9, H10, H11⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

/-- The scratch word before position `n`: at anything before the first point, then at what that point stored. -/
def scrAt (c : Dev nD) (n : ℕ) : sProp 𝕄 :=
  if n = 0 then iprop(∃ d, owns (c : Thread nD τ) scM fullShare d) else owns (c : Thread nD τ) scM fullShare (scv W c)

/-- The proof data of the second pipeline on core `c`. -/
def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => out8 W c t
    | ⟨9, _⟩ => out9 W c t
    | ⟨10, _⟩ => nrm W c
    | ⟨11, _⟩ => out11 W c t
    | ⟨12, _⟩ => out12 W c t
    | ⟨13, _⟩ => out13 W c t
    | ⟨14, _⟩ => out14 W c t
  Φ n := iprop(restR c ∗ scrAt W c n.val)
  q _ := fullShare
  owed _ := 0

/-- The proof data's arrays are the region-entry contents. -/
theorem A_eq (c : Dev nD) (w : Fin cfg1.W) : (dat W c).A w = V W c (Pipeline.arrRef spec1 w) := by
  dsimp only [dat]

/-! What the body leaves, window by window. -/
theorem after1_0 (c : Dev nD) (t : Fin cfg1.N) : (dat W c).after 0 t = iblk W c 0 t := by dsimp only [dat]
theorem after1_1 (c : Dev nD) (t : Fin cfg1.N) : (dat W c).after 1 t = iblk W c 1 t := by dsimp only [dat]
theorem after1_2 (c : Dev nD) (t : Fin cfg1.N) : (dat W c).after 2 t = iblk W c 2 t := by dsimp only [dat]
theorem after1_3 (c : Dev nD) (t : Fin cfg1.N) : (dat W c).after 3 t = iblk W c 3 t := by dsimp only [dat]
theorem after1_4 (c : Dev nD) (t : Fin cfg1.N) : (dat W c).after 4 t = iblk W c 4 t := by dsimp only [dat]
theorem after1_5 (c : Dev nD) (t : Fin cfg1.N) : (dat W c).after 5 t = iblk W c 5 t := by dsimp only [dat]
theorem after1_6 (c : Dev nD) (t : Fin cfg1.N) : (dat W c).after 6 t = iblk W c 6 t := by dsimp only [dat]
theorem after1_7 (c : Dev nD) (t : Fin cfg1.N) : (dat W c).after 7 t = iblk W c 7 t := by dsimp only [dat]
theorem after1_8 (c : Dev nD) (t : Fin cfg1.N) : (dat W c).after 8 t = out8 W c t := by dsimp only [dat]
theorem after1_9 (c : Dev nD) (t : Fin cfg1.N) : (dat W c).after 9 t = out9 W c t := by dsimp only [dat]
theorem after1_10 (c : Dev nD) (t : Fin cfg1.N) : (dat W c).after 10 t = nrm W c := by dsimp only [dat]
theorem after1_11 (c : Dev nD) (t : Fin cfg1.N) : (dat W c).after 11 t = out11 W c t := by dsimp only [dat]
theorem after1_12 (c : Dev nD) (t : Fin cfg1.N) : (dat W c).after 12 t = out12 W c t := by dsimp only [dat]
theorem after1_13 (c : Dev nD) (t : Fin cfg1.N) : (dat W c).after 13 t = out13 W c t := by dsimp only [dat]
theorem after1_14 (c : Dev nD) (t : Fin cfg1.N) : (dat W c).after 14 t = out14 W c t := by dsimp only [dat]

/-! What the body finds in each input's staging buffer. -/
theorem before1_0 (c : Dev nD) (t : Fin cfg1.N) (d) : (dat W c).before 0 t d = iblk W c 0 t :=
  before1_0_of W (dat W c) (A_eq W c 0) (after1_0 W c) t d
theorem before1_1 (c : Dev nD) (t : Fin cfg1.N) (d) : (dat W c).before 1 t d = iblk W c 1 t :=
  before1_1_of W (dat W c) (A_eq W c 1) (after1_1 W c) t d
theorem before1_2 (c : Dev nD) (t : Fin cfg1.N) (d) : (dat W c).before 2 t d = iblk W c 2 t :=
  before1_2_of W (dat W c) (A_eq W c 2) (after1_2 W c) t d
theorem before1_3 (c : Dev nD) (t : Fin cfg1.N) (d) : (dat W c).before 3 t d = iblk W c 3 t :=
  before1_3_of W (dat W c) (A_eq W c 3) (after1_3 W c) t d
theorem before1_4 (c : Dev nD) (t : Fin cfg1.N) (d) : (dat W c).before 4 t d = iblk W c 4 t :=
  before1_4_of W (dat W c) (A_eq W c 4) (after1_4 W c) t d
theorem before1_5 (c : Dev nD) (t : Fin cfg1.N) (d) : (dat W c).before 5 t d = iblk W c 5 t :=
  before1_5_of W (dat W c) (A_eq W c 5) (after1_5 W c) t d
theorem before1_6 (c : Dev nD) (t : Fin cfg1.N) (d) : (dat W c).before 6 t d = iblk W c 6 t :=
  before1_6_of W (dat W c) (A_eq W c 6) (after1_6 W c) t d
theorem before1_7 (c : Dev nD) (t : Fin cfg1.N) (d) : (dat W c).before 7 t d = iblk W c 7 t :=
  before1_7_of W (dat W c) (A_eq W c 7) (after1_7 W c) t d

/-- After the first point the norm's buffer holds what that point stored. -/
theorem before1_10 (c : Dev nD) (t : Fin cfg1.N) (h : ¬t.val = 0) (d) : (dat W c).before 10 t d = nrm W c := by
  have hN : t.val < 96 := lt_of_lt_of_eq t.isLt (show cfg1.N = 96 from N_1)
  rw [Dat.before_out_traj (dat W c) 10 rfl (fun _ _ => rfl) (fun t _ _ _ => by rw [after1_10, after1_10]) t.val t rfl d,
    fresh1_10 t.val (Nat.le_of_lt t.isLt), if_neg (by simp only [decide_eq_true_eq]; omega), after1_10]

/-- Handing the norm's buffer back untouched leaves it as the pipeline wants it, written back there or not. -/
theorem leaves1_10 (c : Dev nD) (t : Fin cfg1.N) (h : ¬t.val = 0) :
    (owns (c : Thread nD τ) (ms1_10 t) fullShare (nrm W c) : sProp 𝕄) ⊢ (dat W c).leavesExact 10 t := by
  cases hf : (cfg1.win 10).flush t
  · rw [Dat.leavesExact_idle (dat W c) 10 t (idleAt1_10 t h) hf]
    iintro H; iexists (nrm W c); rw [before1_10 W c t h]; iexact H
  · rw [show (dat W c).leavesExact 10 t = owns (c : Thread nD τ) (ms1_10 t) fullShare ((dat W c).after 10 t) from by
      unfold Dat.leavesExact; rw [idleAt1_10 t h, hf], after1_10]

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (ms1_0 t) fullShare ((dat W c).before 0 t d))
    ∗ (∃ d, owns (c : Thread nD τ) (ms1_1 t) fullShare ((dat W c).before 1 t d))
    ∗ (∃ d, owns (c : Thread nD τ) (ms1_2 t) fullShare ((dat W c).before 2 t d))
    ∗ (∃ d, owns (c : Thread nD τ) (ms1_3 t) fullShare ((dat W c).before 3 t d))
    ∗ (∃ d, owns (c : Thread nD τ) (ms1_4 t) fullShare ((dat W c).before 4 t d))
    ∗ (∃ d, owns (c : Thread nD τ) (ms1_5 t) fullShare ((dat W c).before 5 t d))
    ∗ (∃ d, owns (c : Thread nD τ) (ms1_6 t) fullShare ((dat W c).before 6 t d))
    ∗ (∃ d, owns (c : Thread nD τ) (ms1_7 t) fullShare ((dat W c).before 7 t d))
    ∗ (∃ d, owns (c : Thread nD τ) (ms1_8 t) fullShare ((dat W c).before 8 t d))
    ∗ (∃ d, owns (c : Thread nD τ) (ms1_9 t) fullShare ((dat W c).before 9 t d))
    ∗ (∃ d, owns (c : Thread nD τ) (ms1_10 t) fullShare ((dat W c).before 10 t d))
    ∗ (∃ d, owns (c : Thread nD τ) (ms1_11 t) fullShare ((dat W c).before 11 t d))
    ∗ (∃ d, owns (c : Thread nD τ) (ms1_12 t) fullShare ((dat W c).before 12 t d))
    ∗ (∃ d, owns (c : Thread nD τ) (ms1_13 t) fullShare ((dat W c).before 13 t d))
    ∗ (∃ d, owns (c : Thread nD τ) (ms1_14 t) fullShare ((dat W c).before 14 t d)))

/-- and what it returns. -/
def bodyPost (c : Dev nD) (t : Fin cfg1.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t
    ∗ (dat W c).leavesExact 7 t
    ∗ (dat W c).leavesExact 8 t
    ∗ (dat W c).leavesExact 9 t
    ∗ (dat W c).leavesExact 10 t
    ∗ (dat W c).leavesExact 11 t
    ∗ (dat W c).leavesExact 12 t
    ∗ (dat W c).leavesExact 13 t
    ∗ (dat W c).leavesExact 14 t)

set_option maxHeartbeats 1600000 in
/-- The body at the first point. -/
theorem sound_bodyA (c : Dev nD) (t : Fin cfg1.N) (h : t.val = 0) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4, before1_5, before1_6, before1_7]
  rw [show (dat W c).Φ t.succ = iprop(restR c ∗ scrAt W c (t.val + 1)) from rfl,
    show (dat W c).Φ t.castSucc = iprop(restR c ∗ scrAt W c t.val) from rfl,
    show (dat W c).owesAt () t.succ = (dat W c).owesAt () t.castSucc from rfl]
  unfold scrAt
  rw [if_neg (Nat.succ_ne_zero _), if_pos h]
  rw [show (dat W c).leavesExact 0 t = owns (c : Thread nD τ) (ms1_0 t) fullShare ((dat W c).after 0 t) from by
    unfold Dat.leavesExact; rw [liveAt1_0 t], after1_0]
  rw [show (dat W c).leavesExact 1 t = owns (c : Thread nD τ) (ms1_1 t) fullShare ((dat W c).after 1 t) from by
    unfold Dat.leavesExact; rw [liveAt1_1 t], after1_1]
  rw [show (dat W c).leavesExact 2 t = owns (c : Thread nD τ) (ms1_2 t) fullShare ((dat W c).after 2 t) from by
    unfold Dat.leavesExact; rw [liveAt1_2 t], after1_2]
  rw [show (dat W c).leavesExact 3 t = owns (c : Thread nD τ) (ms1_3 t) fullShare ((dat W c).after 3 t) from by
    unfold Dat.leavesExact; rw [liveAt1_3 t], after1_3]
  rw [show (dat W c).leavesExact 4 t = owns (c : Thread nD τ) (ms1_4 t) fullShare ((dat W c).after 4 t) from by
    unfold Dat.leavesExact; rw [liveAt1_4 t], after1_4]
  rw [show (dat W c).leavesExact 5 t = owns (c : Thread nD τ) (ms1_5 t) fullShare ((dat W c).after 5 t) from by
    unfold Dat.leavesExact; rw [liveAt1_5 t], after1_5]
  rw [show (dat W c).leavesExact 6 t = owns (c : Thread nD τ) (ms1_6 t) fullShare ((dat W c).after 6 t) from by
    unfold Dat.leavesExact; rw [liveAt1_6 t], after1_6]
  rw [show (dat W c).leavesExact 7 t = owns (c : Thread nD τ) (ms1_7 t) fullShare ((dat W c).after 7 t) from by
    unfold Dat.leavesExact; rw [liveAt1_7 t], after1_7]
  rw [show (dat W c).leavesExact 8 t = owns (c : Thread nD τ) (ms1_8 t) fullShare ((dat W c).after 8 t) from by
    unfold Dat.leavesExact; rw [liveAt1_8 t], after1_8]
  rw [show (dat W c).leavesExact 9 t = owns (c : Thread nD τ) (ms1_9 t) fullShare ((dat W c).after 9 t) from by
    unfold Dat.leavesExact; rw [liveAt1_9 t], after1_9]
  rw [show (dat W c).leavesExact 10 t = owns (c : Thread nD τ) (ms1_10 t) fullShare ((dat W c).after 10 t) from by
    unfold Dat.leavesExact; rw [liveAt1_10 t h], after1_10]
  rw [show (dat W c).leavesExact 11 t = owns (c : Thread nD τ) (ms1_11 t) fullShare ((dat W c).after 11 t) from by
    unfold Dat.leavesExact; rw [liveAt1_11 t], after1_11]
  rw [show (dat W c).leavesExact 12 t = owns (c : Thread nD τ) (ms1_12 t) fullShare ((dat W c).after 12 t) from by
    unfold Dat.leavesExact; rw [liveAt1_12 t], after1_12]
  rw [show (dat W c).leavesExact 13 t = owns (c : Thread nD τ) (ms1_13 t) fullShare ((dat W c).after 13 t) from by
    unfold Dat.leavesExact; rw [liveAt1_13 t], after1_13]
  rw [show (dat W c).leavesExact 14 t = owns (c : Thread nD τ) (ms1_14 t) fullShare ((dat W c).after 14 t) from by
    unfold Dat.leavesExact; rw [liveAt1_14 t], after1_14]
  obtain rfl : t = t0 := Fin.ext h
  unfold scv nrm out8 out9 out11 out12 out13 out14
  simp only [dif_pos h]
  iintro ⟨⟨HR, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runA W c t0 h).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%eS, HS⟩⟩
  isplitl [HR HS]
  · isplitl [HR]; · iexact HR
    unfold owns; iexists _; isplitr
    swap; · iexact HS
    ipureintro; exact View.read_writes_of_cover _ _ _ _ _ (cover1_A_S _ _ _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_A_8 _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_A_9 _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover1_A_10 _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover1_A_11 _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover1_A_12 _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover1_A_13 _ _ _ _ _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover1_A_14 _ _ _ _ _ _ _ _ _ _ _ _ _ _ _ _ _ _ _ _ _ _ _ _ _ _ _ _ _ _ _ _ _ _ _ _ _ _ _ _ _ _ _)

set_option maxHeartbeats 1600000 in
/-- The body at a later point. -/
theorem sound_bodyB (c : Dev nD) (t : Fin cfg1.N) (h : ¬t.val = 0) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4, before1_5, before1_6, before1_7]
  rw [show (dat W c).Φ t.succ = iprop(restR c ∗ scrAt W c (t.val + 1)) from rfl,
    show (dat W c).Φ t.castSucc = iprop(restR c ∗ scrAt W c t.val) from rfl,
    show (dat W c).owesAt () t.succ = (dat W c).owesAt () t.castSucc from rfl]
  unfold scrAt
  rw [if_neg (Nat.succ_ne_zero _), if_neg h]
  rw [show (dat W c).leavesExact 0 t = owns (c : Thread nD τ) (ms1_0 t) fullShare ((dat W c).after 0 t) from by
    unfold Dat.leavesExact; rw [liveAt1_0 t], after1_0]
  rw [show (dat W c).leavesExact 1 t = owns (c : Thread nD τ) (ms1_1 t) fullShare ((dat W c).after 1 t) from by
    unfold Dat.leavesExact; rw [liveAt1_1 t], after1_1]
  rw [show (dat W c).leavesExact 2 t = owns (c : Thread nD τ) (ms1_2 t) fullShare ((dat W c).after 2 t) from by
    unfold Dat.leavesExact; rw [liveAt1_2 t], after1_2]
  rw [show (dat W c).leavesExact 3 t = owns (c : Thread nD τ) (ms1_3 t) fullShare ((dat W c).after 3 t) from by
    unfold Dat.leavesExact; rw [liveAt1_3 t], after1_3]
  rw [show (dat W c).leavesExact 4 t = owns (c : Thread nD τ) (ms1_4 t) fullShare ((dat W c).after 4 t) from by
    unfold Dat.leavesExact; rw [liveAt1_4 t], after1_4]
  rw [show (dat W c).leavesExact 5 t = owns (c : Thread nD τ) (ms1_5 t) fullShare ((dat W c).after 5 t) from by
    unfold Dat.leavesExact; rw [liveAt1_5 t], after1_5]
  rw [show (dat W c).leavesExact 6 t = owns (c : Thread nD τ) (ms1_6 t) fullShare ((dat W c).after 6 t) from by
    unfold Dat.leavesExact; rw [liveAt1_6 t], after1_6]
  rw [show (dat W c).leavesExact 7 t = owns (c : Thread nD τ) (ms1_7 t) fullShare ((dat W c).after 7 t) from by
    unfold Dat.leavesExact; rw [liveAt1_7 t], after1_7]
  rw [show (dat W c).leavesExact 8 t = owns (c : Thread nD τ) (ms1_8 t) fullShare ((dat W c).after 8 t) from by
    unfold Dat.leavesExact; rw [liveAt1_8 t], after1_8]
  rw [show (dat W c).leavesExact 9 t = owns (c : Thread nD τ) (ms1_9 t) fullShare ((dat W c).after 9 t) from by
    unfold Dat.leavesExact; rw [liveAt1_9 t], after1_9]
  rw [show (dat W c).leavesExact 11 t = owns (c : Thread nD τ) (ms1_11 t) fullShare ((dat W c).after 11 t) from by
    unfold Dat.leavesExact; rw [liveAt1_11 t], after1_11]
  rw [show (dat W c).leavesExact 12 t = owns (c : Thread nD τ) (ms1_12 t) fullShare ((dat W c).after 12 t) from by
    unfold Dat.leavesExact; rw [liveAt1_12 t], after1_12]
  rw [show (dat W c).leavesExact 13 t = owns (c : Thread nD τ) (ms1_13 t) fullShare ((dat W c).after 13 t) from by
    unfold Dat.leavesExact; rw [liveAt1_13 t], after1_13]
  rw [show (dat W c).leavesExact 14 t = owns (c : Thread nD τ) (ms1_14 t) fullShare ((dat W c).after 14 t) from by
    unfold Dat.leavesExact; rw [liveAt1_14 t], after1_14]
  simp only [before1_10 W c t h]
  unfold out8 out9 out11 out12 out13 out14
  simp only [dif_neg h]
  iintro ⟨⟨HR, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB W c t h (scv W c)).2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, ⟨%e8, H8⟩, ⟨%e9, H9⟩, H10, ⟨%e11, H11⟩, ⟨%e12, H12⟩, ⟨%e13, H13⟩, ⟨%e14, H14⟩, HS⟩
  isplitl [HR HS]
  · isplitl [HR]; · iexact HR
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_B_8 _ _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_B_9 _ _ _ _ _ _ _ _ _ _ _ _ _ _ _ _ _ _ _ _ _ _ _ _ _ _ _ _ _ _ _ _ _ _ _ _ _ _ _ _ _ _ _ _)
  isplitl [H10]
  · iapply (leaves1_10 W c t h); iexact H10
  isplitl [H11]
  · unfold owns; iexists _; isplitr
    swap; · iexact H11
    ipureintro; exact View.read_writes_of_cover _ _ _ _ _ (cover1_B_11 _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover1_B_12 _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover1_B_13 _ _ _ _ _ _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover1_B_14 _ _ _ _ _ _ _ _ _ _ _ _ _ _ _ _ _ _ _ _ _ _ _ _ _ _ _ _ _ _ _ _ _ _ _ _ _ _ _ _ _ _ _ _)

/-- The body at any point. -/
theorem sound_body (c : Dev nD) (t : Fin cfg1.N) :
    bodyPre W c t ⊢ wp frame (wpE (defs₀ (F := F)) Variants.none c none) Set.univ (bodyAt1 t) (fun _ => bodyPost W c t) := by
  by_cases h : t.val = 0
  · exact sound_bodyA W c t h
  · exact sound_bodyB W c t h

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.Kernel.Adam

end
-- ==== Proof.Kernel.Run.lean ====
/-
The whole program run: its two regions as records over the unscoped buffers, what each leaves, and the run's final memory.
-/
module

public import proofs.«01_k».proof.Proof.Kernel.Wgrad
public import proofs.«01_k».proof.Proof.Kernel.AdamDat
public import proofs.«01_k».proof.Proof.Gen.Kernel.Launch
public import proofs.«01_k».proof.Proof.Gen.Kernel.Regions
public import Idealize.ShloMosaic.Lib.Pipeline.RegionArraysS
public import Idealize.ShloMosaic.Lib.Pipeline.FrameTail
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-- What the first region leaves in every buffer. -/
def after0 (c : Dev nD) : Valuation τ sig (Elt F) := afterRegion (Wgrad.dat (V1 m) c) (V1 m c)

/-- The first region's results, as the generated valuations take them. -/
def outs2 : Outs (F := F) := fun _ r c => after0 m c (Proc.devRef .tc r)

/-- What the second region leaves in every buffer. -/
def after1 (c : Dev nD) : Valuation τ sig (Elt F) := afterRegion (Adam.dat (V3 m (outs2 m)) c) (V3 m (outs2 m) c)

/-- Both regions' results, as the generated valuations take them. -/
def outs : Outs (F := F) := fun n r c => if n = 2 then after0 m c (Proc.devRef .tc r) else after1 m c (Proc.devRef .tc r)

/-- The second region is entered from what the first one left. -/
theorem V3_outs (c : Dev nD) : V3 m (outs m) c = V3 m (outs2 m) c := rfl

/-- The two pipelines' proof data. -/
def pdats : (p : Fin 2) → (c : Dev nD) → Dat τ (Elt F) Unit ℕ (UR sig nD τ) ℕ (cfgs p) c
  | ⟨0, _⟩, c => Wgrad.dat (V1 m) c
  | ⟨1, _⟩, c => Adam.dat (V3 m (outs m)) c

/-- The wait index of every TensorCore cell. -/
def L : GSem nD τ sig → Finset Unit := fun g => if g.1.2 = .tc then {()} else ∅
/-- All levels are the lowest: nothing is owed. -/
def lv : GSem nD τ sig → Unit → ℕ := fun _ _ => 0

/-- Nothing being owed, the levels constrain nothing. -/
theorem levelCut (p : Fin 2) : Pipeline.LevelCut (pcfgs (F := F)) adm () L lv p (fun _ => (0 : CellTallies nD τ sig Unit)) (fun _ => 0) where
  hι c w s := by unfold L; rw [if_pos rfl]; exact Finset.mem_singleton_self _
  hιb c w s := Nat.le_refl _
  hD c g i h := absurd h (Nat.lt_irrefl 0)

/-- What a core owes between the segments: nothing. -/
def owesNil (c : Dev nD) : sProp 𝕄 := iprop(∃ Wd, owes (c : Thread nD τ) (0 : CellTallies nD τ sig Unit) Wd)

/-- The first region as a segment. -/
def reg0 : RegionSeg (pcfgs (F := F)) adm (pdats m) () defs₀ Variants.none L lv 0 :=
  RegionSeg.ofHeldIn (pcfgs (F := F)) adm (pdats m) () defs₀ Variants.none L lv 0 (fun _ => 0) (ucRefs τ sig)
    (fun _ => BI.emp) (fun _ => BI.emp) launch0.toP rfl (fun c => (Wgrad.body_obligation (V1 m) c).loose)
    (fun _ _ => rfl) (fun _ => rfl) (fun c => (Wgrad.dat (V1 m) c).share_full fun _ => rfl)
    (fun c => by rw [show (pdats m 0 c).Φ 0 = scopedRest spec0 c from rfl]; iintro ⟨H, -⟩; iexact H)
    (fun c => by
      rw [show (pdats m 0 c).Φ (Fin.last _) = scopedRest spec0 c from rfl]
      iintro H
      isplitl [H]; · iexact H
      iempintro)
    (fun _ => 0) (levelCut 0) (fun _ => BI.emp) (V1 m) (fun _ _ => rfl)

/-- The second region as a segment. -/
def reg1 : RegionSeg (pcfgs (F := F)) adm (pdats m) () defs₀ Variants.none L lv 1 :=
  RegionSeg.ofHeldIn (pcfgs (F := F)) adm (pdats m) () defs₀ Variants.none L lv 1 (fun _ => 0) (ucRefs τ sig)
    (fun _ => BI.emp) (fun _ => BI.emp) launch1.toP rfl (fun c => (Adam.body_obligation (V3 m (outs m)) c).loose)
    (fun _ _ => rfl) (fun _ => rfl) (fun c => (Adam.dat (V3 m (outs m)) c).share_full fun _ => rfl)
    (fun c => by
      rw [show (pdats m 1 c).Φ 0 = iprop(Adam.restR c ∗ Adam.scrAt (V3 m (outs m)) c 0) from rfl]
      iintro ⟨H, -⟩
      unfold Adam.scrAt; rw [if_pos rfl]
      iapply (Adam.scoped_split c) $$ H)
    (fun c => by
      rw [show (pdats m 1 c).Φ (Fin.last _) = iprop(Adam.restR c ∗ Adam.scrAt (V3 m (outs m)) c grid1.N) from rfl]
      unfold Adam.scrAt; rw [if_neg (by rw [N_1]; decide)]
      iintro ⟨HR, HS⟩
      isplitl
      · iapply (Adam.scoped_join c)
        isplitl [HR]; · iexact HR
        iexists _; iexact HS
      iempintro)
    (fun _ => 0) (levelCut 1) (fun _ => BI.emp) (V3 m (outs m)) (fun _ _ => rfl)

/-- An output window of the first region is one of its two results. -/
theorem isOut0 : ∀ w, arrRef spec0 w ∉ ([main_v4_0, main_v4_1] : List (Ref sig .tc)) → (cfg0.win w).isOut = false := by decide
/-- An output window of the second region is one of its seven results. -/
theorem isOut1 : ∀ w, arrRef spec1 w ∉ ([main_v14_0, main_v14_1, main_v14_2, main_v14_3, main_v14_4, main_v14_5, main_v14_6] : List (Ref sig .tc)) → (cfg1.win w).isOut = false := by decide

/-- What the first region leaves is the generated valuation after it, at every TensorCore buffer. -/
theorem after0_eq (c : Dev nD) (r : Ref sig .tc) : after0 m c (Proc.devRef .tc r) = V2 m (outs m) c (Proc.devRef .tc r) := by
  by_cases h1 : r = main_v4_1
  · subst h1; exact (Function.update_self (f := Function.update (V1 m c) main_v4_0 (outs m 2 main_v4_0 c)) (Proc.devRef .tc main_v4_1) (outs m 2 main_v4_1 c)).symm
  by_cases h0 : r = main_v4_0
  · subst h0
    exact Eq.symm (Eq.trans (Function.update_of_ne (by decide) _ _)
      (Function.update_self (f := V1 m c) (Proc.devRef .tc main_v4_0) (outs m 2 main_v4_0 c)))
  have hr : r ∉ ([main_v4_0, main_v4_1] : List (Ref sig .tc)) := by simp only [List.mem_cons, List.not_mem_nil, _root_.or_false]; tauto
  rw [V2_of m (outs m) c r hr]
  exact afterRegion_keeps (Wgrad.dat (V1 m) c) (V1 m c) winFacts0.arr_inj (Wgrad.A_eq (V1 m) c) r fun w e => isOut0 w (e ▸ hr)

/-- What the second region leaves is the generated valuation after it, at every TensorCore buffer. -/
theorem after1_eq (c : Dev nD) (r : Ref sig .tc) : after1 m c (Proc.devRef .tc r) = V4 m (outs m) c (Proc.devRef .tc r) := by
  by_cases h : r ∈ ([main_v14_0, main_v14_1, main_v14_2, main_v14_3, main_v14_4, main_v14_5, main_v14_6] : List (Ref sig .tc))
  · have e : ∀ r', outs m 4 r' c = after1 m c (Proc.devRef .tc r') := fun _ => rfl
    simp only [List.mem_cons, List.not_mem_nil, _root_.or_false] at h
    rcases h with rfl | rfl | rfl | rfl | rfl | rfl | rfl
    · exact Eq.symm (Eq.trans (Function.update_of_ne (by decide) _ _) (Eq.trans (Function.update_of_ne (by decide) _ _) (Eq.trans (Function.update_of_ne (by decide) _ _) (Eq.trans (Function.update_of_ne (by decide) _ _) (Eq.trans (Function.update_of_ne (by decide) _ _) (Eq.trans (Function.update_of_ne (by decide) _ _) (Function.update_self _ _ _)))))))
    · exact Eq.symm (Eq.trans (Function.update_of_ne (by decide) _ _) (Eq.trans (Function.update_of_ne (by decide) _ _) (Eq.trans (Function.update_of_ne (by decide) _ _) (Eq.trans (Function.update_of_ne (by decide) _ _) (Eq.trans (Function.update_of_ne (by decide) _ _) (Function.update_self _ _ _))))))
    · exact Eq.symm (Eq.trans (Function.update_of_ne (by decide) _ _) (Eq.trans (Function.update_of_ne (by decide) _ _) (Eq.trans (Function.update_of_ne (by decide) _ _) (Eq.trans (Function.update_of_ne (by decide) _ _) (Function.update_self _ _ _)))))
    · exact Eq.symm (Eq.trans (Function.update_of_ne (by decide) _ _) (Eq.trans (Function.update_of_ne (by decide) _ _) (Eq.trans (Function.update_of_ne (by decide) _ _) (Function.update_self _ _ _))))
    · exact Eq.symm (Eq.trans (Function.update_of_ne (by decide) _ _) (Eq.trans (Function.update_of_ne (by decide) _ _) (Function.update_self _ _ _)))
    · exact Eq.symm (Eq.trans (Function.update_of_ne (by decide) _ _) (Function.update_self _ _ _))
    · exact Eq.symm (Function.update_self (Proc.devRef (τ := τ) .tc main_v14_6) _ _)
  · rw [V4_of m (outs m) c r h]
    exact afterRegion_keeps (Adam.dat (V3 m (outs2 m)) c) (V3 m (outs2 m) c) winFacts1.arr_inj (Adam.A_eq (V3 m (outs2 m)) c) r fun w e => isOut1 w (e ▸ h)

/-- Holding what agrees on every TensorCore buffer is the same. -/
theorem held_uc {c : Dev nD} {V V' : Valuation τ sig (Elt F)} (h : ∀ r : Ref sig .tc, V (Proc.devRef .tc r) = V' (Proc.devRef .tc r)) :
    (StableHlo.held (c : Thread nD τ) (ucRefs τ sig) V : sProp 𝕄) = StableHlo.held (c : Thread nD τ) (ucRefs τ sig) V' :=
  StableHlo.held_congr (c : Thread nD τ) fun b hb => by
    obtain ⟨r, -, rfl⟩ := Finset.mem_map.mp (Finset.mem_filter.mp hb).1
    exact h r

/-- The segments between the host stretches carry only that nothing is owed. -/
def E : Fin 3 → Dev nD → sProp 𝕄 := fun _ => owesNil

/-- The first region's arrays are unscoped buffers. -/
theorem sub0 : arrRefs (τ := τ) spec0 ⊆ ucRefs τ sig := arrRefs_sub_ucRefs spec0 (by decide)
/-- The second region's arrays are unscoped buffers. -/
theorem sub1 : arrRefs (τ := τ) spec1 ⊆ ucRefs τ sig := arrRefs_sub_ucRefs spec1 (by decide)

/-- The first region is entered from the buffers after the first host stretch. -/
theorem hpre0 (c : Dev nD) : iprop(StableHlo.held (c : Thread nD τ) (ucRefs τ sig) (V1 m c) ∗ E 0 c) ⊢ (reg0 (F := F) m).pre c := by
  unfold reg0
  refine BIBase.Entails.trans ?_ (RegionSeg.ofHeldIn_pre (pcs := pcfgs (F := F)) (p := 0) sub0 c)
  unfold E owesNil
  iintro ⟨H, HO⟩
  isplitl [H]; · iexact H
  isplitl [HO]; · iexact HO
  isplitl <;> iempintro

/-- The first region is left with the generated valuation after it. -/
theorem hpost0 (c : Dev nD) : (reg0 (F := F) m).post c ⊢ iprop(StableHlo.held (c : Thread nD τ) (ucRefs τ sig) (V2 m (outs m) c) ∗ E 1 c) := by
  unfold reg0
  refine BIBase.Entails.trans (RegionSeg.ofHeldIn_post (pcs := pcfgs (F := F)) (p := 0) sub0 c) ?_
  rw [show afterRegion (pdats m 0 c) (V1 m c) = after0 m c from rfl, ← held_uc (V := after0 m c) (after0_eq m c)]
  unfold E owesNil
  iintro ⟨H, HO, -, -⟩
  isplitl [H]; · iexact H
  iexact HO

/-- The second region is entered from the buffers after the second host stretch. -/
theorem hpre1 (c : Dev nD) : iprop(StableHlo.held (c : Thread nD τ) (ucRefs τ sig) (V3 m (outs m) c) ∗ E 1 c) ⊢ (reg1 (F := F) m).pre c := by
  unfold reg1
  refine BIBase.Entails.trans ?_ (RegionSeg.ofHeldIn_pre (pcs := pcfgs (F := F)) (p := 1) sub1 c)
  unfold E owesNil
  iintro ⟨H, HO⟩
  isplitl [H]; · iexact H
  isplitl [HO]; · iexact HO
  isplitl <;> iempintro

/-- The second region is left with the generated valuation after it. -/
theorem hpost1 (c : Dev nD) : (reg1 (F := F) m).post c ⊢ iprop(StableHlo.held (c : Thread nD τ) (ucRefs τ sig) (V4 m (outs m) c) ∗ E 2 c) := by
  unfold reg1
  refine BIBase.Entails.trans (RegionSeg.ofHeldIn_post (pcs := pcfgs (F := F)) (p := 1) sub1 c) ?_
  rw [show afterRegion (pdats m 1 c) (V3 m (outs m) c) = after1 m c from rfl, ← held_uc (V := after1 m c) (after1_eq m c)]
  unfold E owesNil
  iintro ⟨H, HO, -, -⟩
  isplitl [H]; · iexact H
  iexact HO

/-- @main's items as segments. -/
abbrev items (c : Dev nD) : List (Seg (pcfgs (F := F)) adm (pdats m) () defs₀ Variants.none L lv) :=
  segs m (outs m) Variants.none L lv E () (pdats m) (reg0 m) (reg1 m) c

/-- What a final memory says: every unscoped TensorCore buffer holds the last valuation. -/
def Final (c : Dev nD) (s : MemSt nD τ sig (Elt F)) : Prop :=
  ∀ b ∈ ucRefs τ sig, s.mem ((c.tc : Thread nD τ).1, b) = V5 m (outs m) c b

/-- THE RUN: at any float values, from any memory with zero counters, every weakly fair execution of @main terminates with
    every unscoped TensorCore buffer at the last valuation and every counter zero. -/
theorem run_main : θ_run defs (onTc (τ := τ) (main (F := F))) ⟨m, fun _ => 0, ρ⟩ (fun r => (∀ c : Dev nD, Final m c r.2) ∧ r.2.sem = fun _ => 0) := by
  refine θ_run_regions_kit_dev_sems (pcfgs (F := F)) adm (pdats m) () cellOf_inj emb₁ defs₀ Variants.none L lv m ρ main (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, segs, Seg.pipes_host, Seg.pipes_region, Seg.pipes_nil]; decide) (O₀ := 0)
    (hL := fun g h => by unfold L; rw [if_neg h])
    (G := fun _ => iprop(emp)) (u₀ := initOf (cells cfgs cellOf_inj) (launchToks cfgs cellOf_inj))
    (hu₀ := by
      iintro Hu; imodintro
      isplitl [Hu]
      · iapply (show (ownU _ : sProp 𝕄) ⊢ BI.own (emb₁ (initOf (cells cfgs cellOf_inj) (launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ E 0 c))
    (Tₙ := fun c => StableHlo.held (c : Thread nD τ) (ucRefs τ sig) (V5 m (outs m) c))
    (hch := fun c => ⟨.rfl, hpre0 m c, hpost0 m c, hpre1 m c, hpost1 m c, .rfl⟩)
    (hinit := by
      refine initEach L lv fun c => ?_
      rw [show unscopedBufs c (fun b => m ((c.tc : Thread nD τ).loc b)) = StableHlo.held (c.tc : Thread nD τ) (ucRefs τ sig) (V0 m c)
          from unscopedBufs_held (Ix := Unit) (Name := ℕ) (U := UR sig nD τ) (Lvl := ℕ) c (V0 m c)]
      unfold E owesNil
      iintro ⟨⟨Hh, -, HO, -, -, -⟩, -⟩
      imodintro
      isplitl [Hh]; · iexact Hh
      iexists _; iexact HO)
    (QY := Final m)
    (hfin := fun c s' => by
      unfold StableHlo.held
      iintro ⟨Hh, HSI⟩
      ihave Hr := (pointsTo_read_all (ucRefs τ sig) (fun b => ((c.tc : Thread nD τ).1, b)) (V5 m (outs m) c) s') $$ [Hh HSI]
      · isplitl [Hh] <;> iassumption
      imodintro; iexact Hr)
    (hQ := fun _ h hz => ⟨h, funext fun g => hz g (.inr (regions_no_unscoped g.2))⟩)

/-- A TensorCore buffer that is not scoped, read off a final memory. -/
theorem Final.read {c : Dev nD} {s : MemSt nD τ sig (Elt F)} (h : Final m c s) (r : Ref sig .tc) (hr : r.isScoped = false) :
    s.mem ((c.tc : Thread nD τ).loc r) = V5 m (outs m) c (Proc.devRef .tc r) := h _ (devRef_mem_ucRefs hr)

/-- THE FRAME: @main terminates, its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c =>
    ⟨((h.1 c).read m main_arg0 rfl).trans (V5_main_arg0 m (outs m) c),
      ((h.1 c).read m main_arg1 rfl).trans (V5_main_arg1 m (outs m) c),
      ((h.1 c).read m main_arg2 rfl).trans (V5_main_arg2 m (outs m) c),
      ((h.1 c).read m main_arg3 rfl).trans (V5_main_arg3 m (outs m) c),
      ((h.1 c).read m main_arg4 rfl).trans (V5_main_arg4 m (outs m) c),
      ((h.1 c).read m main_arg5 rfl).trans (V5_main_arg5 m (outs m) c),
      ((h.1 c).read m main_arg6 rfl).trans (V5_main_arg6 m (outs m) c),
      ((h.1 c).read m main_arg7 rfl).trans (V5_main_arg7 m (outs m) c),
      ((h.1 c).read m main_arg8 rfl).trans (V5_main_arg8 m (outs m) c),
      ((h.1 c).read m main_arg9 rfl).trans (V5_main_arg9 m (outs m) c),
      ((h.1 c).read m main_arg10 rfl).trans (V5_main_arg10 m (outs m) c)⟩, h.2⟩) (run_main m ρ)

end Cert.Kernel.Run

end
-- ==== Proof.KernelIdeal.Wgrad.lean ====
/-
The first pallas_call (the weight gradient): its body run at every kind of grid point, the proof data of its pipeline,
and the body obligation, from any contents of the buffers when the region is entered.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The contents of core `c`'s TensorCore buffers when the region is entered. -/
abbrev V (c : Dev nD) (b : Ref sig .tc) : Buf (Elt F) ((c : Thread nD τ).loc b) := W c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V W c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 192 := Nat.lt_of_lt_of_eq t.isLt N_0
    have e0 : (grid0.coords t 0).val = t.val / 16 % 12 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 192 := Nat.lt_of_lt_of_eq t.isLt N_0
    have e0 : (grid0.coords t 0).val = t.val / 16 % 12 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 4, through which its contents are stated (`View.read_writes_of_cover`: the
    choice does not matter). -/
abbrev VO0_4 : View sig .tc .vmem S1024x3072 .f32 := (Memref.whole cc0_stg4_0 : Memref sig .tc .vmem S1024x3072 .f32).view
/-- One staging buffer of output window 5, through which its contents are stated (`View.read_writes_of_cover`: the
    choice does not matter). -/
abbrev VO0_5 : View sig .tc .vmem S1x8x128 .f32 := (Memref.whole cc0_stg5_0 : Memref sig .tc .vmem S1x8x128 .f32).view
/-- Each window's current staging memref at point `t`, spelled as the pipeline passes it (`bodyAt0`), and its wholeness. -/
abbrev ms0_0 (t : Fin cfg0.N) : Memref sig .tc .vmem S1024x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3072 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 176: 12 of 192), WITH the
    proof that on whole staging memrefs — the inputs' at their contents, the outputs it leaves idle (5: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : cond0_0 i) (hc1 : ¬cond0_1 i)
    (x0 : Vec F S1024x1024 .fp8e4m3) (x1 : Vec F S1024x3072 .fp8e5m2) (x2 : Vec F S1x1x1024 .f32) (x3 : Vec F S1x1x1024 .f32) :
    Σ' (L4 : List (View.Piece (Elt F) S1024x3072 .f32)), { L5 : List (View.Piece (Elt F) S1x8x128 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5) -∗ K ⟨⟩))
          ⊢ wp frame (wpE (defs₀ (F := F)) Variants.none c none) E (cc0_wgrad i arg2 harg2 arg3 harg3 arg4 harg4 arg5 harg5 arg6 harg6 arg7 harg7) K } := by
  refine ⟨?_, [], fun xi5 E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact H5

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 190: 168 of 192), WITH the
    proof that on whole staging memrefs — the inputs' at their contents, the outputs it reads before covering (4) at their running contents `xo·`, the outputs it leaves idle (5: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : ¬cond0_1 i)
    (x0 : Vec F S1024x1024 .fp8e4m3) (x1 : Vec F S1024x3072 .fp8e5m2) (x2 : Vec F S1x1x1024 .f32) (x3 : Vec F S1x1x1024 .f32) (xo4 : Vec F S1024x3072 .f32) :
    Σ' (L4 : List (View.Piece (Elt F) S1024x3072 .f32)), { L5 : List (View.Piece (Elt F) S1x8x128 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xi5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5) -∗ K ⟨⟩))
          ⊢ wp frame (wpE (defs₀ (F := F)) Variants.none c none) E (cc0_wgrad i arg2 harg2 arg3 harg3 arg4 harg4 arg5 harg5 arg6 harg6 arg7 harg7) K } := by
  refine ⟨?_, [], fun xi5 E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact H5

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 191: 12 of 192), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) :
    Σ' (L4 : List (View.Piece (Elt F) S1024x3072 .f32)), { L5 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_wgrad i arg2 harg2 arg3 harg3 arg4 harg4 arg5 harg5 arg6 harg6 arg7 harg7) K } := by
  refine ⟨?_, ?_, fun E K => ?run⟩
  case run =>
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (2 stores of `S1024x3072`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : cond0_0 i) (hc1 : ¬cond0_1 i)
    (x0 : Vec F S1024x1024 .fp8e4m3) (x1 : Vec F S1024x3072 .fp8e5m2) (x2 : Vec F S1x1x1024 .f32) (x3 : Vec F S1x1x1024 .f32) (y : S1024x3072.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x3072.size (by sl_kernel_rfl) y

/-- What case A leaves in output 4's staging buffer: its pieces read back over junk. -/
def out0_A_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : cond0_0 i) (hc1 : ¬cond0_1 i)
    (x0 : Vec F S1024x1024 .fp8e4m3) (x1 : Vec F S1024x3072 .fp8e5m2) (x2 : Vec F S1x1x1024 .f32) (x3 : Vec F S1x1x1024 .f32) : Vec F S1024x3072 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : cond0_0 i) (hc1 : ¬cond0_1 i)
    (x0 : Vec F S1024x1024 .fp8e4m3) (x1 : Vec F S1024x3072 .fp8e5m2) (x2 : Vec F S1x1x1024 .f32) (x3 : Vec F S1x1x1024 .f32) : Vec F S1x8x128 .f32 :=
  VO0_5.read (Elt F) (VO0_5.writes (Elt F) VO0_5.junk (kernelRun0_A c i arg2 harg2 arg3 harg3 arg4 harg4 arg5 harg5 arg6 harg6 arg7 harg7 hc0 hc1 x0 x1 x2 x3).2.1)

/-- Case B's pieces for output 4 tile its block (1 store of `S1024x3072`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : ¬cond0_1 i)
    (x0 : Vec F S1024x1024 .fp8e4m3) (x1 : Vec F S1024x3072 .fp8e5m2) (x2 : Vec F S1x1x1024 .f32) (x3 : Vec F S1x1x1024 .f32) (xo4 : Vec F S1024x3072 .f32) (y : S1024x3072.Idx) :
    ∃ pc ∈ (kernelRun0_B c i arg2 harg2 arg3 harg3 arg4 harg4 arg5 harg5 arg6 harg6 arg7 harg7 hc0 hc1 x0 x1 x2 x3 xo4).1, y ∈ pc.1.set :=
  View.cover_of_tiledL (kernelRun0_B c i arg2 harg2 arg3 harg3 arg4 harg4 arg5 harg5 arg6 harg6 arg7 harg7 hc0 hc1 x0 x1 x2 x3 xo4).1 S1024x3072.size (by sl_kernel_rfl) y

/-- What case B leaves in output 4's staging buffer: its pieces read back over junk. -/
def out0_B_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : ¬cond0_1 i)
    (x0 : Vec F S1024x1024 .fp8e4m3) (x1 : Vec F S1024x3072 .fp8e5m2) (x2 : Vec F S1x1x1024 .f32) (x3 : Vec F S1x1x1024 .f32) (xo4 : Vec F S1024x3072 .f32) : Vec F S1024x3072 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xo4).1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : ¬cond0_1 i)
    (x0 : Vec F S1024x1024 .fp8e4m3) (x1 : Vec F S1024x3072 .fp8e5m2) (x2 : Vec F S1x1x1024 .f32) (x3 : Vec F S1x1x1024 .f32) (xo4 : Vec F S1024x3072 .f32) : Vec F S1x8x128 .f32 :=
  VO0_5.read (Elt F) (VO0_5.writes (Elt F) VO0_5.junk (kernelRun0_B c i arg2 harg2 arg3 harg3 arg4 harg4 arg5 harg5 arg6 harg6 arg7 harg7 hc0 hc1 x0 x1 x2 x3 xo4).2.1)

/-- Case C's pieces for output 4 tile its block (1 store of `S1024x3072`, checked by the kernel's evaluation: Lib/Ring.lean `Piece.tiledL`, linear in the pieces, through a loop's `@[irreducible]` trip theorem too), so they cover it. -/
theorem cover0_C_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) (y : S1024x3072.Idx) :
    ∃ pc ∈ (kernelRun0_C c i arg2 harg2 arg3 harg3 arg4 harg4 arg5 harg5 arg6 harg6 arg7 harg7 hc0 hc1 x0 x1 x2 x3 xo4).1, y ∈ pc.1.set :=
  View.cover_of_tiledL (kernelRun0_C c i arg2 harg2 arg3 harg3 arg4 harg4 arg5 harg5 arg6 harg6 arg7 harg7 hc0 hc1 x0 x1 x2 x3 xo4).1 S1024x3072.size (by sl_kernel_rfl) y

/-- What case C leaves in output 4's staging buffer: its pieces read back over junk. -/
def out0_C_4 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) : Vec F S1024x3072 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xo4).1)

/-- Case C's pieces for output 5 tile its block (1 store of `S1x8x128`, checked by the kernel's evaluation: Lib/Ring.lean `Piece.tiledL`, linear in the pieces, through a loop's `@[irreducible]` trip theorem too), so they cover it. -/
theorem cover0_C_5 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) (y : S1x8x128.Idx) :
    ∃ pc ∈ (kernelRun0_C c i arg2 harg2 arg3 harg3 arg4 harg4 arg5 harg5 arg6 harg6 arg7 harg7 hc0 hc1 x0 x1 x2 x3 xo4).2.1, y ∈ pc.1.set :=
  View.cover_of_tiledL (kernelRun0_C c i arg2 harg2 arg3 harg3 arg4 harg4 arg5 harg5 arg6 harg6 arg7 harg7 hc0 hc1 x0 x1 x2 x3 xo4).2.1 S1x8x128.size (by sl_kernel_rfl) y

/-- What case C leaves in output 5's staging buffer: its pieces read back over junk. -/
def out0_C_5 (c : Dev nD) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (hc0 : ¬cond0_0 i) (hc1 : cond0_1 i)
    (x0 : Vec F S1024x1024 .fp8e4m3) (x1 : Vec F S1024x3072 .fp8e5m2) (x2 : Vec F S1x1x1024 .f32) (x3 : Vec F S1x1x1024 .f32) (xo4 : Vec F S1024x3072 .f32) : Vec F S1x8x128 .f32 :=
  VO0_5.read (Elt F) (VO0_5.writes (Elt F) VO0_5.junk (kernelRun0_C c i arg2 harg2 arg3 harg3 arg4 harg4 arg5 harg5 arg6 harg6 arg7 harg7 hc0 hc1 x0 x1 x2 x3 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x3072 .f32 × Vec F S1x8x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk W c 0 ⟨0, hn⟩) (iblk W c 1 ⟨0, hn⟩) (iblk W c 2 ⟨0, hn⟩) (iblk W c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk W c 0 ⟨0, hn⟩) (iblk W c 1 ⟨0, hn⟩) (iblk W c 2 ⟨0, hn⟩) (iblk W c 3 ⟨0, hn⟩))
  | n + 1, hn =>
    if h0 : (n + 1) % 16 = 0 then
      if h1 : (n + 1) % 16 = 15 then
        False.elim (by have hN : n + 1 < 192 := lt_of_lt_of_eq hn (show cfg0.N = 192 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk W c 0 ⟨n + 1, hn⟩) (iblk W c 1 ⟨n + 1, hn⟩) (iblk W c 2 ⟨n + 1, hn⟩) (iblk W c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk W c 0 ⟨n + 1, hn⟩) (iblk W c 1 ⟨n + 1, hn⟩) (iblk W c 2 ⟨n + 1, hn⟩) (iblk W c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk W c 0 ⟨n + 1, hn⟩) (iblk W c 1 ⟨n + 1, hn⟩) (iblk W c 2 ⟨n + 1, hn⟩) (iblk W c 3 ⟨n + 1, hn⟩) (outsAt0 c n (Nat.lt_of_succ_lt hn)).1)

/-- `outsAt0` at a point of case A: that case's contents. -/
theorem outsAt0_A (c : Dev nD) (t : Fin cfg0.N) (h0 : t.val % 16 = 0) (h1 : ¬t.val % 16 = 15) :
    outsAt0 W c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk W c 0 t) (iblk W c 1 t) (iblk W c 2 t) (iblk W c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk W c 0 t) (iblk W c 1 t) (iblk W c 2 t) (iblk W c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 W c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk W c 0 t) (iblk W c 1 t) (iblk W c 2 t) (iblk W c 3 t) (outsAt0 W c (t.val - 1) (Nat.lt_of_le_of_lt (Nat.sub_le _ _) t.isLt)).1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk W c 0 t) (iblk W c 1 t) (iblk W c 2 t) (iblk W c 3 t) (outsAt0 W c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 W c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk W c 0 t) (iblk W c 1 t) (iblk W c 2 t) (iblk W c 3 t) (outsAt0 W c (t.val - 1) (Nat.lt_of_le_of_lt (Nat.sub_le _ _) t.isLt)).1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk W c 0 t) (iblk W c 1 t) (iblk W c 2 t) (iblk W c 3 t) (outsAt0 W c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt0 W c t.val t.isLt).1
    | ⟨5, _⟩ => (outsAt0 W c t.val t.isLt).2
  Φ _ := Pipeline.scopedRest spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat W c).A w = V W c (Pipeline.arrRef spec0 w) := by
  dsimp only [dat]

/-- What the body leaves, window by window (the proof data's `match` reduced by `dsimp`). -/
theorem after0_0 (c : Dev nD) (t : Fin cfg0.N) : (dat W c).after 0 t = iblk W c 0 t := by dsimp only [dat]
theorem after0_1 (c : Dev nD) (t : Fin cfg0.N) : (dat W c).after 1 t = iblk W c 1 t := by dsimp only [dat]
theorem after0_2 (c : Dev nD) (t : Fin cfg0.N) : (dat W c).after 2 t = iblk W c 2 t := by dsimp only [dat]
theorem after0_3 (c : Dev nD) (t : Fin cfg0.N) : (dat W c).after 3 t = iblk W c 3 t := by dsimp only [dat]
theorem after0_4 (c : Dev nD) (t : Fin cfg0.N) : (dat W c).after 4 t = (outsAt0 W c t.val t.isLt).1 := by dsimp only [dat]
theorem after0_5 (c : Dev nD) (t : Fin cfg0.N) : (dat W c).after 5 t = (outsAt0 W c t.val t.isLt).2 := by dsimp only [dat]

/-- Each input's current staging buffer holds its block at every point, fetched there or not (`beforeK_W_of`). -/
theorem before0_0 (c : Dev nD) (t : Fin cfg0.N) (d) : (dat W c).before 0 t d = iblk W c 0 t :=
  before0_0_of W (dat W c) (A_eq W c 0) (after0_0 W c) t d
theorem before0_1 (c : Dev nD) (t : Fin cfg0.N) (d) : (dat W c).before 1 t d = iblk W c 1 t :=
  before0_1_of W (dat W c) (A_eq W c 1) (after0_1 W c) t d
theorem before0_2 (c : Dev nD) (t : Fin cfg0.N) (d) : (dat W c).before 2 t d = iblk W c 2 t :=
  before0_2_of W (dat W c) (A_eq W c 2) (after0_2 W c) t d
theorem before0_3 (c : Dev nD) (t : Fin cfg0.N) (d) : (dat W c).before 3 t d = iblk W c 3 t :=
  before0_3_of W (dat W c) (A_eq W c 3) (after0_3 W c) t d
/-- At a point of case B output 4's current staging buffer holds what the body left at the point before: the point is
    not the first, the buffer was not written back between (`flush0_4`), the window is live and uncut (Lib/Pipeline/Frame.lean
    `Dat.before_out_kept`). -/
theorem before0_4_B (c : Dev nD) (t : Fin cfg0.N) (h0 : ¬t.val % 16 = 0) (h1 : ¬t.val % 16 = 15) (d) :
    (dat W c).before 4 t d = (outsAt0 W c (t.val - 1) (Nat.lt_of_le_of_lt (Nat.sub_le _ _) t.isLt)).1 := by
  have hN : t.val < 192 := lt_of_lt_of_eq t.isLt (show cfg0.N = 192 from N_0)
  rw [Dat.before_out_kept _ 4 rfl t (by omega) (Bool.eq_false_iff.mpr fun h => by have := (flush0_4 _).mp h; dsimp only at this; omega)
    (fun _ => rfl) (fun _ _ => rfl)]
  dsimp only [dat]
/-- At a point of case C output 4's current staging buffer holds what the body left at the point before: the point is
    not the first, the buffer was not written back between (`flush0_4`), the window is live and uncut (Lib/Pipeline/Frame.lean
    `Dat.before_out_kept`). -/
theorem before0_4_C (c : Dev nD) (t : Fin cfg0.N) (h0 : ¬t.val % 16 = 0) (h1 : t.val % 16 = 15) (d) :
    (dat W c).before 4 t d = (outsAt0 W c (t.val - 1) (Nat.lt_of_le_of_lt (Nat.sub_le _ _) t.isLt)).1 := by
  have hN : t.val < 192 := lt_of_lt_of_eq t.isLt (show cfg0.N = 192 from N_0)
  rw [Dat.before_out_kept _ 4 rfl t (by omega) (Bool.eq_false_iff.mpr fun h => by have := (flush0_4 _).mp h; dsimp only at this; omega)
    (fun _ => rfl) (fun _ _ => rfl)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat W c).Φ t.castSucc ∗ (dat W c).owesAt () t.castSucc
    ∗ (∃ d, owns (c : Thread nD τ) (ms0_0 t) fullShare ((dat W c).before 0 t d))
    ∗ (∃ d, owns (c : Thread nD τ) (ms0_1 t) fullShare ((dat W c).before 1 t d))
    ∗ (∃ d, owns (c : Thread nD τ) (ms0_2 t) fullShare ((dat W c).before 2 t d))
    ∗ (∃ d, owns (c : Thread nD τ) (ms0_3 t) fullShare ((dat W c).before 3 t d))
    ∗ (∃ d, owns (c : Thread nD τ) (ms0_4 t) fullShare ((dat W c).before 4 t d))
    ∗ (∃ d, owns (c : Thread nD τ) (ms0_5 t) fullShare ((dat W c).before 5 t d)))

/-- and what it returns. -/
def bodyPost (c : Dev nD) (t : Fin cfg0.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t)

set_option maxHeartbeats 1200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2, before0_3]
  rw [show (dat W c).Φ t.succ = (dat W c).Φ t.castSucc from rfl,
    show (dat W c).owesAt () t.succ = (dat W c).owesAt () t.castSucc from rfl]
  have hN : t.val < 192 := lt_of_lt_of_eq t.isLt (show cfg0.N = 192 from N_0)
  by_cases h0 : t.val % 16 = 0
  · by_cases h1 : t.val % 16 = 15
    · exfalso; omega
    · rw [show (dat W c).leavesExact 0 t = owns (c : Thread nD τ) (ms0_0 t) fullShare ((dat W c).after 0 t) from by
      unfold Dat.leavesExact; rw [liveAt0_0 t], after0_0]
      rw [show (dat W c).leavesExact 1 t = owns (c : Thread nD τ) (ms0_1 t) fullShare ((dat W c).after 1 t) from by
      unfold Dat.leavesExact; rw [liveAt0_1 t], after0_1]
      rw [show (dat W c).leavesExact 2 t = owns (c : Thread nD τ) (ms0_2 t) fullShare ((dat W c).after 2 t) from by
      unfold Dat.leavesExact; rw [liveAt0_2 t], after0_2]
      rw [show (dat W c).leavesExact 3 t = owns (c : Thread nD τ) (ms0_3 t) fullShare ((dat W c).after 3 t) from by
      unfold Dat.leavesExact; rw [liveAt0_3 t], after0_3]
      rw [show (dat W c).leavesExact 4 t = owns (c : Thread nD τ) (ms0_4 t) fullShare ((dat W c).after 4 t) from by
      unfold Dat.leavesExact; rw [liveAt0_4 t], after0_4]
      rw [Dat.leavesExact_idle (dat W c) 5 t (idleAt0_5_A t ((hcond0_0 t).mpr h0) (fun h => h1 ((hcond0_1 t).mp h))) (noFlush0_5_A t ((hcond0_0 t).mpr h0) (fun h => h1 ((hcond0_1 t).mp h)))]
      rw [outsAt0_A W c t h0 h1]
      unfold out0_A_4; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk W c 0 t) (iblk W c 1 t) (iblk W c 2 t) (iblk W c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, ⟨%e4, H4⟩, H5⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _)
      iexists _; iexact H5
  · by_cases h1 : t.val % 16 = 15
    · rw [show (dat W c).leavesExact 0 t = owns (c : Thread nD τ) (ms0_0 t) fullShare ((dat W c).after 0 t) from by
      unfold Dat.leavesExact; rw [liveAt0_0 t], after0_0]
      rw [show (dat W c).leavesExact 1 t = owns (c : Thread nD τ) (ms0_1 t) fullShare ((dat W c).after 1 t) from by
      unfold Dat.leavesExact; rw [liveAt0_1 t], after0_1]
      rw [show (dat W c).leavesExact 2 t = owns (c : Thread nD τ) (ms0_2 t) fullShare ((dat W c).after 2 t) from by
      unfold Dat.leavesExact; rw [liveAt0_2 t], after0_2]
      rw [show (dat W c).leavesExact 3 t = owns (c : Thread nD τ) (ms0_3 t) fullShare ((dat W c).after 3 t) from by
      unfold Dat.leavesExact; rw [liveAt0_3 t], after0_3]
      rw [show (dat W c).leavesExact 4 t = owns (c : Thread nD τ) (ms0_4 t) fullShare ((dat W c).after 4 t) from by
      unfold Dat.leavesExact; rw [liveAt0_4 t], after0_4]
      rw [show (dat W c).leavesExact 5 t = owns (c : Thread nD τ) (ms0_5 t) fullShare ((dat W c).after 5 t) from by
      unfold Dat.leavesExact; rw [liveAt0_5_C t (fun h => h0 ((hcond0_0 t).mp h)) ((hcond0_1 t).mpr h1)], after0_5]
      rw [outsAt0_C W c t h0 h1]
      simp only [before0_4_C W c t h0 h1]
      unfold out0_C_4 out0_C_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ (fun h => h0 ((hcond0_0 t).mp h)) ((hcond0_1 t).mpr h1) (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _)
    · rw [show (dat W c).leavesExact 0 t = owns (c : Thread nD τ) (ms0_0 t) fullShare ((dat W c).after 0 t) from by
      unfold Dat.leavesExact; rw [liveAt0_0 t], after0_0]
      rw [show (dat W c).leavesExact 1 t = owns (c : Thread nD τ) (ms0_1 t) fullShare ((dat W c).after 1 t) from by
      unfold Dat.leavesExact; rw [liveAt0_1 t], after0_1]
      rw [show (dat W c).leavesExact 2 t = owns (c : Thread nD τ) (ms0_2 t) fullShare ((dat W c).after 2 t) from by
      unfold Dat.leavesExact; rw [liveAt0_2 t], after0_2]
      rw [show (dat W c).leavesExact 3 t = owns (c : Thread nD τ) (ms0_3 t) fullShare ((dat W c).after 3 t) from by
      unfold Dat.leavesExact; rw [liveAt0_3 t], after0_3]
      rw [show (dat W c).leavesExact 4 t = owns (c : Thread nD τ) (ms0_4 t) fullShare ((dat W c).after 4 t) from by
      unfold Dat.leavesExact; rw [liveAt0_4 t], after0_4]
      rw [Dat.leavesExact_idle (dat W c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B W c t h0 h1]
      simp only [before0_4_B W c t h0 h1]
      unfold out0_B_4; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) (fun h => h1 ((hcond0_1 t).mp h)) (iblk W c 0 t) (iblk W c 1 t) (iblk W c 2 t) (iblk W c 3 t) _).2.2 _ Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, ⟨%e4, H4⟩, H5⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _)
      iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat W c) (defs₀ (F := F)) Variants.none () Set.univ := fun t => by
  rw [bigSep_W0, bigSep_W0, defs₀_row]
  exact triple_restated (sound_body W c t) rfl .rfl fun _ => .rfl

end Cert.KernelIdeal.Wgrad

end
-- ==== Proof.KernelIdeal.AdamRun.lean ====
/-
The body of the second kernel (the Adam step), run once at a generic grid point, in its two cases.
-/
module

public import proofs.«01_k».proof.Proof.Gen.KernelIdeal.Loops
public import proofs.«01_k».proof.Proof.Gen.KernelIdeal.Regions
public import proofs.«01_k».proof.Proof.Gen.KernelIdeal.Points
public import Idealize.ShloMosaic.Lib.Tactic

@[expose] public section

set_option maxRecDepth 16384

noncomputable section

namespace Cert.KernelIdeal.Adam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's only conditional, from the grid coordinate. -/
abbrev cond1_0 (i : grid1.Coords) : Prop := (Scalar.cmpi .ne (Scalar.extui (Scalar.cmpi .eq (BitVec.ofNat 32 (i 0).val) 0#32)) 0#32) = 1#1

set_option maxHeartbeats 1000000 in
/-- The body at the first grid point, where its conditional is taken: on whole staging buffers holding `x0 … x7` it runs,
    and leaves in each output and in the scratch word a list of stored pieces (the witness the run finds). -/
noncomputable def run1A (c : Dev nD) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (hc0 : cond1_0 i)
    (x0 : Vec F S3 .f32) (x1 : Vec F S12x8x128 .f32) (x2 : Vec F S128x3072 .f32) (x3 : Vec F S128x3072 .bf16) (x4 : Vec F S128x3072 .i8) (x5 : Vec F S128x24 .f32) (x6 : Vec F S128x3072 .i8) (x7 : Vec F S128x24 .f32) :
    Σ' (L8 : List (View.Piece (Elt F) S128x3072 .bf16)), Σ' (L9 : List (View.Piece (Elt F) S128x3072 .f32)), Σ' (L10 : List (View.Piece (Elt F) S8x128 .f32)), Σ' (L11 : List (View.Piece (Elt F) S128x3072 .i8)), Σ' (L12 : List (View.Piece (Elt F) S128x24 .f32)), Σ' (L13 : List (View.Piece (Elt F) S128x3072 .i8)), Σ' (L14 : List (View.Piece (Elt F) S128x24 .f32)), { LS : List (View.Piece (Elt F) S1 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ (∃ f, arg11.view.loc (c : Thread nD τ) ↦[arg11.view.set]{fullShare} arg11.view.writes (Elt F) f L10)
            ∗ (∃ f, arg12.view.loc (c : Thread nD τ) ↦[arg12.view.set]{fullShare} arg12.view.writes (Elt F) f L11)
            ∗ (∃ f, arg13.view.loc (c : Thread nD τ) ↦[arg13.view.set]{fullShare} arg13.view.writes (Elt F) f L12)
            ∗ (∃ f, arg14.view.loc (c : Thread nD τ) ↦[arg14.view.set]{fullShare} arg14.view.writes (Elt F) f L13)
            ∗ (∃ f, arg15.view.loc (c : Thread nD τ) ↦[arg15.view.set]{fullShare} arg15.view.writes (Elt F) f L14)
            ∗ (∃ f, arg16.view.loc (c : Thread nD τ) ↦[arg16.view.set]{fullShare} arg16.view.writes (Elt F) f LS)) -∗ K ⟨⟩))
          ⊢ wp frame (wpE (defs₀ (F := F)) Variants.none c none) E (cc1_adam8bit i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc1_adam8bit_eq_skeleton]; unfold cc1_adam8bit_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds, %fs, -, HS⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HS

set_option maxHeartbeats 1000000 in
/-- The body at a later grid point, where its conditional is not taken and the scratch word holds `xs`: it runs, leaves
    in each output but the norm a list of stored pieces, and hands the norm's buffer and the scratch word back as they were. -/
noncomputable def run1B (c : Dev nD) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (hc0 : ¬cond1_0 i)
    (x0 : Vec F S3 .f32) (x1 : Vec F S12x8x128 .f32) (x2 : Vec F S128x3072 .f32) (x3 : Vec F S128x3072 .bf16) (x4 : Vec F S128x3072 .i8) (x5 : Vec F S128x24 .f32) (x6 : Vec F S128x3072 .i8) (x7 : Vec F S128x24 .f32) (xs : Vec F S1 .f32) :
    Σ' (L8 : List (View.Piece (Elt F) S128x3072 .bf16)), Σ' (L9 : List (View.Piece (Elt F) S128x3072 .f32)), Σ' (L11 : List (View.Piece (Elt F) S128x3072 .i8)), Σ' (L12 : List (View.Piece (Elt F) S128x24 .f32)), Σ' (L13 : List (View.Piece (Elt F) S128x3072 .i8)), { L14 : List (View.Piece (Elt F) S128x24 .f32) //
      ∀ (xi10 : Vec F S8x128 .f32) (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ (∃ d, owns (c : Thread nD τ) arg9 fullShare d)
          ∗ (∃ d, owns (c : Thread nD τ) arg10 fullShare d)
          ∗ owns (c : Thread nD τ) arg11 fullShare xi10
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ owns (c : Thread nD τ) arg16 fullShare xs
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ owns (c : Thread nD τ) arg11 fullShare xi10
            ∗ (∃ f, arg12.view.loc (c : Thread nD τ) ↦[arg12.view.set]{fullShare} arg12.view.writes (Elt F) f L11)
            ∗ (∃ f, arg13.view.loc (c : Thread nD τ) ↦[arg13.view.set]{fullShare} arg13.view.writes (Elt F) f L12)
            ∗ (∃ f, arg14.view.loc (c : Thread nD τ) ↦[arg14.view.set]{fullShare} arg14.view.writes (Elt F) f L13)
            ∗ (∃ f, arg15.view.loc (c : Thread nD τ) ↦[arg15.view.set]{fullShare} arg15.view.writes (Elt F) f L14)
            ∗ owns (c : Thread nD τ) arg16 fullShare xs) -∗ K ⟨⟩))
          ⊢ wp frame (wpE (defs₀ (F := F)) Variants.none c none) E (cc1_adam8bit i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun xi10 E K => ?run⟩
  case run =>
    simp only [cc1_adam8bit_eq_skeleton]; unfold cc1_adam8bit_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%d12, %f12, -, H12⟩, ⟨%d13, %f13, -, H13⟩, ⟨%d14, %f14, -, H14⟩, ⟨%fs, %hfs, HS⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg11.eq_unread hf10
    obtain rfl := harg16.eq_unread hfs
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    iexists _; isplitr; · ipureintro; exact harg16.read_unread _
    iexact HS

end Cert.KernelIdeal.Adam

end
-- ==== Proof.KernelIdeal.AdamCover.lean ====
/-
The pieces the body of the second pallas_call stores cover each of its outputs' blocks.
-/
module

public import proofs.«01_k».proof.Proof.KernelIdeal.AdamRun
public import Idealize.ShloMosaic.Lib.Ring

@[expose] public section

set_option maxRecDepth 16384

noncomputable section

namespace Cert.KernelIdeal.Adam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (x0 : Vec F S3 .f32) (x1 : Vec F S12x8x128 .f32) (x2 : Vec F S128x3072 .f32) (x3 : Vec F S128x3072 .bf16) (x4 : Vec F S128x3072 .i8) (x5 : Vec F S128x24 .f32) (x6 : Vec F S128x3072 .i8) (x7 : Vec F S128x24 .f32)

/-- At the first grid point the pieces stored in output 8 cover its block. -/
theorem cover1_A_8 (hc0 : cond1_0 i) (y : S128x3072.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1 S32x128.size (by sl_kernel_rfl) y

/-- At the first grid point the pieces stored in output 9 cover its block. -/
theorem cover1_A_9 (hc0 : cond1_0 i) (y : S128x3072.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1 S32x128.size (by sl_kernel_rfl) y

/-- At the first grid point the pieces stored in output 10 cover its block. -/
theorem cover1_A_10 (hc0 : cond1_0 i) (y : S8x128.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1 S8x128.size (by sl_kernel_rfl) y

/-- At the first grid point the pieces stored in output 11 cover its block. -/
theorem cover1_A_11 (hc0 : cond1_0 i) (y : S128x3072.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1 S32x128.size (by sl_kernel_rfl) y

/-- At the first grid point the pieces stored in output 12 cover its block. -/
theorem cover1_A_12 (hc0 : cond1_0 i) (y : S128x24.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1 S32x24.size (by sl_kernel_rfl) y

/-- At the first grid point the pieces stored in output 13 cover its block. -/
theorem cover1_A_13 (hc0 : cond1_0 i) (y : S128x3072.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1 S32x128.size (by sl_kernel_rfl) y

/-- At the first grid point the pieces stored in output 14 cover its block. -/
theorem cover1_A_14 (hc0 : cond1_0 i) (y : S128x24.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1 S32x24.size (by sl_kernel_rfl) y

/-- At the first grid point the pieces stored in the scratch word cover its block. -/
theorem cover1_A_S (hc0 : cond1_0 i) (y : S1.Idx) :
    ∃ pc ∈ (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.2.1, y ∈ pc.1.set :=
  View.cover_of_tiledL (run1A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.2.1 S1.size (by sl_kernel_rfl) y

/-- At a later grid point the pieces stored in output 8 cover its block. -/
theorem cover1_B_8 (hc0 : ¬cond1_0 i) (xs : Vec F S1 .f32) (y : S128x3072.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).1 S32x128.size (by sl_kernel_rfl) y

/-- At a later grid point the pieces stored in output 9 cover its block. -/
theorem cover1_B_9 (hc0 : ¬cond1_0 i) (xs : Vec F S1 .f32) (y : S128x3072.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.1 S32x128.size (by sl_kernel_rfl) y

/-- At a later grid point the pieces stored in output 11 cover its block. -/
theorem cover1_B_11 (hc0 : ¬cond1_0 i) (xs : Vec F S1 .f32) (y : S128x3072.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.1 S32x128.size (by sl_kernel_rfl) y

/-- At a later grid point the pieces stored in output 12 cover its block. -/
theorem cover1_B_12 (hc0 : ¬cond1_0 i) (xs : Vec F S1 .f32) (y : S128x24.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.1 S32x24.size (by sl_kernel_rfl) y

/-- At a later grid point the pieces stored in output 13 cover its block. -/
theorem cover1_B_13 (hc0 : ¬cond1_0 i) (xs : Vec F S1 .f32) (y : S128x3072.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.2.1 S32x128.size (by sl_kernel_rfl) y

/-- At a later grid point the pieces stored in output 14 cover its block. -/
theorem cover1_B_14 (hc0 : ¬cond1_0 i) (xs : Vec F S1 .f32) (y : S128x24.Idx) :
    ∃ pc ∈ (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.2.2.1, y ∈ pc.1.set :=
  View.cover_of_tiledL (run1B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs).2.2.2.2.2.1 S32x24.size (by sl_kernel_rfl) y

end

end Cert.KernelIdeal.Adam

end
-- ==== Proof.KernelIdeal.AdamDat.lean ====
/-
The second pallas_call (the Adam step): the proof data of its pipeline and the body obligation, from any contents of the
buffers when the region is entered. The scratch word is carried from the first grid point on, and so is the norm's buffer,
which only the first point stores.
-/
module

public import proofs.«01_k».proof.Proof.KernelIdeal.AdamCover
public import proofs.«01_k».proof.Proof.Gen.KernelIdeal.Launch
public import proofs.«01_k».proof.Proof.Gen.KernelIdeal.Regions
public import Idealize.ShloMosaic.Lib.Pipeline.FrameBody
public import Idealize.ShloMosaic.Lib.Pipeline.TableIdle
public import Idealize.ShloMosaic.Lib.Ring
public import Idealize.ShloMosaic.Lib.WordCmp

@[expose] public section

set_option maxRecDepth 16384

noncomputable section

namespace Cert.KernelIdeal.Adam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The contents of core `c`'s TensorCore buffers when the region is entered. -/
abbrev V (c : Dev nD) (b : Ref sig .tc) : Buf (Elt F) ((c : Thread nD τ).loc b) := W c (Proc.devRef .tc b)

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V W c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V W c (Pipeline.arrRef spec1 0))
    (hafter : ∀ t, dat.after 0 t = iblk W c 0 t) (t : Fin cfg1.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_1_of {c : Dev nD} (dat : Dat τ (Elt F) Unit ℕ (UR sig nD τ) ℕ cfg1 c) (hA : dat.A 1 = V W c (Pipeline.arrRef spec1 1))
    (hafter : ∀ t, dat.after 1 t = iblk W c 1 t) (t : Fin cfg1.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before1_2_of {c : Dev nD} (dat : Dat τ (Elt F) Unit ℕ (UR sig nD τ) ℕ cfg1 c) (hA : dat.A 2 = V W c (Pipeline.arrRef spec1 2))
    (hafter : ∀ t, dat.after 2 t = iblk W c 2 t) (t : Fin cfg1.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before1_3_of {c : Dev nD} (dat : Dat τ (Elt F) Unit ℕ (UR sig nD τ) ℕ cfg1 c) (hA : dat.A 3 = V W c (Pipeline.arrRef spec1 3))
    (hafter : ∀ t, dat.after 3 t = iblk W c 3 t) (t : Fin cfg1.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before1_4_of {c : Dev nD} (dat : Dat τ (Elt F) Unit ℕ (UR sig nD τ) ℕ cfg1 c) (hA : dat.A 4 = V W c (Pipeline.arrRef spec1 4))
    (hafter : ∀ t, dat.after 4 t = iblk W c 4 t) (t : Fin cfg1.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before1_5_of {c : Dev nD} (dat : Dat τ (Elt F) Unit ℕ (UR sig nD τ) ℕ cfg1 c) (hA : dat.A 5 = V W c (Pipeline.arrRef spec1 5))
    (hafter : ∀ t, dat.after 5 t = iblk W c 5 t) (t : Fin cfg1.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before1_6_of {c : Dev nD} (dat : Dat τ (Elt F) Unit ℕ (UR sig nD τ) ℕ cfg1 c) (hA : dat.A 6 = V W c (Pipeline.arrRef spec1 6))
    (hafter : ∀ t, dat.after 6 t = iblk W c 6 t) (t : Fin cfg1.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before1_7_of {c : Dev nD} (dat : Dat τ (Elt F) Unit ℕ (UR sig nD τ) ℕ cfg1 c) (hA : dat.A 7 = V W c (Pipeline.arrRef spec1 7))
    (hafter : ∀ t, dat.after 7 t = iblk W c 7 t) (t : Fin cfg1.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The body's conditional is taken at the first point only. -/
theorem hcond1_0 : ∀ t : Fin cfg1.N, cond1_0 (grid1.coords t) ↔ t.val = 0 :=
  (fun t => by
    have ht : t.val < 96 := Nat.lt_of_lt_of_eq t.isLt N_1
    have e0 : (grid1.coords t 0).val = t.val / 1 % 96 := Pipeline.Grid.coords_val t 0 (by decide) rfl
    simp only [cond1_0, e0]
    word_cmp
   : ∀ t : Fin grid1.N, cond1_0 (grid1.coords t) ↔ t.val = 0)

/-- The norm's window is idle at every point but the first. -/
theorem idleAt1_10 : ∀ t : Fin cfg1.N, t.val ≠ 0 → cfg1.idle 10 (grid1.coords t) = true := by decide +kernel
/-- The norm's window is stored at the first point. -/
theorem liveAt1_10 : ∀ t : Fin cfg1.N, t.val = 0 → cfg1.idle 10 (grid1.coords t) = false := by decide +kernel
/-- Window 0 is never idle. -/
theorem liveAt1_0 : ∀ t : Fin cfg1.N, cfg1.idle 0 (grid1.coords t) = false := fun _ => rfl
/-- Window 1 is never idle. -/
theorem liveAt1_1 : ∀ t : Fin cfg1.N, cfg1.idle 1 (grid1.coords t) = false := fun _ => rfl
/-- Window 2 is never idle. -/
theorem liveAt1_2 : ∀ t : Fin cfg1.N, cfg1.idle 2 (grid1.coords t) = false := fun _ => rfl
/-- Window 3 is never idle. -/
theorem liveAt1_3 : ∀ t : Fin cfg1.N, cfg1.idle 3 (grid1.coords t) = false := fun _ => rfl
/-- Window 4 is never idle. -/
theorem liveAt1_4 : ∀ t : Fin cfg1.N, cfg1.idle 4 (grid1.coords t) = false := fun _ => rfl
/-- Window 5 is never idle. -/
theorem liveAt1_5 : ∀ t : Fin cfg1.N, cfg1.idle 5 (grid1.coords t) = false := fun _ => rfl
/-- Window 6 is never idle. -/
theorem liveAt1_6 : ∀ t : Fin cfg1.N, cfg1.idle 6 (grid1.coords t) = false := fun _ => rfl
/-- Window 7 is never idle. -/
theorem liveAt1_7 : ∀ t : Fin cfg1.N, cfg1.idle 7 (grid1.coords t) = false := fun _ => rfl
/-- Window 8 is never idle. -/
theorem liveAt1_8 : ∀ t : Fin cfg1.N, cfg1.idle 8 (grid1.coords t) = false := fun _ => rfl
/-- Window 9 is never idle. -/
theorem liveAt1_9 : ∀ t : Fin cfg1.N, cfg1.idle 9 (grid1.coords t) = false := fun _ => rfl
/-- Window 11 is never idle. -/
theorem liveAt1_11 : ∀ t : Fin cfg1.N, cfg1.idle 11 (grid1.coords t) = false := fun _ => rfl
/-- Window 12 is never idle. -/
theorem liveAt1_12 : ∀ t : Fin cfg1.N, cfg1.idle 12 (grid1.coords t) = false := fun _ => rfl
/-- Window 13 is never idle. -/
theorem liveAt1_13 : ∀ t : Fin cfg1.N, cfg1.idle 13 (grid1.coords t) = false := fun _ => rfl
/-- Window 14 is never idle. -/
theorem liveAt1_14 : ∀ t : Fin cfg1.N, cfg1.idle 14 (grid1.coords t) = false := fun _ => rfl
/-- The norm's buffer holds nothing stored exactly before the first point (and after the last). -/
theorem fresh1_10 (n : ℕ) (h : n ≤ cfg1.N) : cfg1.fresh 10 n = decide (n = 0 ∨ n = 96) :=
  cfg1.fresh_tab 10 (fun n => decide (n = 0 ∨ n = 96)) rfl (by decide +kernel) n h

/-- One buffer of output window 8, through which its contents are stated. -/
abbrev VO1_8 : View sig .tc .vmem S128x3072 .bf16 := (Memref.whole cc1_stg8_0 : Memref sig .tc .vmem S128x3072 .bf16).view
/-- One buffer of output window 9, through which its contents are stated. -/
abbrev VO1_9 : View sig .tc .vmem S128x3072 .f32 := (Memref.whole cc1_stg9_0 : Memref sig .tc .vmem S128x3072 .f32).view
/-- One buffer of output window 10, through which its contents are stated. -/
abbrev VO1_10 : View sig .tc .vmem S8x128 .f32 := (Memref.whole cc1_stg10_0 : Memref sig .tc .vmem S8x128 .f32).view
/-- One buffer of output window 11, through which its contents are stated. -/
abbrev VO1_11 : View sig .tc .vmem S128x3072 .i8 := (Memref.whole cc1_stg11_0 : Memref sig .tc .vmem S128x3072 .i8).view
/-- One buffer of output window 12, through which its contents are stated. -/
abbrev VO1_12 : View sig .tc .vmem S128x24 .f32 := (Memref.whole cc1_stg12_0 : Memref sig .tc .vmem S128x24 .f32).view
/-- One buffer of output window 13, through which its contents are stated. -/
abbrev VO1_13 : View sig .tc .vmem S128x3072 .i8 := (Memref.whole cc1_stg13_0 : Memref sig .tc .vmem S128x3072 .i8).view
/-- One buffer of output window 14, through which its contents are stated. -/
abbrev VO1_14 : View sig .tc .vmem S128x24 .f32 := (Memref.whole cc1_stg14_0 : Memref sig .tc .vmem S128x24 .f32).view
/-- One buffer of the scratch word, through which its contents are stated. -/
abbrev VO1_S : View sig .tc .smem S1 .f32 := (Memref.whole cc1_scratch0 : Memref sig .tc .smem S1 .f32).view
/-- Each window's current staging memref at point `t`, and its wholeness. -/
abbrev ms1_0 (t : Fin cfg1.N) : Memref sig .tc .smem S3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S12x8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x3072 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x3072 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x3072 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x24 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x3072 .i8 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x24 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x3072 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x3072 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x3072 .i8 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x24 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S128x3072 .i8 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x24 .f32 := win1_14.stage (cfg1.slots t 14)
abbrev hs1_14 (t : Fin cfg1.N) : (ms1_14 t).IsWhole := hstage1_14 ((cfg1.slots t 14).cast nbuf1_14)
/-- The scratch word, whole. -/
abbrev scM : Memref sig .tc .smem S1 .f32 := Memref.whole cc1_scratch0
/-- The scratch word's memref is whole. -/
abbrev hscM : scM.IsWhole := Memref.isWhole_whole _

/-- The body's run at the first point, on the point's buffers and blocks. -/
abbrev runA (c : Dev nD) (t : Fin cfg1.N) (h : t.val = 0) :=
  run1A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM ((hcond1_0 t).mpr h) (iblk W c 0 t) (iblk W c 1 t) (iblk W c 2 t) (iblk W c 3 t) (iblk W c 4 t) (iblk W c 5 t) (iblk W c 6 t) (iblk W c 7 t)
/-- The body's run at a later point, on the point's buffers and blocks, the scratch word at `xs`. -/
abbrev runB (c : Dev nD) (t : Fin cfg1.N) (h : ¬t.val = 0) (xs : Vec F S1 .f32) :=
  run1B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (fun h' => h ((hcond1_0 t).mp h')) (iblk W c 0 t) (iblk W c 1 t) (iblk W c 2 t) (iblk W c 3 t) (iblk W c 4 t) (iblk W c 5 t) (iblk W c 6 t) (iblk W c 7 t) xs

/-- The first grid point. -/
def t0 : Fin cfg1.N := ⟨0, lt_of_lt_of_eq (by decide : 0 < 96) (show 96 = cfg1.N from N_1.symm)⟩

/-- The scratch word after the first point. -/
def scv (c : Dev nD) : Vec F S1 .f32 := VO1_S.read (Elt F) (VO1_S.writes (Elt F) VO1_S.junk (runA W c t0 rfl).2.2.2.2.2.2.2.1)
/-- The norm's block after the first point. -/
def nrm (c : Dev nD) : Vec F S8x128 .f32 := VO1_10.read (Elt F) (VO1_10.writes (Elt F) VO1_10.junk (runA W c t0 rfl).2.2.1)
/-- Output 8's block after the body at point `t`. -/
def out8 (c : Dev nD) (t : Fin cfg1.N) : Vec F S128x3072 .bf16 :=
  if h : t.val = 0 then VO1_8.read (Elt F) (VO1_8.writes (Elt F) VO1_8.junk (runA W c t h).1)
  else VO1_8.read (Elt F) (VO1_8.writes (Elt F) VO1_8.junk (runB W c t h (scv W c)).1)
/-- Output 9's block after the body at point `t`. -/
def out9 (c : Dev nD) (t : Fin cfg1.N) : Vec F S128x3072 .f32 :=
  if h : t.val = 0 then VO1_9.read (Elt F) (VO1_9.writes (Elt F) VO1_9.junk (runA W c t h).2.1)
  else VO1_9.read (Elt F) (VO1_9.writes (Elt F) VO1_9.junk (runB W c t h (scv W c)).2.1)
/-- Output 11's block after the body at point `t`. -/
def out11 (c : Dev nD) (t : Fin cfg1.N) : Vec F S128x3072 .i8 :=
  if h : t.val = 0 then VO1_11.read (Elt F) (VO1_11.writes (Elt F) VO1_11.junk (runA W c t h).2.2.2.1)
  else VO1_11.read (Elt F) (VO1_11.writes (Elt F) VO1_11.junk (runB W c t h (scv W c)).2.2.1)
/-- Output 12's block after the body at point `t`. -/
def out12 (c : Dev nD) (t : Fin cfg1.N) : Vec F S128x24 .f32 :=
  if h : t.val = 0 then VO1_12.read (Elt F) (VO1_12.writes (Elt F) VO1_12.junk (runA W c t h).2.2.2.2.1)
  else VO1_12.read (Elt F) (VO1_12.writes (Elt F) VO1_12.junk (runB W c t h (scv W c)).2.2.2.1)
/-- Output 13's block after the body at point `t`. -/
def out13 (c : Dev nD) (t : Fin cfg1.N) : Vec F S128x3072 .i8 :=
  if h : t.val = 0 then VO1_13.read (Elt F) (VO1_13.writes (Elt F) VO1_13.junk (runA W c t h).2.2.2.2.2.1)
  else VO1_13.read (Elt F) (VO1_13.writes (Elt F) VO1_13.junk (runB W c t h (scv W c)).2.2.2.2.1)
/-- Output 14's block after the body at point `t`. -/
def out14 (c : Dev nD) (t : Fin cfg1.N) : Vec F S128x24 .f32 :=
  if h : t.val = 0 then VO1_14.read (Elt F) (VO1_14.writes (Elt F) VO1_14.junk (runA W c t h).2.2.2.2.2.2.1)
  else VO1_14.read (Elt F) (VO1_14.writes (Elt F) VO1_14.junk (runB W c t h (scv W c)).2.2.2.2.2.1)

/-- The other region's staging buffers, each whole at some contents: what rides along untouched. -/
def restR (c : Dev nD) : sProp 𝕄 :=
  iprop((∃ f : Buf (Elt F) ((c : Thread nD τ).loc cc0_stg0_0), ((c : Thread nD τ).loc cc0_stg0_0) ↦{fullShare} f) ∗
    (∃ f : Buf (Elt F) ((c : Thread nD τ).loc cc0_stg0_1), ((c : Thread nD τ).loc cc0_stg0_1) ↦{fullShare} f) ∗
    (∃ f : Buf (Elt F) ((c : Thread nD τ).loc cc0_stg1_0), ((c : Thread nD τ).loc cc0_stg1_0) ↦{fullShare} f) ∗
    (∃ f : Buf (Elt F) ((c : Thread nD τ).loc cc0_stg1_1), ((c : Thread nD τ).loc cc0_stg1_1) ↦{fullShare} f) ∗
    (∃ f : Buf (Elt F) ((c : Thread nD τ).loc cc0_stg2_0), ((c : Thread nD τ).loc cc0_stg2_0) ↦{fullShare} f) ∗
    (∃ f : Buf (Elt F) ((c : Thread nD τ).loc cc0_stg2_1), ((c : Thread nD τ).loc cc0_stg2_1) ↦{fullShare} f) ∗
    (∃ f : Buf (Elt F) ((c : Thread nD τ).loc cc0_stg3_0), ((c : Thread nD τ).loc cc0_stg3_0) ↦{fullShare} f) ∗
    (∃ f : Buf (Elt F) ((c : Thread nD τ).loc cc0_stg3_1), ((c : Thread nD τ).loc cc0_stg3_1) ↦{fullShare} f) ∗
    (∃ f : Buf (Elt F) ((c : Thread nD τ).loc cc0_stg4_0), ((c : Thread nD τ).loc cc0_stg4_0) ↦{fullShare} f) ∗
    (∃ f : Buf (Elt F) ((c : Thread nD τ).loc cc0_stg4_1), ((c : Thread nD τ).loc cc0_stg4_1) ↦{fullShare} f) ∗
    (∃ f : Buf (Elt F) ((c : Thread nD τ).loc cc0_stg5_0), ((c : Thread nD τ).loc cc0_stg5_0) ↦{fullShare} f) ∗
    (∃ f : Buf (Elt F) ((c : Thread nD τ).loc cc0_stg5_1), ((c : Thread nD τ).loc cc0_stg5_1) ↦{fullShare} f))

/-- The scoped rest of the second region: the other region's staging buffers and the scratch word. -/
theorem scoped_split (c : Dev nD) :
    (Pipeline.scopedRest spec1 c : sProp 𝕄) ⊢ iprop(restR c ∗ (∃ d, owns (c : Thread nD τ) scM fullShare d)) := by
  rw [scopedRest1_eq]; unfold restR; simp only [scM, owns_whole]
  iintro ⟨H0, H1, H2, H3, H4, H5, H6, H7, H8, H9, H10, H11, HS⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iexact HS

/-- And back. -/
theorem scoped_join (c : Dev nD) :
    iprop(restR c ∗ (∃ d, owns (c : Thread nD τ) scM fullShare d)) ⊢ (Pipeline.scopedRest spec1 c : sProp 𝕄) := by
  rw [scopedRest1_eq]; unfold restR; simp only [scM, owns_whole]
  iintro ⟨⟨H0, H1, H2, H3, H4, H5, H6, H7, H8, H9, H10, H11⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

/-- The scratch word before position `n`: at anything before the first point, then at what that point stored. -/
def scrAt (c : Dev nD) (n : ℕ) : sProp 𝕄 :=
  if n = 0 then iprop(∃ d, owns (c : Thread nD τ) scM fullShare d) else owns (c : Thread nD τ) scM fullShare (scv W c)

/-- The proof data of the second pipeline on core `c`. -/
def dat (c : Dev nD) : Dat τ (Elt F) Unit ℕ (UR sig nD τ) ℕ cfg1 c where
  A w := V W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => out8 W c t
    | ⟨9, _⟩ => out9 W c t
    | ⟨10, _⟩ => nrm W c
    | ⟨11, _⟩ => out11 W c t
    | ⟨12, _⟩ => out12 W c t
    | ⟨13, _⟩ => out13 W c t
    | ⟨14, _⟩ => out14 W c t
  Φ n := iprop(restR c ∗ scrAt W c n.val)
  q _ := fullShare
  owed _ := 0

/-- The proof data's arrays are the region-entry contents. -/
theorem A_eq (c : Dev nD) (w : Fin cfg1.W) : (dat W c).A w = V W c (Pipeline.arrRef spec1 w) := by
  dsimp only [dat]

/-! What the body leaves, window by window. -/
theorem after1_0 (c : Dev nD) (t : Fin cfg1.N) : (dat W c).after 0 t = iblk W c 0 t := by dsimp only [dat]
theorem after1_1 (c : Dev nD) (t : Fin cfg1.N) : (dat W c).after 1 t = iblk W c 1 t := by dsimp only [dat]
theorem after1_2 (c : Dev nD) (t : Fin cfg1.N) : (dat W c).after 2 t = iblk W c 2 t := by dsimp only [dat]
theorem after1_3 (c : Dev nD) (t : Fin cfg1.N) : (dat W c).after 3 t = iblk W c 3 t := by dsimp only [dat]
theorem after1_4 (c : Dev nD) (t : Fin cfg1.N) : (dat W c).after 4 t = iblk W c 4 t := by dsimp only [dat]
theorem after1_5 (c : Dev nD) (t : Fin cfg1.N) : (dat W c).after 5 t = iblk W c 5 t := by dsimp only [dat]
theorem after1_6 (c : Dev nD) (t : Fin cfg1.N) : (dat W c).after 6 t = iblk W c 6 t := by dsimp only [dat]
theorem after1_7 (c : Dev nD) (t : Fin cfg1.N) : (dat W c).after 7 t = iblk W c 7 t := by dsimp only [dat]
theorem after1_8 (c : Dev nD) (t : Fin cfg1.N) : (dat W c).after 8 t = out8 W c t := by dsimp only [dat]
theorem after1_9 (c : Dev nD) (t : Fin cfg1.N) : (dat W c).after 9 t = out9 W c t := by dsimp only [dat]
theorem after1_10 (c : Dev nD) (t : Fin cfg1.N) : (dat W c).after 10 t = nrm W c := by dsimp only [dat]
theorem after1_11 (c : Dev nD) (t : Fin cfg1.N) : (dat W c).after 11 t = out11 W c t := by dsimp only [dat]
theorem after1_12 (c : Dev nD) (t : Fin cfg1.N) : (dat W c).after 12 t = out12 W c t := by dsimp only [dat]
theorem after1_13 (c : Dev nD) (t : Fin cfg1.N) : (dat W c).after 13 t = out13 W c t := by dsimp only [dat]
theorem after1_14 (c : Dev nD) (t : Fin cfg1.N) : (dat W c).after 14 t = out14 W c t := by dsimp only [dat]

/-! What the body finds in each input's staging buffer. -/
theorem before1_0 (c : Dev nD) (t : Fin cfg1.N) (d) : (dat W c).before 0 t d = iblk W c 0 t :=
  before1_0_of W (dat W c) (A_eq W c 0) (after1_0 W c) t d
theorem before1_1 (c : Dev nD) (t : Fin cfg1.N) (d) : (dat W c).before 1 t d = iblk W c 1 t :=
  before1_1_of W (dat W c) (A_eq W c 1) (after1_1 W c) t d
theorem before1_2 (c : Dev nD) (t : Fin cfg1.N) (d) : (dat W c).before 2 t d = iblk W c 2 t :=
  before1_2_of W (dat W c) (A_eq W c 2) (after1_2 W c) t d
theorem before1_3 (c : Dev nD) (t : Fin cfg1.N) (d) : (dat W c).before 3 t d = iblk W c 3 t :=
  before1_3_of W (dat W c) (A_eq W c 3) (after1_3 W c) t d
theorem before1_4 (c : Dev nD) (t : Fin cfg1.N) (d) : (dat W c).before 4 t d = iblk W c 4 t :=
  before1_4_of W (dat W c) (A_eq W c 4) (after1_4 W c) t d
theorem before1_5 (c : Dev nD) (t : Fin cfg1.N) (d) : (dat W c).before 5 t d = iblk W c 5 t :=
  before1_5_of W (dat W c) (A_eq W c 5) (after1_5 W c) t d
theorem before1_6 (c : Dev nD) (t : Fin cfg1.N) (d) : (dat W c).before 6 t d = iblk W c 6 t :=
  before1_6_of W (dat W c) (A_eq W c 6) (after1_6 W c) t d
theorem before1_7 (c : Dev nD) (t : Fin cfg1.N) (d) : (dat W c).before 7 t d = iblk W c 7 t :=
  before1_7_of W (dat W c) (A_eq W c 7) (after1_7 W c) t d

/-- After the first point the norm's buffer holds what that point stored. -/
theorem before1_10 (c : Dev nD) (t : Fin cfg1.N) (h : ¬t.val = 0) (d) : (dat W c).before 10 t d = nrm W c := by
  have hN : t.val < 96 := lt_of_lt_of_eq t.isLt (show cfg1.N = 96 from N_1)
  rw [Dat.before_out_traj (dat W c) 10 rfl (fun _ _ => rfl) (fun t _ _ _ => by rw [after1_10, after1_10]) t.val t rfl d,
    fresh1_10 t.val (Nat.le_of_lt t.isLt), if_neg (by simp only [decide_eq_true_eq]; omega), after1_10]

/-- Handing the norm's buffer back untouched leaves it as the pipeline wants it, written back there or not. -/
theorem leaves1_10 (c : Dev nD) (t : Fin cfg1.N) (h : ¬t.val = 0) :
    (owns (c : Thread nD τ) (ms1_10 t) fullShare (nrm W c) : sProp 𝕄) ⊢ (dat W c).leavesExact 10 t := by
  cases hf : (cfg1.win 10).flush t
  · rw [Dat.leavesExact_idle (dat W c) 10 t (idleAt1_10 t h) hf]
    iintro H; iexists (nrm W c); rw [before1_10 W c t h]; iexact H
  · rw [show (dat W c).leavesExact 10 t = owns (c : Thread nD τ) (ms1_10 t) fullShare ((dat W c).after 10 t) from by
      unfold Dat.leavesExact; rw [idleAt1_10 t h, hf], after1_10]

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (ms1_0 t) fullShare ((dat W c).before 0 t d))
    ∗ (∃ d, owns (c : Thread nD τ) (ms1_1 t) fullShare ((dat W c).before 1 t d))
    ∗ (∃ d, owns (c : Thread nD τ) (ms1_2 t) fullShare ((dat W c).before 2 t d))
    ∗ (∃ d, owns (c : Thread nD τ) (ms1_3 t) fullShare ((dat W c).before 3 t d))
    ∗ (∃ d, owns (c : Thread nD τ) (ms1_4 t) fullShare ((dat W c).before 4 t d))
    ∗ (∃ d, owns (c : Thread nD τ) (ms1_5 t) fullShare ((dat W c).before 5 t d))
    ∗ (∃ d, owns (c : Thread nD τ) (ms1_6 t) fullShare ((dat W c).before 6 t d))
    ∗ (∃ d, owns (c : Thread nD τ) (ms1_7 t) fullShare ((dat W c).before 7 t d))
    ∗ (∃ d, owns (c : Thread nD τ) (ms1_8 t) fullShare ((dat W c).before 8 t d))
    ∗ (∃ d, owns (c : Thread nD τ) (ms1_9 t) fullShare ((dat W c).before 9 t d))
    ∗ (∃ d, owns (c : Thread nD τ) (ms1_10 t) fullShare ((dat W c).before 10 t d))
    ∗ (∃ d, owns (c : Thread nD τ) (ms1_11 t) fullShare ((dat W c).before 11 t d))
    ∗ (∃ d, owns (c : Thread nD τ) (ms1_12 t) fullShare ((dat W c).before 12 t d))
    ∗ (∃ d, owns (c : Thread nD τ) (ms1_13 t) fullShare ((dat W c).before 13 t d))
    ∗ (∃ d, owns (c : Thread nD τ) (ms1_14 t) fullShare ((dat W c).before 14 t d)))

/-- and what it returns. -/
def bodyPost (c : Dev nD) (t : Fin cfg1.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t
    ∗ (dat W c).leavesExact 7 t
    ∗ (dat W c).leavesExact 8 t
    ∗ (dat W c).leavesExact 9 t
    ∗ (dat W c).leavesExact 10 t
    ∗ (dat W c).leavesExact 11 t
    ∗ (dat W c).leavesExact 12 t
    ∗ (dat W c).leavesExact 13 t
    ∗ (dat W c).leavesExact 14 t)

set_option maxHeartbeats 1600000 in
/-- The body at the first point. -/
theorem sound_bodyA (c : Dev nD) (t : Fin cfg1.N) (h : t.val = 0) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4, before1_5, before1_6, before1_7]
  rw [show (dat W c).Φ t.succ = iprop(restR c ∗ scrAt W c (t.val + 1)) from rfl,
    show (dat W c).Φ t.castSucc = iprop(restR c ∗ scrAt W c t.val) from rfl,
    show (dat W c).owesAt () t.succ = (dat W c).owesAt () t.castSucc from rfl]
  unfold scrAt
  rw [if_neg (Nat.succ_ne_zero _), if_pos h]
  rw [show (dat W c).leavesExact 0 t = owns (c : Thread nD τ) (ms1_0 t) fullShare ((dat W c).after 0 t) from by
    unfold Dat.leavesExact; rw [liveAt1_0 t], after1_0]
  rw [show (dat W c).leavesExact 1 t = owns (c : Thread nD τ) (ms1_1 t) fullShare ((dat W c).after 1 t) from by
    unfold Dat.leavesExact; rw [liveAt1_1 t], after1_1]
  rw [show (dat W c).leavesExact 2 t = owns (c : Thread nD τ) (ms1_2 t) fullShare ((dat W c).after 2 t) from by
    unfold Dat.leavesExact; rw [liveAt1_2 t], after1_2]
  rw [show (dat W c).leavesExact 3 t = owns (c : Thread nD τ) (ms1_3 t) fullShare ((dat W c).after 3 t) from by
    unfold Dat.leavesExact; rw [liveAt1_3 t], after1_3]
  rw [show (dat W c).leavesExact 4 t = owns (c : Thread nD τ) (ms1_4 t) fullShare ((dat W c).after 4 t) from by
    unfold Dat.leavesExact; rw [liveAt1_4 t], after1_4]
  rw [show (dat W c).leavesExact 5 t = owns (c : Thread nD τ) (ms1_5 t) fullShare ((dat W c).after 5 t) from by
    unfold Dat.leavesExact; rw [liveAt1_5 t], after1_5]
  rw [show (dat W c).leavesExact 6 t = owns (c : Thread nD τ) (ms1_6 t) fullShare ((dat W c).after 6 t) from by
    unfold Dat.leavesExact; rw [liveAt1_6 t], after1_6]
  rw [show (dat W c).leavesExact 7 t = owns (c : Thread nD τ) (ms1_7 t) fullShare ((dat W c).after 7 t) from by
    unfold Dat.leavesExact; rw [liveAt1_7 t], after1_7]
  rw [show (dat W c).leavesExact 8 t = owns (c : Thread nD τ) (ms1_8 t) fullShare ((dat W c).after 8 t) from by
    unfold Dat.leavesExact; rw [liveAt1_8 t], after1_8]
  rw [show (dat W c).leavesExact 9 t = owns (c : Thread nD τ) (ms1_9 t) fullShare ((dat W c).after 9 t) from by
    unfold Dat.leavesExact; rw [liveAt1_9 t], after1_9]
  rw [show (dat W c).leavesExact 10 t = owns (c : Thread nD τ) (ms1_10 t) fullShare ((dat W c).after 10 t) from by
    unfold Dat.leavesExact; rw [liveAt1_10 t h], after1_10]
  rw [show (dat W c).leavesExact 11 t = owns (c : Thread nD τ) (ms1_11 t) fullShare ((dat W c).after 11 t) from by
    unfold Dat.leavesExact; rw [liveAt1_11 t], after1_11]
  rw [show (dat W c).leavesExact 12 t = owns (c : Thread nD τ) (ms1_12 t) fullShare ((dat W c).after 12 t) from by
    unfold Dat.leavesExact; rw [liveAt1_12 t], after1_12]
  rw [show (dat W c).leavesExact 13 t = owns (c : Thread nD τ) (ms1_13 t) fullShare ((dat W c).after 13 t) from by
    unfold Dat.leavesExact; rw [liveAt1_13 t], after1_13]
  rw [show (dat W c).leavesExact 14 t = owns (c : Thread nD τ) (ms1_14 t) fullShare ((dat W c).after 14 t) from by
    unfold Dat.leavesExact; rw [liveAt1_14 t], after1_14]
  obtain rfl : t = t0 := Fin.ext h
  unfold scv nrm out8 out9 out11 out12 out13 out14
  simp only [dif_pos h]
  iintro ⟨⟨HR, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runA W c t0 h).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%eS, HS⟩⟩
  isplitl [HR HS]
  · isplitl [HR]; · iexact HR
    unfold owns; iexists _; isplitr
    swap; · iexact HS
    ipureintro; exact View.read_writes_of_cover _ _ _ _ _ (cover1_A_S _ _ _ _ _ _ _ _ _ _ _ _ _ _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_A_8 _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_A_9 _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover1_A_10 _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover1_A_11 _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover1_A_12 _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover1_A_13 _ _ _ _ _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover1_A_14 _ _ _ _ _ _ _ _ _ _ _ _ _ _ _ _ _ _ _ _ _ _ _ _ _ _ _ _ _ _ _ _ _ _ _ _ _ _ _ _ _ _ _)

set_option maxHeartbeats 1600000 in
/-- The body at a later point. -/
theorem sound_bodyB (c : Dev nD) (t : Fin cfg1.N) (h : ¬t.val = 0) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4, before1_5, before1_6, before1_7]
  rw [show (dat W c).Φ t.succ = iprop(restR c ∗ scrAt W c (t.val + 1)) from rfl,
    show (dat W c).Φ t.castSucc = iprop(restR c ∗ scrAt W c t.val) from rfl,
    show (dat W c).owesAt () t.succ = (dat W c).owesAt () t.castSucc from rfl]
  unfold scrAt
  rw [if_neg (Nat.succ_ne_zero _), if_neg h]
  rw [show (dat W c).leavesExact 0 t = owns (c : Thread nD τ) (ms1_0 t) fullShare ((dat W c).after 0 t) from by
    unfold Dat.leavesExact; rw [liveAt1_0 t], after1_0]
  rw [show (dat W c).leavesExact 1 t = owns (c : Thread nD τ) (ms1_1 t) fullShare ((dat W c).after 1 t) from by
    unfold Dat.leavesExact; rw [liveAt1_1 t], after1_1]
  rw [show (dat W c).leavesExact 2 t = owns (c : Thread nD τ) (ms1_2 t) fullShare ((dat W c).after 2 t) from by
    unfold Dat.leavesExact; rw [liveAt1_2 t], after1_2]
  rw [show (dat W c).leavesExact 3 t = owns (c : Thread nD τ) (ms1_3 t) fullShare ((dat W c).after 3 t) from by
    unfold Dat.leavesExact; rw [liveAt1_3 t], after1_3]
  rw [show (dat W c).leavesExact 4 t = owns (c : Thread nD τ) (ms1_4 t) fullShare ((dat W c).after 4 t) from by
    unfold Dat.leavesExact; rw [liveAt1_4 t], after1_4]
  rw [show (dat W c).leavesExact 5 t = owns (c : Thread nD τ) (ms1_5 t) fullShare ((dat W c).after 5 t) from by
    unfold Dat.leavesExact; rw [liveAt1_5 t], after1_5]
  rw [show (dat W c).leavesExact 6 t = owns (c : Thread nD τ) (ms1_6 t) fullShare ((dat W c).after 6 t) from by
    unfold Dat.leavesExact; rw [liveAt1_6 t], after1_6]
  rw [show (dat W c).leavesExact 7 t = owns (c : Thread nD τ) (ms1_7 t) fullShare ((dat W c).after 7 t) from by
    unfold Dat.leavesExact; rw [liveAt1_7 t], after1_7]
  rw [show (dat W c).leavesExact 8 t = owns (c : Thread nD τ) (ms1_8 t) fullShare ((dat W c).after 8 t) from by
    unfold Dat.leavesExact; rw [liveAt1_8 t], after1_8]
  rw [show (dat W c).leavesExact 9 t = owns (c : Thread nD τ) (ms1_9 t) fullShare ((dat W c).after 9 t) from by
    unfold Dat.leavesExact; rw [liveAt1_9 t], after1_9]
  rw [show (dat W c).leavesExact 11 t = owns (c : Thread nD τ) (ms1_11 t) fullShare ((dat W c).after 11 t) from by
    unfold Dat.leavesExact; rw [liveAt1_11 t], after1_11]
  rw [show (dat W c).leavesExact 12 t = owns (c : Thread nD τ) (ms1_12 t) fullShare ((dat W c).after 12 t) from by
    unfold Dat.leavesExact; rw [liveAt1_12 t], after1_12]
  rw [show (dat W c).leavesExact 13 t = owns (c : Thread nD τ) (ms1_13 t) fullShare ((dat W c).after 13 t) from by
    unfold Dat.leavesExact; rw [liveAt1_13 t], after1_13]
  rw [show (dat W c).leavesExact 14 t = owns (c : Thread nD τ) (ms1_14 t) fullShare ((dat W c).after 14 t) from by
    unfold Dat.leavesExact; rw [liveAt1_14 t], after1_14]
  simp only [before1_10 W c t h]
  unfold out8 out9 out11 out12 out13 out14
  simp only [dif_neg h]
  iintro ⟨⟨HR, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB W c t h (scv W c)).2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, ⟨%e8, H8⟩, ⟨%e9, H9⟩, H10, ⟨%e11, H11⟩, ⟨%e12, H12⟩, ⟨%e13, H13⟩, ⟨%e14, H14⟩, HS⟩
  isplitl [HR HS]
  · isplitl [HR]; · iexact HR
    iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_B_8 _ _ _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_B_9 _ _ _ _ _ _ _ _ _ _ _ _ _ _ _ _ _ _ _ _ _ _ _ _ _ _ _ _ _ _ _ _ _ _ _ _ _ _ _ _ _ _ _ _)
  isplitl [H10]
  · iapply (leaves1_10 W c t h); iexact H10
  isplitl [H11]
  · unfold owns; iexists _; isplitr
    swap; · iexact H11
    ipureintro; exact View.read_writes_of_cover _ _ _ _ _ (cover1_B_11 _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover1_B_12 _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover1_B_13 _ _ _ _ _ _ _ _ _ _ _ _ _ _ _ _ _ _ _ _ _ _ _ _ _ _ _ _ _ _ _ _ _ _ _ _ _ _ _ _ _ _ _ _)
  unfold owns; iexists _; isplitr
  swap; · iexact H14
  ipureintro; exact View.read_writes_of_cover _ _ _ _ _ (cover1_B_14 _ _ _ _ _ _ _ _ _ _ _ _ _ _ _ _ _ _ _ _ _ _ _ _ _ _ _ _ _ _ _ _ _ _ _ _ _ _ _ _ _ _ _ _)

/-- The body at any point. -/
theorem sound_body (c : Dev nD) (t : Fin cfg1.N) :
    bodyPre W c t ⊢ wp frame (wpE (defs₀ (F := F)) Variants.none c none) Set.univ (bodyAt1 t) (fun _ => bodyPost W c t) := by
  by_cases h : t.val = 0
  · exact sound_bodyA W c t h
  · exact sound_bodyB W c t h

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

end Cert.KernelIdeal.Adam

end
-- ==== Proof.KernelIdeal.Run.lean ====
/-
The whole program run: its two regions as records over the unscoped buffers, what each leaves, and the run's final memory.
-/
module

public import proofs.«01_k».proof.Proof.KernelIdeal.Wgrad
public import proofs.«01_k».proof.Proof.KernelIdeal.AdamDat
public import proofs.«01_k».proof.Proof.Gen.KernelIdeal.Launch
public import proofs.«01_k».proof.Proof.Gen.KernelIdeal.Regions
public import Idealize.ShloMosaic.Lib.Pipeline.RegionArraysS
public import Idealize.ShloMosaic.Lib.Pipeline.FrameTail
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-- What the first region leaves in every buffer. -/
def after0 (c : Dev nD) : Valuation τ sig (Elt F) := afterRegion (Wgrad.dat (V1 m) c) (V1 m c)

/-- The first region's results, as the generated valuations take them. -/
def outs2 : Outs (F := F) := fun _ r c => after0 m c (Proc.devRef .tc r)

/-- What the second region leaves in every buffer. -/
def after1 (c : Dev nD) : Valuation τ sig (Elt F) := afterRegion (Adam.dat (V3 m (outs2 m)) c) (V3 m (outs2 m) c)

/-- Both regions' results, as the generated valuations take them. -/
def outs : Outs (F := F) := fun n r c => if n = 2 then after0 m c (Proc.devRef .tc r) else after1 m c (Proc.devRef .tc r)

/-- The second region is entered from what the first one left. -/
theorem V3_outs (c : Dev nD) : V3 m (outs m) c = V3 m (outs2 m) c := rfl

/-- The two pipelines' proof data. -/
def pdats : (p : Fin 2) → (c : Dev nD) → Dat τ (Elt F) Unit ℕ (UR sig nD τ) ℕ (cfgs p) c
  | ⟨0, _⟩, c => Wgrad.dat (V1 m) c
  | ⟨1, _⟩, c => Adam.dat (V3 m (outs m)) c

/-- The wait index of every TensorCore cell. -/
def L : GSem nD τ sig → Finset Unit := fun g => if g.1.2 = .tc then {()} else ∅
/-- All levels are the lowest: nothing is owed. -/
def lv : GSem nD τ sig → Unit → ℕ := fun _ _ => 0

/-- Nothing being owed, the levels constrain nothing. -/
theorem levelCut (p : Fin 2) : Pipeline.LevelCut (pcfgs (F := F)) adm () L lv p (fun _ => (0 : CellTallies nD τ sig Unit)) (fun _ => 0) where
  hι c w s := by unfold L; rw [if_pos rfl]; exact Finset.mem_singleton_self _
  hιb c w s := Nat.le_refl _
  hD c g i h := absurd h (Nat.lt_irrefl 0)

/-- What a core owes between the segments: nothing. -/
def owesNil (c : Dev nD) : sProp 𝕄 := iprop(∃ Wd, owes (c : Thread nD τ) (0 : CellTallies nD τ sig Unit) Wd)

/-- The first region as a segment. -/
def reg0 : RegionSeg (pcfgs (F := F)) adm (pdats m) () defs₀ Variants.none L lv 0 :=
  RegionSeg.ofHeldIn (pcfgs (F := F)) adm (pdats m) () defs₀ Variants.none L lv 0 (fun _ => 0) (ucRefs τ sig)
    (fun _ => BI.emp) (fun _ => BI.emp) launch0.toP rfl (fun c => (Wgrad.body_obligation (V1 m) c).loose)
    (fun _ _ => rfl) (fun _ => rfl) (fun c => (Wgrad.dat (V1 m) c).share_full fun _ => rfl)
    (fun c => by rw [show (pdats m 0 c).Φ 0 = scopedRest spec0 c from rfl]; iintro ⟨H, -⟩; iexact H)
    (fun c => by
      rw [show (pdats m 0 c).Φ (Fin.last _) = scopedRest spec0 c from rfl]
      iintro H
      isplitl [H]; · iexact H
      iempintro)
    (fun _ => 0) (levelCut 0) (fun _ => BI.emp) (V1 m) (fun _ _ => rfl)

/-- The second region as a segment. -/
def reg1 : RegionSeg (pcfgs (F := F)) adm (pdats m) () defs₀ Variants.none L lv 1 :=
  RegionSeg.ofHeldIn (pcfgs (F := F)) adm (pdats m) () defs₀ Variants.none L lv 1 (fun _ => 0) (ucRefs τ sig)
    (fun _ => BI.emp) (fun _ => BI.emp) launch1.toP rfl (fun c => (Adam.body_obligation (V3 m (outs m)) c).loose)
    (fun _ _ => rfl) (fun _ => rfl) (fun c => (Adam.dat (V3 m (outs m)) c).share_full fun _ => rfl)
    (fun c => by
      rw [show (pdats m 1 c).Φ 0 = iprop(Adam.restR c ∗ Adam.scrAt (V3 m (outs m)) c 0) from rfl]
      iintro ⟨H, -⟩
      unfold Adam.scrAt; rw [if_pos rfl]
      iapply (Adam.scoped_split c) $$ H)
    (fun c => by
      rw [show (pdats m 1 c).Φ (Fin.last _) = iprop(Adam.restR c ∗ Adam.scrAt (V3 m (outs m)) c grid1.N) from rfl]
      unfold Adam.scrAt; rw [if_neg (by rw [N_1]; decide)]
      iintro ⟨HR, HS⟩
      isplitl
      · iapply (Adam.scoped_join c)
        isplitl [HR]; · iexact HR
        iexists _; iexact HS
      iempintro)
    (fun _ => 0) (levelCut 1) (fun _ => BI.emp) (V3 m (outs m)) (fun _ _ => rfl)

/-- An output window of the first region is one of its two results. -/
theorem isOut0 : ∀ w, arrRef spec0 w ∉ ([main_v4_0, main_v4_1] : List (Ref sig .tc)) → (cfg0.win w).isOut = false := by decide
/-- An output window of the second region is one of its seven results. -/
theorem isOut1 : ∀ w, arrRef spec1 w ∉ ([main_v14_0, main_v14_1, main_v14_2, main_v14_3, main_v14_4, main_v14_5, main_v14_6] : List (Ref sig .tc)) → (cfg1.win w).isOut = false := by decide

/-- What the first region leaves is the generated valuation after it, at every TensorCore buffer. -/
theorem after0_eq (c : Dev nD) (r : Ref sig .tc) : after0 m c (Proc.devRef .tc r) = V2 m (outs m) c (Proc.devRef .tc r) := by
  by_cases h1 : r = main_v4_1
  · subst h1; exact (Function.update_self (f := Function.update (V1 m c) main_v4_0 (outs m 2 main_v4_0 c)) (Proc.devRef .tc main_v4_1) (outs m 2 main_v4_1 c)).symm
  by_cases h0 : r = main_v4_0
  · subst h0
    exact Eq.symm (Eq.trans (Function.update_of_ne (by decide) _ _)
      (Function.update_self (f := V1 m c) (Proc.devRef .tc main_v4_0) (outs m 2 main_v4_0 c)))
  have hr : r ∉ ([main_v4_0, main_v4_1] : List (Ref sig .tc)) := by simp only [List.mem_cons, List.not_mem_nil, _root_.or_false]; tauto
  rw [V2_of m (outs m) c r hr]
  exact afterRegion_keeps (Wgrad.dat (V1 m) c) (V1 m c) winFacts0.arr_inj (Wgrad.A_eq (V1 m) c) r fun w e => isOut0 w (e ▸ hr)

/-- What the second region leaves is the generated valuation after it, at every TensorCore buffer. -/
theorem after1_eq (c : Dev nD) (r : Ref sig .tc) : after1 m c (Proc.devRef .tc r) = V4 m (outs m) c (Proc.devRef .tc r) := by
  by_cases h : r ∈ ([main_v14_0, main_v14_1, main_v14_2, main_v14_3, main_v14_4, main_v14_5, main_v14_6] : List (Ref sig .tc))
  · have e : ∀ r', outs m 4 r' c = after1 m c (Proc.devRef .tc r') := fun _ => rfl
    simp only [List.mem_cons, List.not_mem_nil, _root_.or_false] at h
    rcases h with rfl | rfl | rfl | rfl | rfl | rfl | rfl
    · exact Eq.symm (Eq.trans (Function.update_of_ne (by decide) _ _) (Eq.trans (Function.update_of_ne (by decide) _ _) (Eq.trans (Function.update_of_ne (by decide) _ _) (Eq.trans (Function.update_of_ne (by decide) _ _) (Eq.trans (Function.update_of_ne (by decide) _ _) (Eq.trans (Function.update_of_ne (by decide) _ _) (Function.update_self _ _ _)))))))
    · exact Eq.symm (Eq.trans (Function.update_of_ne (by decide) _ _) (Eq.trans (Function.update_of_ne (by decide) _ _) (Eq.trans (Function.update_of_ne (by decide) _ _) (Eq.trans (Function.update_of_ne (by decide) _ _) (Eq.trans (Function.update_of_ne (by decide) _ _) (Function.update_self _ _ _))))))
    · exact Eq.symm (Eq.trans (Function.update_of_ne (by decide) _ _) (Eq.trans (Function.update_of_ne (by decide) _ _) (Eq.trans (Function.update_of_ne (by decide) _ _) (Eq.trans (Function.update_of_ne (by decide) _ _) (Function.update_self _ _ _)))))
    · exact Eq.symm (Eq.trans (Function.update_of_ne (by decide) _ _) (Eq.trans (Function.update_of_ne (by decide) _ _) (Eq.trans (Function.update_of_ne (by decide) _ _) (Function.update_self _ _ _))))
    · exact Eq.symm (Eq.trans (Function.update_of_ne (by decide) _ _) (Eq.trans (Function.update_of_ne (by decide) _ _) (Function.update_self _ _ _)))
    · exact Eq.symm (Eq.trans (Function.update_of_ne (by decide) _ _) (Function.update_self _ _ _))
    · exact Eq.symm (Function.update_self (Proc.devRef (τ := τ) .tc main_v14_6) _ _)
  · rw [V4_of m (outs m) c r h]
    exact afterRegion_keeps (Adam.dat (V3 m (outs2 m)) c) (V3 m (outs2 m) c) winFacts1.arr_inj (Adam.A_eq (V3 m (outs2 m)) c) r fun w e => isOut1 w (e ▸ h)

/-- Holding what agrees on every TensorCore buffer is the same. -/
theorem held_uc {c : Dev nD} {V V' : Valuation τ sig (Elt F)} (h : ∀ r : Ref sig .tc, V (Proc.devRef .tc r) = V' (Proc.devRef .tc r)) :
    (StableHlo.held (c : Thread nD τ) (ucRefs τ sig) V : sProp 𝕄) = StableHlo.held (c : Thread nD τ) (ucRefs τ sig) V' :=
  StableHlo.held_congr (c : Thread nD τ) fun b hb => by
    obtain ⟨r, -, rfl⟩ := Finset.mem_map.mp (Finset.mem_filter.mp hb).1
    exact h r

/-- The segments between the host stretches carry only that nothing is owed. -/
def E : Fin 3 → Dev nD → sProp 𝕄 := fun _ => owesNil

/-- The first region's arrays are unscoped buffers. -/
theorem sub0 : arrRefs (τ := τ) spec0 ⊆ ucRefs τ sig := arrRefs_sub_ucRefs spec0 (by decide)
/-- The second region's arrays are unscoped buffers. -/
theorem sub1 : arrRefs (τ := τ) spec1 ⊆ ucRefs τ sig := arrRefs_sub_ucRefs spec1 (by decide)

/-- The first region is entered from the buffers after the first host stretch. -/
theorem hpre0 (c : Dev nD) : iprop(StableHlo.held (c : Thread nD τ) (ucRefs τ sig) (V1 m c) ∗ E 0 c) ⊢ (reg0 (F := F) m).pre c := by
  unfold reg0
  refine BIBase.Entails.trans ?_ (RegionSeg.ofHeldIn_pre (pcs := pcfgs (F := F)) (p := 0) sub0 c)
  unfold E owesNil
  iintro ⟨H, HO⟩
  isplitl [H]; · iexact H
  isplitl [HO]; · iexact HO
  isplitl <;> iempintro

/-- The first region is left with the generated valuation after it. -/
theorem hpost0 (c : Dev nD) : (reg0 (F := F) m).post c ⊢ iprop(StableHlo.held (c : Thread nD τ) (ucRefs τ sig) (V2 m (outs m) c) ∗ E 1 c) := by
  unfold reg0
  refine BIBase.Entails.trans (RegionSeg.ofHeldIn_post (pcs := pcfgs (F := F)) (p := 0) sub0 c) ?_
  rw [show afterRegion (pdats m 0 c) (V1 m c) = after0 m c from rfl, ← held_uc (V := after0 m c) (after0_eq m c)]
  unfold E owesNil
  iintro ⟨H, HO, -, -⟩
  isplitl [H]; · iexact H
  iexact HO

/-- The second region is entered from the buffers after the second host stretch. -/
theorem hpre1 (c : Dev nD) : iprop(StableHlo.held (c : Thread nD τ) (ucRefs τ sig) (V3 m (outs m) c) ∗ E 1 c) ⊢ (reg1 (F := F) m).pre c := by
  unfold reg1
  refine BIBase.Entails.trans ?_ (RegionSeg.ofHeldIn_pre (pcs := pcfgs (F := F)) (p := 1) sub1 c)
  unfold E owesNil
  iintro ⟨H, HO⟩
  isplitl [H]; · iexact H
  isplitl [HO]; · iexact HO
  isplitl <;> iempintro

/-- The second region is left with the generated valuation after it. -/
theorem hpost1 (c : Dev nD) : (reg1 (F := F) m).post c ⊢ iprop(StableHlo.held (c : Thread nD τ) (ucRefs τ sig) (V4 m (outs m) c) ∗ E 2 c) := by
  unfold reg1
  refine BIBase.Entails.trans (RegionSeg.ofHeldIn_post (pcs := pcfgs (F := F)) (p := 1) sub1 c) ?_
  rw [show afterRegion (pdats m 1 c) (V3 m (outs m) c) = after1 m c from rfl, ← held_uc (V := after1 m c) (after1_eq m c)]
  unfold E owesNil
  iintro ⟨H, HO, -, -⟩
  isplitl [H]; · iexact H
  iexact HO

/-- @main's items as segments. -/
abbrev items (c : Dev nD) : List (Seg (pcfgs (F := F)) adm (pdats m) () defs₀ Variants.none L lv) :=
  segs m (outs m) Variants.none L lv E () (pdats m) (reg0 m) (reg1 m) c

/-- What a final memory says: every unscoped TensorCore buffer holds the last valuation. -/
def Final (c : Dev nD) (s : MemSt nD τ sig (Elt F)) : Prop :=
  ∀ b ∈ ucRefs τ sig, s.mem ((c.tc : Thread nD τ).1, b) = V5 m (outs m) c b

/-- THE RUN: at any float values, from any memory with zero counters, every weakly fair execution of @main terminates with
    every unscoped TensorCore buffer at the last valuation and every counter zero. -/
theorem run_main : θ_run defs (onTc (τ := τ) (main (F := F))) ⟨m, fun _ => 0, ρ⟩ (fun r => (∀ c : Dev nD, Final m c r.2) ∧ r.2.sem = fun _ => 0) := by
  refine θ_run_regions_kit_dev_sems (pcfgs (F := F)) adm (pdats m) () cellOf_inj emb₁ defs₀ Variants.none L lv m ρ main (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, segs, Seg.pipes_host, Seg.pipes_region, Seg.pipes_nil]; decide) (O₀ := 0)
    (hL := fun g h => by unfold L; rw [if_neg h])
    (G := fun _ => iprop(emp)) (u₀ := initOf (cells cfgs cellOf_inj) (launchToks cfgs cellOf_inj))
    (hu₀ := by
      iintro Hu; imodintro
      isplitl [Hu]
      · iapply (show (ownU _ : sProp 𝕄) ⊢ BI.own (emb₁ (initOf (cells cfgs cellOf_inj) (launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ E 0 c))
    (Tₙ := fun c => StableHlo.held (c : Thread nD τ) (ucRefs τ sig) (V5 m (outs m) c))
    (hch := fun c => ⟨.rfl, hpre0 m c, hpost0 m c, hpre1 m c, hpost1 m c, .rfl⟩)
    (hinit := by
      refine initEach L lv fun c => ?_
      rw [show unscopedBufs c (fun b => m ((c.tc : Thread nD τ).loc b)) = StableHlo.held (c.tc : Thread nD τ) (ucRefs τ sig) (V0 m c)
          from unscopedBufs_held (Ix := Unit) (Name := ℕ) (U := UR sig nD τ) (Lvl := ℕ) c (V0 m c)]
      unfold E owesNil
      iintro ⟨⟨Hh, -, HO, -, -, -⟩, -⟩
      imodintro
      isplitl [Hh]; · iexact Hh
      iexists _; iexact HO)
    (QY := Final m)
    (hfin := fun c s' => by
      unfold StableHlo.held
      iintro ⟨Hh, HSI⟩
      ihave Hr := (pointsTo_read_all (ucRefs τ sig) (fun b => ((c.tc : Thread nD τ).1, b)) (V5 m (outs m) c) s') $$ [Hh HSI]
      · isplitl [Hh] <;> iassumption
      imodintro; iexact Hr)
    (hQ := fun _ h hz => ⟨h, funext fun g => hz g (.inr (regions_no_unscoped g.2))⟩)

/-- A TensorCore buffer that is not scoped, read off a final memory. -/
theorem Final.read {c : Dev nD} {s : MemSt nD τ sig (Elt F)} (h : Final m c s) (r : Ref sig .tc) (hr : r.isScoped = false) :
    s.mem ((c.tc : Thread nD τ).loc r) = V5 m (outs m) c (Proc.devRef .tc r) := h _ (devRef_mem_ucRefs hr)

/-- THE FRAME: @main terminates, its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c =>
    ⟨((h.1 c).read m main_arg0 rfl).trans (V5_main_arg0 m (outs m) c),
      ((h.1 c).read m main_arg1 rfl).trans (V5_main_arg1 m (outs m) c),
      ((h.1 c).read m main_arg2 rfl).trans (V5_main_arg2 m (outs m) c),
      ((h.1 c).read m main_arg3 rfl).trans (V5_main_arg3 m (outs m) c),
      ((h.1 c).read m main_arg4 rfl).trans (V5_main_arg4 m (outs m) c),
      ((h.1 c).read m main_arg5 rfl).trans (V5_main_arg5 m (outs m) c),
      ((h.1 c).read m main_arg6 rfl).trans (V5_main_arg6 m (outs m) c),
      ((h.1 c).read m main_arg7 rfl).trans (V5_main_arg7 m (outs m) c),
      ((h.1 c).read m main_arg8 rfl).trans (V5_main_arg8 m (outs m) c),
      ((h.1 c).read m main_arg9 rfl).trans (V5_main_arg9 m (outs m) c),
      ((h.1 c).read m main_arg10 rfl).trans (V5_main_arg10 m (outs m) c)⟩, h.2⟩) (run_main m ρ)

end Cert.KernelIdeal.Run

end
-- ==== Proof.Value.Spec.lean ====
/-
The mathematics of one Adam step with 8-bit moments on one group of 128 lanes, over the extended reals. Both programs'
results are these functions of the gradient, the moments' codes and scales, the weights and the two bias corrections.
-/
module

public import Idealize.ShloMosaic.Lib.Pointwise
public import Idealize.ShloMosaic.Lib.Tactic

@[expose] public section

noncomputable section

namespace Cert.Spec

open Idealize.ShloMosaic

/-- A float of the extended-real reading. -/
abbrev R := Ideal .f32

/-- The norm a clipped gradient is divided by: the square root of the sum of squares. -/
def norm (ss : R) : R := FloatOps.sqrt (φ := .f32) ss

/-- The clipping factor, from the bound on the norm and the norm. -/
def clip (mx nrm : R) : R :=
  FloatOps.divf (φ := .f32) mx (Scalar.select (FloatOps.cmpf (F := Ideal) (φ := .f32) .ogt nrm (Scalar.ofBits .f32 0x00000000#32)) nrm (Scalar.ofBits .f32 0x3F800000#32))

/-- The new first moment of one element, from the clipped gradient, the old code and its scale. -/
def m1 (gb : R) (mc : BitVec 8) (ms : R) : R :=
  FloatOps.addf (φ := .f32) (FloatOps.mulf (φ := .f32) (Scalar.ofBits .f32 0x3F666666#32) (FloatOps.mulf (φ := .f32) (FloatOps.sitofp .f32 mc) ms))
    (FloatOps.mulf (φ := .f32) (Scalar.ofBits .f32 0x3DCCCCCD#32) gb)

/-- The new second moment of one element, from the clipped gradient, the old root's code and its scale. -/
def v1 (gb : R) (vc : BitVec 8) (vs : R) : R :=
  FloatOps.addf (φ := .f32) (FloatOps.mulf (φ := .f32) (Scalar.ofBits .f32 0x3F7FBE77#32)
      (FloatOps.mulf (φ := .f32) (FloatOps.mulf (φ := .f32) (FloatOps.sitofp .f32 vc) vs) (FloatOps.mulf (φ := .f32) (FloatOps.sitofp .f32 vc) vs)))
    (FloatOps.mulf (φ := .f32) (FloatOps.mulf (φ := .f32) (Scalar.ofBits .f32 0x3A83126F#32) gb) gb)

/-- The step of one element, from the two moments and the two bias corrections. -/
def step (b0 b1 m v : R) : R :=
  FloatOps.divf (φ := .f32) (FloatOps.mulf (φ := .f32) (Scalar.ofBits .f32 0xBA83126F#32) (FloatOps.divf (φ := .f32) m b0))
    (FloatOps.addf (φ := .f32) (FloatOps.sqrt (φ := .f32) (FloatOps.divf (φ := .f32) v b1)) (Scalar.ofBits .f32 0x322BCC77#32))

/-- The new weight of one element. -/
def weight (w : Ideal .bf16) (u : R) : Ideal .bf16 :=
  FloatOps.truncf (φ := .f32) .bf16 (by decide) (FloatOps.addf (φ := .f32) (FloatOps.extf (φ := .bf16) .f32 (by decide) w) u)

/-- The quantiser's scale of a group: its greatest magnitude over 127, or one for a group of zeros. -/
def scale (x : Fin 128 → R) : R :=
  Scalar.select
    (FloatOps.cmpf (F := Ideal) (φ := .f32) .oeq ((Finset.univ : Finset (Fin 128)).fold max (FloatOps.ofBits .f32 0xFF800000#32) fun l => FloatOps.absf (φ := .f32) (x l)) (Scalar.ofBits .f32 0x00000000#32))
    (Scalar.ofBits .f32 0x3F800000#32 : R)
    (FloatOps.divf (φ := .f32) ((Finset.univ : Finset (Fin 128)).fold max (FloatOps.ofBits .f32 0xFF800000#32) fun l => FloatOps.absf (φ := .f32) (x l)) (Scalar.ofBits .f32 0x42FE0000#32))

/-- The quantiser's code of one element of a group. -/
def code (x : Fin 128 → R) (l : Fin 128) : BitVec 8 :=
  FloatOps.fptosi (φ := .f32) 8 (FloatOps.minimumf (φ := .f32) (Scalar.ofBits .f32 0x42FE0000#32)
    (FloatOps.maximumf (φ := .f32) (Scalar.ofBits .f32 0xC2FE0000#32) (FloatOps.roundeven (φ := .f32) (FloatOps.divf (φ := .f32) (x l) (scale x)))))

/-- The column of lane `l` of group `q`. -/
def col (q : Fin 24) (l : Fin 128) : Fin 3072 := ⟨128 * q.val + l.val, by omega⟩

/-- The group of a column. -/
def grp (c : Fin 3072) : Fin 24 := ⟨c.val / 128, by omega⟩

/-- The lane of a column. -/
def lane (c : Fin 3072) : Fin 128 := ⟨c.val % 128, by omega⟩

theorem col_grp_lane (c : Fin 3072) : col (grp c) (lane c) = c := by
  apply Fin.ext; show 128 * (c.val / 128) + c.val % 128 = c.val; omega

theorem grp_col (q : Fin 24) (l : Fin 128) : grp (col q l) = q := by
  apply Fin.ext; show (128 * q.val + l.val) / 128 = q.val; omega

theorem lane_col (q : Fin 24) (l : Fin 128) : lane (col q l) = l := by
  apply Fin.ext; show (128 * q.val + l.val) % 128 = l.val; omega

/-- `n` rows of 3072 columns. -/
abbrev Rows (n : ℕ) (α : Type) := (⟨2, ![n, 3072]⟩ : Shape).Idx → α

/-- `n` rows of 24 scales. -/
abbrev Scales (n : ℕ) := (⟨2, ![n, 24]⟩ : Shape).Idx → R

section Rows

variable {n : ℕ} (C b0 b1 : R) (g : Rows n R) (w : Rows n (Ideal .bf16)) (mc : Rows n (BitVec 8)) (ms : Scales n) (vc : Rows n (BitVec 8)) (vs : Scales n)

/-- The new first moment of lane `l` of group `q` of row `r`. -/
def M (r : Fin n) (q : Fin 24) (l : Fin 128) : R :=
  m1 (FloatOps.mulf (φ := .f32) C (g (ix2 r (col q l)))) (mc (ix2 r (col q l))) (ms (ix2 r q))

/-- The new second moment of lane `l` of group `q` of row `r`. -/
def V (r : Fin n) (q : Fin 24) (l : Fin 128) : R :=
  v1 (FloatOps.mulf (φ := .f32) C (g (ix2 r (col q l)))) (vc (ix2 r (col q l))) (vs (ix2 r q))

/-- The root of the new second moment. -/
def Q (r : Fin n) (q : Fin 24) (l : Fin 128) : R := FloatOps.sqrt (φ := .f32) (V C g vc vs r q l)

/-- The steps of `n` rows. -/
def steps : Rows n R := fun y => step b0 b1 (M C g mc ms (y 0) (grp (y 1)) (lane (y 1))) (V C g vc vs (y 0) (grp (y 1)) (lane (y 1)))

/-- The new weights of `n` rows. -/
def weights : Rows n (Ideal .bf16) := fun y => weight (w y) (steps C b0 b1 g mc ms vc vs y)

/-- The codes of `n` rows of groups. -/
def codes (x : Fin n → Fin 24 → Fin 128 → R) : Rows n (BitVec 8) := fun y => code (x (y 0) (grp (y 1))) (lane (y 1))

/-- The scales of `n` rows of groups. -/
def scales (x : Fin n → Fin 24 → Fin 128 → R) : Scales n := fun y => scale (x (y 0) (y 1))

end Rows

/-- A sum over `m * n` points in `m` runs of `n`. -/
theorem sum_split {N : ℕ} (m n : ℕ) (f : Fin N → EReal) (h : N = m * n := by decide) :
    ∑ x, f x = ∑ i : Fin m, ∑ j : Fin n, f ⟨n * i.val + j.val, by subst h; exact (finProdFinEquiv (i, j)).isLt.trans_le' (by show _ ≤ j.val + n * i.val; omega)⟩ := by
  subst h
  rw [← finProdFinEquiv.sum_comp, Fintype.sum_prod_type]
  refine Finset.sum_congr rfl fun i _ => Finset.sum_congr rfl fun j _ => congrArg f (Fin.ext ?_)
  show j.val + n * i.val = n * i.val + j.val
  omega

end Cert.Spec

end
-- ==== Proof.KernelIdeal.WgradVal.lean ====
/-
The blocks the gradient pipeline accumulates, as sums over the tokens, and its sums of squares, over the extended reals.
-/
module

public import proofs.«01_k».proof.Proof.KernelIdeal.Wgrad
public import proofs.«01_k».proof.Proof.Value.Spec
public import Idealize.ShloMosaic.Lib.Pipeline.ValueKit
public import Idealize.ShloMosaic.Lib.Pointwise
public import Idealize.ShloMosaic.Lib.WholeRead
public import Idealize.ShloMosaic.Lib.WritesUnit

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert

/-- The products of one step's tokens, summed: what a step adds to an element of the gradient block. -/
def part (x : Vec Ideal S1024x1024 .fp8e4m3) (dy : Vec Ideal S1024x3072 .fp8e5m2) (sx sy : Vec Ideal S1x1x1024 .f32) (r : Fin 1024) (k : Fin 3072) : EReal :=
  ∑ j : Fin 1024, (x (ix2 j r) : EReal) * ((sx (ix3 0 0 j) : EReal) * (sy (ix3 0 0 j) : EReal)) * (dy (ix2 j k) : EReal)

/-- A step's stored block at an element: what was there, and the step's sum. -/
theorem pay2_at (sx sy : Vec Ideal S1x1x1024 .f32) (x : Vec Ideal S1024x1024 .fp8e4m3) (acc : Vec Ideal S1024x3072 .f32) (dy : Vec Ideal S1024x3072 .fp8e5m2) (r : Fin 1024) (k : Fin 3072) :
    k0_pay2 (F := Ideal) sx sy x acc dy (ix2 r k) = (acc (ix2 r k) : EReal) + part x dy sx sy r k := by
  unfold part
  pointwise [k0_pay2]

/-- The zero block at an element. -/
theorem pay1_at (j : S1024x3072.Idx) : k0_pay1 (F := Ideal) j = (0 : EReal) := Ideal.ofBits_zero_f32

/-- The square of an element. -/
def sq (x : EReal) : EReal := x * x

/-- A sum over 24 written out. -/
theorem sum24 (f : Fin 24 → EReal) : ∑ q : Fin 24, f q = f 0 + f 1 + f 2 + f 3 + f 4 + f 5 + f 6 + f 7 + f 8 + f 9 + f 10 + f 11 + f 12 + f 13 + f 14 + f 15
    + f 16 + f 17 + f 18 + f 19 + f 20 + f 21 + f 22 + f 23 := by
  simp only [Fin.sum_univ_castSucc, Fin.sum_univ_zero, zero_add]
  rfl

/-- One trip's lane partial sums: what was there, and the squares of the lane over the 24 groups. -/
theorem pay4_at (acc : FVec Ideal S8x128 .f32) (v : Vec Ideal S8x3072 .f32) (a : Fin 8) (l : Fin 128) :
    k0_pay4 (F := Ideal) acc v (ix2 a l) = (acc (ix2 a l) : EReal) + ∑ q : Fin 24, sq (v (ix2 a (Spec.col q l))) := by
  rw [sum24]
  simp only [← add_assoc]
  unfold sq
  pointwise [k0_pay4]
  simp [Spec.col]

/-- The stored partial sums are the loop's. -/
theorem pay5_at (v : FVec Ideal S8x128 .f32) (z : Fin 1) (a : Fin 8) (l : Fin 128) : k0_pay5 (F := Ideal) v (ix3 z a l) = v (ix2 a l) := by
  obtain rfl : z = 0 := Subsingleton.elim _ _
  pointwise [k0_pay5]

/-- Row `a` of trip `k`. -/
def row8 (k : ℕ) (a : Fin 8) : Fin 1024 := ⟨(8 * k + a.val) % 1024, Nat.mod_lt _ (by decide)⟩

/-- The loop runs 128 trips. -/
theorem trips128 : k0_t1_loop.trips = 128 := by decide +kernel

theorem off_0 (k : Fin k0_t1_loop.trips) : k0_off1 k 0 = 8 * k.val :=
  (by decide +kernel : ∀ k : Fin k0_t1_loop.trips, k0_off1 k 0 = 8 * k.val) k

theorem off_1 (k : Fin k0_t1_loop.trips) : k0_off1 k 1 = 0 :=
  (by decide +kernel : ∀ k : Fin k0_t1_loop.trips, k0_off1 k 1 = 0) k

section Loop

variable (𝒱 : Variants) (c : Dev nD) (bd : Option 𝒱.V) (i : grid0.Coords) (arg2 : Memref sig .tc .vmem S1024x1024 .fp8e4m3) (harg2 : arg2.IsWhole) (arg3 : Memref sig .tc .vmem S1024x3072 .fp8e5m2) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x3072 .f32) (harg6 : arg6.IsWhole) (arg7 : Memref sig .tc .vmem S1x8x128 .f32) (harg7 : arg7.IsWhole) (h2 : k0_cond2 i = 1#1)

/-- One trip is its payload of the rows it loads. -/
theorem trip_eq (X : BufTy.Contents (Elt Ideal) arg6.view.ty) (k : Fin k0_t1_loop.trips) (acc : FVec Ideal S8x128 .f32) :
    tripR_k0_t1 (F := Ideal) 𝒱 c bd i arg2 harg2 arg3 harg3 arg4 harg4 arg5 harg5 arg6 harg6 arg7 harg7 h2 X k acc
      = k0_pay4 acc (View.readAt (Elt Ideal) arg6.view (Rect.unit (s := S1024x3072) (k0_off1 k) S8x3072.size (k0_off1_inb i k h2)).toLoadRect X) := by
  delta tripR_k0_t1 trip_k0_t1; rfl

/-- The lane partial sums after `n` trips over a block. -/
theorem st_at (X : Vec Ideal S1024x3072 .f32) (a : Fin 8) (l : Fin 128) : ∀ n, n ≤ 128 →
    st_k0_t1 (F := Ideal) 𝒱 c bd i arg2 harg2 arg3 harg3 arg4 harg4 arg5 harg5 arg6 harg6 arg7 harg7 h2 (harg6.unread X) k0_pay3 n (ix2 a l)
      = ∑ k ∈ Finset.range n, ∑ q : Fin 24, sq (X (ix2 (row8 k a) (Spec.col q l)))
  | 0, _ => Ideal.ofBits_zero_f32
  | n + 1, hn => by
    have hn' : n < k0_t1_loop.trips := by rw [trips128]; exact hn
    rw [st_k0_t1_succ (F := Ideal) 𝒱 c bd i arg2 harg2 arg3 harg3 arg4 harg4 arg5 harg5 arg6 harg6 arg7 harg7 h2 (harg6.unread X) k0_pay3 ⟨n, hn'⟩, trip_eq, pay4_at, st_at X a l n (Nat.le_of_succ_le hn), Finset.sum_range_succ]
    refine congrArg (_ + ·) (Finset.sum_congr rfl fun q _ => congrArg sq ?_)
    refine (harg6.readAt_unread X _ _).trans (congrArg X (funext fun d => Fin.ext ?_))
    match d with
    | ⟨0, _⟩ => show k0_off1 ⟨n, hn'⟩ 0 + 1 * a.val = (8 * n + a.val) % 1024; rw [off_0, Nat.mod_eq_of_lt (by have := a.isLt; omega)]; show 8 * n + 1 * a.val = _; omega
    | ⟨1, _⟩ => show k0_off1 ⟨n, hn'⟩ 1 + 1 * (128 * q.val + l.val) = 128 * q.val + l.val; rw [off_1]; omega

end Loop

section Blocks

variable (W : Dev nD → Valuation τ sig (Elt Ideal)) (c : Dev nD)

/-- What point `t` adds to an element of its gradient block. -/
def term (t : Fin cfg0.N) (y : S1024x3072.Idx) : EReal := part (iblk W c 0 t) (iblk W c 1 t) (iblk W c 2 t) (iblk W c 3 t) (y 0) (y 1)

/-- A column tile's first point starts from zero. -/
theorem g_reset (t : Fin cfg0.N) (h0 : t.val % 16 = 0) (y : S1024x3072.Idx) : (outsAt0 W c t.val t.isLt).1 y = (0 : EReal) + term W c t y := by
  obtain ⟨r, k, rfl⟩ : ∃ (r : Fin 1024) (k : Fin 3072), y = ix2 r k := ⟨y 0, y 1, eq_ix2 y⟩
  rw [outsAt0_A W c t h0 (by omega)]
  frame_out
  rw [pay2_at, pay1_at]; rfl

/-- Its later points add to what the point before left. -/
theorem g_step (t : Fin cfg0.N) (h0 : ¬t.val % 16 = 0) (y : S1024x3072.Idx) :
    (outsAt0 W c t.val t.isLt).1 y = ((outsAt0 W c (t.val - 1) (Nat.lt_of_le_of_lt (Nat.sub_le _ _) t.isLt)).1 y : EReal) + term W c t y := by
  obtain ⟨r, k, rfl⟩ : ∃ (r : Fin 1024) (k : Fin 3072), y = ix2 r k := ⟨y 0, y 1, eq_ix2 y⟩
  by_cases h1 : t.val % 16 = 15
  · rw [outsAt0_C W c t h0 h1]
    frame_out
    rw [pay2_at]; rfl
  · rw [outsAt0_B W c t h0 h1]
    frame_out
    rw [pay2_at]; rfl

/-- The gradient block at a column tile's last point: the sum over the tile's sixteen points. -/
theorem g_sum (t : Fin cfg0.N) (h : t.val % 16 = 15) (y : S1024x3072.Idx) :
    (outsAt0 W c t.val t.isLt).1 y = ∑ s : Fin 16, term W c ⟨16 * (t.val / 16) + s.val, Pipeline.run_point_lt_of_flush t h s⟩ y := by
  refine (Pipeline.eq_sum_fin_of_reset_step_apply_of_flush (M := EReal) (fun n h => (outsAt0 W c n h).1) 16 (fun _ => 0) (term W c) (g_reset W c) (g_step W c) t h y).trans ?_
  exact zero_add _

/-- The block of sums of squares at a column tile's last point. -/
theorem ss_sum (t : Fin cfg0.N) (h1 : t.val % 16 = 15) (z : Fin 1) (a : Fin 8) (l : Fin 128) :
    (outsAt0 W c t.val t.isLt).2 (ix3 z a l) = ∑ k ∈ Finset.range 128, ∑ q : Fin 24, sq ((outsAt0 W c t.val t.isLt).1 (ix2 (row8 k a) (Spec.col q l))) := by
  rw [outsAt0_C W c t (by omega) h1]
  frame_out
  have e : ∀ P : Vec Ideal S1024x3072 .f32, (ms0_4 t).view.writes (Elt Ideal) (ms0_4 t).view.junk [⟨Rect.unit (s := S1024x3072) ![0, 0] ![1024, 3072] inb_S1024x3072_S1024x3072_0_0, P⟩] = (hs0_4 t).unread P := fun P =>
    (hs0_4 t).eq_unread (by
      funext y
      exact View.read_writes_cons_unit_of_mem (ms0_4 t).view (ms0_4 t).view.junk inb_S1024x3072_S1024x3072_0_0 P [] y y rfl (fun a => match a with
        | ⟨0, _⟩ => (Nat.zero_add _).symm
        | ⟨1, _⟩ => (Nat.zero_add _).symm))
  rw [e]
  refine Eq.trans ?_ (st_at Variants.none c none (grid0.coords t) (ms0_0 t) (hs0_0 t) (ms0_1 t) (hs0_1 t) (ms0_2 t) (hs0_2 t) (ms0_3 t) (hs0_3 t) (ms0_4 t) (hs0_4 t) (ms0_5 t) (hs0_5 t) ((hcond0_1 t).mpr h1) _ a l 128 le_rfl)
  have e2 : Scf.trips (0#32) (Scalar.addi 0#32 128#32) 1#32 = 128 := by decide +kernel
  rw [e2]
  exact pay5_at _ z a l

/-- The four inputs: the activations, the gradients and their scales, in token order. -/
abbrev xA : Vec Ideal S16384x12288 .fp8e4m3 := W c (Proc.devRef (τ := τ) .tc main_v0)
@[inherit_doc xA] abbrev dyA : Vec Ideal S16384x3072 .fp8e5m2 := W c (Proc.devRef (τ := τ) .tc main_v1)
@[inherit_doc xA] abbrev sxA : Vec Ideal S16x1x1024 .f32 := W c (Proc.devRef (τ := τ) .tc main_v2)
@[inherit_doc xA] abbrev syA : Vec Ideal S16x1x1024 .f32 := W c (Proc.devRef (τ := τ) .tc main_v3)

/-- Token `j` of step `s`. -/
def tok (s : Fin 16) (j : Fin 1024) : Fin 16384 := ⟨1024 * s.val + j.val, by have := s.isLt; have := j.isLt; omega⟩

/-- The weight gradient: per element, the sum over all tokens in steps of 1024. -/
def grad (y : S12288x3072.Idx) : EReal :=
  ∑ s : Fin 16, ∑ j : Fin 1024, (xA W c (ix2 (tok s j) (y 0)) : EReal) * ((sxA W c (ix3 s 0 j) : EReal) * (syA W c (ix3 s 0 j) : EReal)) * (dyA W c (ix2 (tok s j) (y 1)) : EReal)

/-- Row `r` of column tile `i`. -/
def grow (i : Fin 12) (r : Fin 1024) : Fin 12288 := ⟨1024 * i.val + r.val, by have := i.isLt; have := r.isLt; omega⟩

/-- The step of a point. -/
def stp (t : Fin cfg0.N) : Fin 16 := ⟨t.val % 16, Nat.mod_lt _ (by decide)⟩

/-- The column tile of a point. -/
def tile (t : Fin cfg0.N) : Fin 12 := ⟨t.val / 16, by have : t.val < 192 := t.isLt; omega⟩

/-- Where window 0's block sits. -/
theorem emb0 (t : Fin cfg0.N) (j : Fin 1024) (r : Fin 1024) : (win0_0.blk t).view.emb (ix2 j r) = ix2 (tok (stp t) j) (grow (tile t) r) := by
  have e : win0_0.index t 0 = t.val % 16 ∧ win0_0.index t 1 = t.val / 16 := (by decide +kernel : ∀ t : Fin cfg0.N, win0_0.index t 0 = t.val % 16 ∧ win0_0.index t 1 = t.val / 16) t
  blk_ext [e.1, e.2, tok, grow, stp, tile]

/-- Where window 1's block sits. -/
theorem emb1 (t : Fin cfg0.N) (j : Fin 1024) (k : Fin 3072) : (win0_1.blk t).view.emb (ix2 j k) = ix2 (tok (stp t) j) k := by
  have e : win0_1.index t 0 = t.val % 16 ∧ win0_1.index t 1 = 0 := (by decide +kernel : ∀ t : Fin cfg0.N, win0_1.index t 0 = t.val % 16 ∧ win0_1.index t 1 = 0) t
  blk_ext [e.1, e.2, tok, grow, stp, tile]

/-- Where window 2's block sits. -/
theorem emb2 (t : Fin cfg0.N) (j : Fin 1024) : (win0_2.blk t).view.emb (ix3 0 0 j) = ix3 (stp t) 0 j := by
  have e : win0_2.index t 0 = t.val % 16 ∧ win0_2.index t 1 = 0 ∧ win0_2.index t 2 = 0 := (by decide +kernel : ∀ t : Fin cfg0.N, win0_2.index t 0 = t.val % 16 ∧ win0_2.index t 1 = 0 ∧ win0_2.index t 2 = 0) t
  blk_ext [e.1, e.2.1, e.2.2, tok, grow, stp, tile]

/-- Where window 3's block sits. -/
theorem emb3 (t : Fin cfg0.N) (j : Fin 1024) : (win0_3.blk t).view.emb (ix3 0 0 j) = ix3 (stp t) 0 j := by
  have e : win0_3.index t 0 = t.val % 16 ∧ win0_3.index t 1 = 0 ∧ win0_3.index t 2 = 0 := (by decide +kernel : ∀ t : Fin cfg0.N, win0_3.index t 0 = t.val % 16 ∧ win0_3.index t 1 = 0 ∧ win0_3.index t 2 = 0) t
  blk_ext [e.1, e.2.1, e.2.2, tok, grow, stp, tile]

/-- Where window 4's block sits. -/
theorem emb4 (t : Fin cfg0.N) (r : Fin 1024) (k : Fin 3072) : (win0_4.blk t).view.emb (ix2 r k) = ix2 (grow (tile t) r) k := by
  have e : win0_4.index t 0 = t.val / 16 ∧ win0_4.index t 1 = 0 := (by decide +kernel : ∀ t : Fin cfg0.N, win0_4.index t 0 = t.val / 16 ∧ win0_4.index t 1 = 0) t
  blk_ext [e.1, e.2, tok, grow, stp, tile]

/-- Where window 5's block sits. -/
theorem emb5 (t : Fin cfg0.N) (z : Fin 1) (a : Fin 8) (l : Fin 128) : (win0_5.blk t).view.emb (ix3 z a l) = ix3 (tile t) a l := by
  have e : win0_5.index t 0 = t.val / 16 ∧ win0_5.index t 1 = 0 ∧ win0_5.index t 2 = 0 := (by decide +kernel : ∀ t : Fin cfg0.N, win0_5.index t 0 = t.val / 16 ∧ win0_5.index t 1 = 0 ∧ win0_5.index t 2 = 0) t
  blk_ext [e.1, e.2.1, e.2.2, tok, grow, stp, tile]

/-- What a point adds, over the arrays. -/
theorem term_at (t : Fin cfg0.N) (r : Fin 1024) (k : Fin 3072) : term W c t (ix2 r k)
    = ∑ j : Fin 1024, (xA W c (ix2 (tok (stp t) j) (grow (tile t) r)) : EReal) * ((sxA W c (ix3 (stp t) 0 j) : EReal) * (syA W c (ix3 (stp t) 0 j) : EReal)) * (dyA W c (ix2 (tok (stp t) j) k) : EReal) := by
  unfold term part
  exact Finset.sum_congr rfl fun j _ => congrArg₂ (· * ·)
    (congrArg₂ (· * ·) (congrArg (xA W c) (emb0 t j r)) (congrArg₂ (· * ·) (congrArg (sxA W c) (emb2 t j)) (congrArg (syA W c) (emb3 t j)))) (congrArg (dyA W c) (emb1 t j k))

/-- The gradient block at a column tile's last point is the tile's part of the gradient. -/
theorem g_blk (t : Fin cfg0.N) (h : t.val % 16 = 15) (r : Fin 1024) (k : Fin 3072) :
    (outsAt0 W c t.val t.isLt).1 (ix2 r k) = grad W c (ix2 (grow (tile t) r) k) := by
  rw [g_sum W c t h]
  refine Finset.sum_congr rfl fun s _ => ?_
  have hp : 16 * (t.val / 16) + s.val < cfg0.N := Pipeline.run_point_lt_of_flush t h s
  have es : stp ⟨16 * (t.val / 16) + s.val, hp⟩ = s := Fin.ext (by show (16 * (t.val / 16) + s.val) % 16 = s.val; have := s.isLt; omega)
  have et : tile ⟨16 * (t.val / 16) + s.val, hp⟩ = tile t := Fin.ext (by show (16 * (t.val / 16) + s.val) / 16 = t.val / 16; have := s.isLt; omega)
  rw [term_at, es, et]
  rfl

/-- The gradient array the pipeline leaves. -/
theorem arr4 : (dat W c).arrAt 4 cfg0.N = grad W c := by
  refine (dat W c).arrAt_eq_of_covers 4 _ (by decide +kernel) fun t hf y => ?_
  blk_simp
  rw [after0_4]
  obtain ⟨r, k, rfl⟩ : ∃ (r : Fin 1024) (k : Fin 3072), y = ix2 r k := ⟨y 0, y 1, eq_ix2 y⟩
  exact (g_blk W c t ((flush0_4 t).mp hf) r k).trans (congrArg _ (emb4 t r k).symm)

/-- The partial sums of squares of an array, per column tile, sublane and lane. -/
def ssq (g : S12288x3072.Idx → EReal) (z : S12x8x128.Idx) : EReal :=
  ∑ k ∈ Finset.range 128, ∑ q : Fin 24, sq (g (ix2 (grow (z 0) (row8 k (z 1))) (Spec.col q (z 2))))

/-- The array of partial sums of squares the pipeline leaves. -/
theorem arr5 : (dat W c).arrAt 5 cfg0.N = ssq (grad W c) := by
  refine (dat W c).arrAt_eq_of_covers 5 _ (by decide +kernel) fun t hf y => ?_
  blk_simp
  rw [after0_5]
  obtain ⟨z, a, l, rfl⟩ : ∃ (z : Fin 1) (a : Fin 8) (l : Fin 128), y = ix3 z a l := ⟨y 0, y 1, y 2, eq_ix3 y⟩
  have h := (flush0_5 t).mp hf
  refine (ss_sum W c t h z a l).trans (Eq.trans ?_ (congrArg (ssq (grad W c)) (emb5 t z a l).symm))
  exact Finset.sum_congr rfl fun k _ => Finset.sum_congr rfl fun q _ => congrArg sq (g_blk W c t h _ _)

end Blocks

/-- The partial sums of squares add up to the sum of all squares. -/
theorem sum_ssq (g : S12288x3072.Idx → EReal) : ∑ z : S12x8x128.Idx, ssq g z = ∑ y : S12288x3072.Idx, sq (g y) := by
  have hr : ∀ f : Fin 12288 → EReal, ∑ x, f x = ∑ i : Fin 12, ∑ a : Fin 8, ∑ k : Fin 128, f (grow i (row8 k.val a)) := fun f => by
    rw [Spec.sum_split 12 1024 f]
    refine Finset.sum_congr rfl fun i _ => ?_
    rw [Spec.sum_split 128 8 (fun r : Fin 1024 => f ⟨1024 * i.val + r.val, by have := i.isLt; have := r.isLt; omega⟩), Finset.sum_comm]
    refine Finset.sum_congr rfl fun a _ => Finset.sum_congr rfl fun k _ => congrArg f (Fin.ext ?_)
    show 1024 * i.val + (8 * k.val + a.val) = 1024 * i.val + (8 * k.val + a.val) % 1024
    have := k.isLt; have := a.isLt; omega
  have hc : ∀ f : Fin 3072 → EReal, ∑ x, f x = ∑ l : Fin 128, ∑ q : Fin 24, f (Spec.col q l) := fun f => by
    rw [Spec.sum_split 24 128 f, Finset.sum_comm]
    rfl
  rw [sum_idx2, sum_idx3, hr]
  refine Finset.sum_congr rfl fun i _ => Finset.sum_congr rfl fun a _ => ?_
  have e : ∀ l : Fin 128, ssq g (ix3 i a l) = ∑ k : Fin 128, ∑ q : Fin 24, sq (g (ix2 (grow i (row8 k.val a)) (Spec.col q l))) := fun l => Finset.sum_range _
  rw [Finset.sum_congr rfl fun l _ => e l, Finset.sum_comm]
  exact Finset.sum_congr rfl fun k _ => (hc fun b => sq (g (ix2 (grow i (row8 k.val a)) b))).symm

end Cert.KernelIdeal.Wgrad

end
-- ==== Proof.KernelIdeal.AdamTrip.lean ====
/-
The pieces one trip of the Adam kernel's loop stores, in closed form: trip `k` handles rows `32 k … 32 k + 31` of a
row tile, lane block by lane block, and every lane block stores the same function of its own loads.
-/
module

public import proofs.«01_k».proof.Proof.KernelIdeal.AdamRun

@[expose] public section

set_option maxRecDepth 16384

noncomputable section

namespace Cert.KernelIdeal.Adam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where lane block `n` of trip `k` sits in a row tile. -/
def boff (k : Fin k1_t1_loop.trips) (n : ℕ) : Fin S128x3072.rank → ℕ := ![k1_off2 k 0, 128 * n]

/-- Lane block `n` of trip `k` lies inside the row tile. -/
theorem boff_inb (k : Fin k1_t1_loop.trips) (n : ℕ) (h : n < 24) : ∀ a, boff k n a + S32x128.size a ≤ S128x3072.size a := by
  intro a
  have h0 := k1_off2_inb k 0
  match a with
  | ⟨0, _⟩ => exact h0
  | ⟨1, _⟩ => show 128 * n + 128 ≤ 3072; omega

/-- Column `n` of a block of 24 scales is a column. -/
theorem colSlice (n : ℕ) (h : n < 24) : S32x24.Slices ![0, n] S32x1 :=
  (by decide : ∀ n : Fin 24, S32x24.Slices ![0, n.val] S32x1) ⟨n, h⟩

/-- The rectangle lane block `n` of trip `k` stores to. -/
abbrev brect (k : Fin k1_t1_loop.trips) (n : ℕ) (h : n < 24) : Rect S128x3072 := Rect.unit (boff k n) S32x128.size (boff_inb k n h)

/-- The clipped gradient of one lane block: the clipping factor times the gradient. -/
def gbV (v3 : F .f32) (g : Vec F S32x128 .f32) : FVec F S32x128 .f32 :=
  mulf (broadcast S32x128 v3) (shapeCast S32x128 g shapeCasts_S32x128_S32x128)

/-- Column `n` of the scales, along the lanes. -/
def colV (n : ℕ) (h : n < 24) (sc : Vec F S32x24 .f32) : FVec F S32x128 .f32 :=
  broadcastTo S32x128 (extractStridedSlice S32x1 ![0, n] sc (colSlice n h)) broadcasts_S32x1_S32x128

/-- The first moment of one lane block, from the decoded old moment and the clipped gradient. -/
def mV (n : ℕ) (h : n < 24) (v3 : F .f32) (sc : Vec F S32x24 .f32) (g : Vec F S32x128 .f32) (mc : Vec F S32x128 .i8) : FVec F S32x128 .f32 :=
  addf (mulf (broadcast S32x128 (Scalar.ofBits .f32 0x3F666666#32)) (mulf (sitofp .f32 mc) (colV n h sc)))
    (mulf (broadcast S32x128 (Scalar.ofBits .f32 0x3DCCCCCD#32)) (gbV v3 g))

/-- The second moment of one lane block, from the decoded old root and the clipped gradient. -/
def vV (n : ℕ) (h : n < 24) (v3 : F .f32) (sc : Vec F S32x24 .f32) (g : Vec F S32x128 .f32) (vc : Vec F S32x128 .i8) : FVec F S32x128 .f32 :=
  addf (mulf (broadcast S32x128 (Scalar.ofBits .f32 0x3F7FBE77#32))
      (mulf (mulf (sitofp .f32 vc) (colV n h sc)) (mulf (sitofp .f32 vc) (colV n h sc))))
    (mulf (mulf (broadcast S32x128 (Scalar.ofBits .f32 0x3A83126F#32)) (gbV v3 g)) (gbV v3 g))

/-- The step of one lane block, from the two moments and the two bias corrections. -/
def uV (v4 v5 : F .f32) (m v : FVec F S32x128 .f32) : FVec F S32x128 .f32 :=
  divf (mulf (broadcast S32x128 (Scalar.ofBits .f32 0xBA83126F#32)) (divf m (broadcast S32x128 v4)))
    (addf (sqrt (divf v (broadcast S32x128 v5))) (broadcast S32x128 (Scalar.ofBits .f32 0x322BCC77#32)))

/-- The new weights of one lane block. -/
def wV (w : Vec F S32x128 .bf16) (u : FVec F S32x128 .f32) : FVec F S32x128 .bf16 :=
  truncf .bf16 (addf (extf .f32 w bitsLt_bf16_f32) u) bitsLt_bf16_f32

/-- The quantiser's scale of each row of one lane block. -/
def sV (x : FVec F S32x128 .f32) : FVec F S32x1 .f32 :=
  let a : FVec F S32x1 .f32 := shapeCast S32x1 (multiReduction .maximumf [1] S32 (absf x) 0xFF800000#32 reduces_S32x128_S32 (.inl rfl) rfl) shapeCasts_S32_S32x1
  select (cmpf .oeq a (broadcast S32x1 (Scalar.ofBits .f32 0x00000000#32))) (broadcast S32x1 (Scalar.ofBits .f32 0x3F800000#32))
    (divf a (broadcast S32x1 (Scalar.ofBits .f32 0x42FE0000#32)))

/-- The quantiser's codes of one lane block. -/
def cV (x : FVec F S32x128 .f32) : IVec S32x128 8 :=
  fptosi 8 (minimumf (broadcast S32x128 (Scalar.ofBits .f32 0x42FE0000#32)) (maximumf (broadcast S32x128 (Scalar.ofBits .f32 0xC2FE0000#32))
    (roundeven (divf x (broadcastTo S32x128 (sV x) broadcasts_S32x1_S32x128)))))

section Trip

/-- A lane block's load. -/
abbrev ldB {e : EltTy} (a : Memref sig .tc .vmem S128x3072 e) (X : BufTy.Contents (Elt F) a.view.ty) (k : Fin k1_t1_loop.trips) (n : ℕ) (h : n < 24) :
    Vec F S32x128 e := View.readAt (Elt F) a.view (brect k n h).toLoadRect X

/-- The scales' load. -/
abbrev ldS (a : Memref sig .tc .vmem S128x24 .f32) (X : BufTy.Contents (Elt F) a.view.ty) (k : Fin k1_t1_loop.trips) :
    Vec F S32x24 .f32 := View.readAt (Elt F) a.view (Rect.unit (s := S128x24) (k1_off1 k) S32x24.size (k1_off1_inb k)).toLoadRect X

/-- The pieces of the first `n` lane blocks of trip `k`, last first, lane block `j` holding `p j`. -/
def blocks {e : EltTy} (k : Fin k1_t1_loop.trips) (p : (j : ℕ) → j < 24 → Vec F S32x128 e) : (n : ℕ) → n ≤ 24 → List (View.Piece (Elt F) S128x3072 e)
  | 0, _ => []
  | n + 1, h => ⟨brect k n h, p n h⟩ :: blocks k p n (Nat.le_of_succ_le h)

/-- The lanes of a register after `n` scale columns are selected into it: lane `j < n` holds column `j`'s scales. -/
def chain (v6 : IVec S32x128 32) (p : (j : ℕ) → j < 24 → FVec F S32x128 .f32) : (n : ℕ) → n ≤ 24 → FVec F S32x128 .f32
  | 0, _ => broadcast S32x128 (Scalar.ofBits .f32 0x00000000#32)
  | n + 1, h => select (cmpi .eq v6 (broadcast S32x128 (BitVec.ofNat 32 n)))
      (broadcastTo S32x128 (shapeCast S32x1 (sV (p n h)) shapeCasts_S32x1_S32x1) broadcasts_S32x1_S32x128) (chain v6 p n (Nat.le_of_succ_le h))

/-- The one piece of scales a trip stores. -/
def scales (k : Fin k1_t1_loop.trips) (v6 : IVec S32x128 32) (p : (j : ℕ) → j < 24 → FVec F S32x128 .f32) : List (View.Piece (Elt F) S128x24 .f32) :=
  [⟨Rect.unit (s := S128x24) (k1_off1 k) S32x24.size (k1_off1_inb k), extractStridedSlice S32x24 ![0, 0] (chain v6 p 24 le_rfl) slices_S32x128_o0_0_S32x24⟩]

end Trip

set_option maxHeartbeats 4000000 in
/-- What a trip stores to the weights. -/
theorem trip_8 (𝒱 : Variants) (c : Dev nD) (bd : Option 𝒱.V) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (v3 v4 v5 : Elt F .f32) (v6 : IVec S32x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k1_t1_loop.trips) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 X_arg3 X_arg4 X_arg5 X_arg6 X_arg7 X_arg8 k).1 = blocks k (fun n h => wV (ldB arg4 X_arg4 k n h) (uV v4 v5 (mV n h v3 (ldS arg6 X_arg6 k) (ldB arg3 X_arg3 k n h) (ldB arg5 X_arg5 k n h)) (vV n h v3 (ldS arg8 X_arg8 k) (ldB arg3 X_arg3 k n h) (ldB arg7 X_arg7 k n h)))) 24 le_rfl := by
  delta trip_k1_t1
  rfl

set_option maxHeartbeats 4000000 in
/-- What a trip stores to the step. -/
theorem trip_9 (𝒱 : Variants) (c : Dev nD) (bd : Option 𝒱.V) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (v3 v4 v5 : Elt F .f32) (v6 : IVec S32x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k1_t1_loop.trips) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 X_arg3 X_arg4 X_arg5 X_arg6 X_arg7 X_arg8 k).2.1 = blocks k (fun n h => (uV v4 v5 (mV n h v3 (ldS arg6 X_arg6 k) (ldB arg3 X_arg3 k n h) (ldB arg5 X_arg5 k n h)) (vV n h v3 (ldS arg8 X_arg8 k) (ldB arg3 X_arg3 k n h) (ldB arg7 X_arg7 k n h)))) 24 le_rfl := by
  delta trip_k1_t1
  rfl

set_option maxHeartbeats 4000000 in
/-- What a trip stores to the first moment's codes. -/
theorem trip_11 (𝒱 : Variants) (c : Dev nD) (bd : Option 𝒱.V) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (v3 v4 v5 : Elt F .f32) (v6 : IVec S32x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k1_t1_loop.trips) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 X_arg3 X_arg4 X_arg5 X_arg6 X_arg7 X_arg8 k).2.2.1 = blocks k (fun n h => cV (mV n h v3 (ldS arg6 X_arg6 k) (ldB arg3 X_arg3 k n h) (ldB arg5 X_arg5 k n h))) 24 le_rfl := by
  delta trip_k1_t1
  rfl

set_option maxHeartbeats 4000000 in
/-- What a trip stores to the first moment's scales. -/
theorem trip_12 (𝒱 : Variants) (c : Dev nD) (bd : Option 𝒱.V) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (v3 v4 v5 : Elt F .f32) (v6 : IVec S32x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k1_t1_loop.trips) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 X_arg3 X_arg4 X_arg5 X_arg6 X_arg7 X_arg8 k).2.2.2.1 = scales k v6 (fun n h => (mV n h v3 (ldS arg6 X_arg6 k) (ldB arg3 X_arg3 k n h) (ldB arg5 X_arg5 k n h))) := by
  delta trip_k1_t1
  rfl

set_option maxHeartbeats 4000000 in
/-- What a trip stores to the second moment's codes. -/
theorem trip_13 (𝒱 : Variants) (c : Dev nD) (bd : Option 𝒱.V) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (v3 v4 v5 : Elt F .f32) (v6 : IVec S32x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k1_t1_loop.trips) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 X_arg3 X_arg4 X_arg5 X_arg6 X_arg7 X_arg8 k).2.2.2.2.1 = blocks k (fun n h => cV (sqrt (vV n h v3 (ldS arg8 X_arg8 k) (ldB arg3 X_arg3 k n h) (ldB arg7 X_arg7 k n h)))) 24 le_rfl := by
  delta trip_k1_t1
  rfl

set_option maxHeartbeats 4000000 in
/-- What a trip stores to the second moment's scales. -/
theorem trip_14 (𝒱 : Variants) (c : Dev nD) (bd : Option 𝒱.V) (i : grid1.Coords)
    (arg1 : Memref sig .tc .smem S3 .f32) (harg1 : arg1.IsWhole)
    (arg2 : Memref sig .tc .vmem S12x8x128 .f32) (harg2 : arg2.IsWhole)
    (arg3 : Memref sig .tc .vmem S128x3072 .f32) (harg3 : arg3.IsWhole)
    (arg4 : Memref sig .tc .vmem S128x3072 .bf16) (harg4 : arg4.IsWhole)
    (arg5 : Memref sig .tc .vmem S128x3072 .i8) (harg5 : arg5.IsWhole)
    (arg6 : Memref sig .tc .vmem S128x24 .f32) (harg6 : arg6.IsWhole)
    (arg7 : Memref sig .tc .vmem S128x3072 .i8) (harg7 : arg7.IsWhole)
    (arg8 : Memref sig .tc .vmem S128x24 .f32) (harg8 : arg8.IsWhole)
    (arg9 : Memref sig .tc .vmem S128x3072 .bf16) (harg9 : arg9.IsWhole)
    (arg10 : Memref sig .tc .vmem S128x3072 .f32) (harg10 : arg10.IsWhole)
    (arg11 : Memref sig .tc .vmem S8x128 .f32) (harg11 : arg11.IsWhole)
    (arg12 : Memref sig .tc .vmem S128x3072 .i8) (harg12 : arg12.IsWhole)
    (arg13 : Memref sig .tc .vmem S128x24 .f32) (harg13 : arg13.IsWhole)
    (arg14 : Memref sig .tc .vmem S128x3072 .i8) (harg14 : arg14.IsWhole)
    (arg15 : Memref sig .tc .vmem S128x24 .f32) (harg15 : arg15.IsWhole)
    (arg16 : Memref sig .tc .smem S1 .f32) (harg16 : arg16.IsWhole)
    (v3 v4 v5 : Elt F .f32) (v6 : IVec S32x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k1_t1_loop.trips) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 X_arg3 X_arg4 X_arg5 X_arg6 X_arg7 X_arg8 k).2.2.2.2.2.1 = scales k v6 (fun n h => sqrt (vV n h v3 (ldS arg8 X_arg8 k) (ldB arg3 X_arg3 k n h) (ldB arg7 X_arg7 k n h))) := by
  delta trip_k1_t1
  rfl

end Cert.KernelIdeal.Adam

end
-- ==== Proof.KernelIdeal.AdamLane.lean ====
/-
The closed forms of the Adam kernel's lane blocks, read at an element over the extended reals.
-/
module

public import proofs.«01_k».proof.Proof.KernelIdeal.AdamTrip
public import proofs.«01_k».proof.Proof.Value.Spec
public import Idealize.ShloMosaic.Lib.Pointwise

@[expose] public section

set_option maxRecDepth 16384

noncomputable section

namespace Cert.KernelIdeal.Adam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert

/-- A lane block's clipped gradient at an element. -/
theorem gbV_at (v3 : Ideal .f32) (g : Vec Ideal S32x128 .f32) (r : Fin 32) (l : Fin 128) :
    gbV (F := Ideal) v3 g (ix2 r l) = FloatOps.mulf (φ := .f32) v3 (g (ix2 r l)) := by
  pointwise [gbV]

/-- A column of scales along the lanes, at an element. -/
theorem colV_at (n : ℕ) (h : n < 24) (sc : Vec Ideal S32x24 .f32) (r : Fin 32) (l : Fin 128) :
    colV (F := Ideal) n h sc (ix2 r l) = sc (ix2 r ⟨n, h⟩) := by
  pointwise [colV]

/-- A lane block's first moment at an element. -/
theorem mV_at (n : ℕ) (h : n < 24) (v3 : Ideal .f32) (sc : Vec Ideal S32x24 .f32) (g : Vec Ideal S32x128 .f32) (mc : Vec Ideal S32x128 .i8)
    (r : Fin 32) (l : Fin 128) :
    mV (F := Ideal) n h v3 sc g mc (ix2 r l) = Spec.m1 (FloatOps.mulf (φ := .f32) v3 (g (ix2 r l))) (mc (ix2 r l)) (sc (ix2 r ⟨n, h⟩)) := by
  show FloatOps.addf (F := Ideal) (φ := .f32) (FloatOps.mulf _ (FloatOps.mulf _ (colV (F := Ideal) n h sc (ix2 r l)))) (FloatOps.mulf _ (gbV (F := Ideal) v3 g (ix2 r l))) = _
  rw [colV_at, gbV_at]; rfl

/-- A lane block's second moment at an element. -/
theorem vV_at (n : ℕ) (h : n < 24) (v3 : Ideal .f32) (sc : Vec Ideal S32x24 .f32) (g : Vec Ideal S32x128 .f32) (vc : Vec Ideal S32x128 .i8)
    (r : Fin 32) (l : Fin 128) :
    vV (F := Ideal) n h v3 sc g vc (ix2 r l) = Spec.v1 (FloatOps.mulf (φ := .f32) v3 (g (ix2 r l))) (vc (ix2 r l)) (sc (ix2 r ⟨n, h⟩)) := by
  show FloatOps.addf (F := Ideal) (φ := .f32) (FloatOps.mulf _ (FloatOps.mulf (FloatOps.mulf _ (colV (F := Ideal) n h sc (ix2 r l))) (FloatOps.mulf _ (colV (F := Ideal) n h sc (ix2 r l)))))
    (FloatOps.mulf (FloatOps.mulf _ (gbV (F := Ideal) v3 g (ix2 r l))) (gbV (F := Ideal) v3 g (ix2 r l))) = _
  rw [colV_at, gbV_at]; rfl

/-- A lane block's step at an element. -/
theorem uV_at (v4 v5 : Ideal .f32) (m v : FVec Ideal S32x128 .f32) (x : S32x128.Idx) :
    uV (F := Ideal) v4 v5 m v x = Spec.step v4 v5 (m x) (v x) := rfl

/-- A lane block's new weight at an element. -/
theorem wV_at (w : Vec Ideal S32x128 .bf16) (u : FVec Ideal S32x128 .f32) (x : S32x128.Idx) :
    wV (F := Ideal) w u x = Spec.weight (w x) (u x) := rfl

/-- The greatest magnitude along a row of a lane block. -/
theorem rowMax_at (x : FVec Ideal S32x128 .f32) (r : Fin 32) :
    multiReduction (F := Ideal) .maximumf [1] S32 (absf x) 0xFF800000#32 reduces_S32x128_S32 (.inl rfl) rfl (ix1 r)
      = (Finset.univ : Finset (Fin 128)).fold max (FloatOps.ofBits .f32 0xFF800000#32) fun l => FloatOps.absf (φ := .f32) (x (ix2 r l)) := by
  refine (Ideal.multiReduction_maximumf_single _ _ _ _ _ _).trans ?_
  refine Finset.fold_congr fun l _ => ?_
  refine congrArg (fun i => FloatOps.absf (F := Ideal) (φ := .f32) (x i)) ?_
  funext a
  match a with
  | ⟨0, _⟩ => rfl
  | ⟨1, _⟩ => rfl

/-- A lane block's scale, at a row. -/
theorem sV_at (x : FVec Ideal S32x128 .f32) (r : Fin 32) (z : Fin 1) :
    sV (F := Ideal) x (ix2 r z) = Spec.scale fun l => x (ix2 r l) := by
  have e : ∀ y : FVec Ideal S32 .f32, shapeCast S32x1 y shapeCasts_S32_S32x1 (ix2 r z) = y (ix1 r) := fun y => by pointwise
  unfold sV Spec.scale
  rw [← rowMax_at, ← e (multiReduction (F := Ideal) .maximumf [1] S32 (absf x) 0xFF800000#32 reduces_S32x128_S32 (.inl rfl) rfl)]
  rfl

/-- A lane block's codes at an element. -/
theorem cV_at (x : FVec Ideal S32x128 .f32) (r : Fin 32) (l : Fin 128) :
    cV (F := Ideal) x (ix2 r l) = Spec.code (fun l => x (ix2 r l)) l := by
  have e : ∀ y : FVec Ideal S32x1 .f32, broadcastTo S32x128 y broadcasts_S32x1_S32x128 (ix2 r l) = y (ix2 r 0) := fun y => by pointwise
  show FloatOps.fptosi (F := Ideal) (φ := .f32) 8 (FloatOps.minimumf _ (FloatOps.maximumf _ (FloatOps.roundeven (FloatOps.divf _ (broadcastTo S32x128 (sV (F := Ideal) x) broadcasts_S32x1_S32x128 (ix2 r l)))))) = _
  rw [e, sV_at]; rfl

/-- Lane `j` of the selected scales, after `n` columns: column `j`'s scales where `j < n`. -/
theorem chain_at (v6 : IVec S32x128 32) (h6 : ∀ r l, v6 (ix2 r l) = BitVec.ofNat 32 l.val) (p : (j : ℕ) → j < 24 → FVec Ideal S32x128 .f32)
    (r : Fin 32) (l : Fin 128) : ∀ (n : ℕ) (hn : n ≤ 24) (h : l.val < n),
    chain (F := Ideal) v6 p n hn (ix2 r l) = Spec.scale fun x => p l.val (Nat.lt_of_lt_of_le h hn) (ix2 r x)
  | 0, _, h => absurd h (Nat.not_lt_zero _)
  | n + 1, hn, h => by
    have e : ∀ y : FVec Ideal S32x1 .f32, broadcastTo S32x128 (shapeCast S32x1 y shapeCasts_S32x1_S32x1) broadcasts_S32x1_S32x128 (ix2 r l) = y (ix2 r 0) := fun y => by pointwise
    show Scalar.select (IntOp.cmpi .eq (v6 (ix2 r l)) (BitVec.ofNat 32 n)) (broadcastTo S32x128 (shapeCast S32x1 (sV (F := Ideal) (p n hn)) shapeCasts_S32x1_S32x1) broadcasts_S32x1_S32x128 (ix2 r l)) (chain (F := Ideal) v6 p n (Nat.le_of_succ_le hn) (ix2 r l)) = _
    rw [e, sV_at, h6]
    by_cases hl : l.val = n
    · subst hl
      have : IntOp.cmpi .eq (BitVec.ofNat 32 l.val) (BitVec.ofNat 32 l.val) = 1#1 := by simp [IntOp.cmpi]
      rw [this]; rfl
    · have hne : BitVec.ofNat 32 l.val ≠ BitVec.ofNat 32 n := by
        intro e'
        have := congrArg BitVec.toNat e'
        simp only [BitVec.toNat_ofNat] at this
        omega
      have : IntOp.cmpi .eq (BitVec.ofNat 32 l.val) (BitVec.ofNat 32 n) = 0#1 := by
        show BitVec.ofBool (BitVec.ofNat 32 l.val == BitVec.ofNat 32 n) = 0#1
        rw [beq_eq_false_iff_ne.2 hne]; rfl
      rw [this]
      exact chain_at v6 h6 p r l n _ (by omega)

end Cert.KernelIdeal.Adam

end
-- ==== Proof.KernelIdeal.AdamBlk.lean ====
/-
What one grid point of the Adam kernel leaves in its output blocks, as the Adam step of the point's input blocks, over
the extended reals.
-/
module

public import proofs.«01_k».proof.Proof.KernelIdeal.AdamLane
public import Idealize.ShloMosaic.Lib.WholeRead

@[expose] public section

set_option maxRecDepth 16384

noncomputable section

namespace Cert.KernelIdeal.Adam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert

/-- The loop runs four trips. -/
theorem trips4 (k : Fin k1_t1_loop.trips) : k.val < 4 := Nat.lt_of_lt_of_le k.isLt k1_t1_abs.2.1

/-- Trip `k` starts at row `32 k`. -/
theorem off2_0 (k : Fin k1_t1_loop.trips) : k1_off2 k 0 = 32 * k.val :=
  (by decide +kernel : ∀ k : Fin k1_t1_loop.trips, k1_off2 k 0 = 32 * k.val) k

theorem off1_0 (k : Fin k1_t1_loop.trips) : k1_off1 k 0 = 32 * k.val :=
  (by decide +kernel : ∀ k : Fin k1_t1_loop.trips, k1_off1 k 0 = 32 * k.val) k

theorem off1_1 (k : Fin k1_t1_loop.trips) : k1_off1 k 1 = 0 :=
  (by decide +kernel : ∀ k : Fin k1_t1_loop.trips, k1_off1 k 1 = 0) k

/-- Row `r` of trip `k`, in the row tile. -/
def row (k : Fin k1_t1_loop.trips) (r : Fin 32) : Fin 128 := ⟨32 * k.val + r.val, by have := trips4 k; omega⟩

/-- Where an element of a lane block sits in the row tile. -/
theorem brect_emb (k : Fin k1_t1_loop.trips) (n : ℕ) (h : n < 24) (r : Fin 32) (l : Fin 128) :
    (brect k n h).emb (ix2 r l) = ix2 (row k r) (Spec.col ⟨n, h⟩ l) := by
  funext a
  apply Fin.ext
  match a with
  | ⟨0, _⟩ => show k1_off2 k 0 + 1 * r.val = 32 * k.val + r.val; rw [off2_0]; omega
  | ⟨1, _⟩ => show 128 * n + 1 * l.val = 128 * n + l.val; omega

/-- Where an element of a trip's scales sits in the row tile's scales. -/
theorem srect_emb (k : Fin k1_t1_loop.trips) (r : Fin 32) (q : Fin 24) :
    (Rect.unit (s := S128x24) (k1_off1 k) S32x24.size (k1_off1_inb k)).emb (ix2 r q) = ix2 (row k r) q := by
  funext a
  apply Fin.ext
  match a with
  | ⟨0, _⟩ => show k1_off1 k 0 + 1 * r.val = 32 * k.val + r.val; rw [off1_0]; omega
  | ⟨1, _⟩ => show k1_off1 k 1 + 1 * q.val = q.val; rw [off1_1]; omega

/-- A lane block's load of a whole buffer, at an element. -/
theorem ldB_at {e : EltTy} (a : Memref sig .tc .vmem S128x3072 e) (ha : a.IsWhole) (X : Vec Ideal S128x3072 e)
    (k : Fin k1_t1_loop.trips) (n : ℕ) (h : n < 24) (r : Fin 32) (l : Fin 128) :
    ldB (F := Ideal) a (ha.unread X) k n h (ix2 r l) = X (ix2 (row k r) (Spec.col ⟨n, h⟩ l)) :=
  (ha.readAt_unread X _ _).trans (congrArg X (brect_emb k n h r l))

/-- A trip's load of the scales, at an element. -/
theorem ldS_at (a : Memref sig .tc .vmem S128x24 .f32) (ha : a.IsWhole) (X : Vec Ideal S128x24 .f32)
    (k : Fin k1_t1_loop.trips) (r : Fin 32) (q : Fin 24) :
    ldS (F := Ideal) a (ha.unread X) k (ix2 r q) = X (ix2 (row k r) q) :=
  (ha.readAt_unread X _ _).trans (congrArg X (srect_emb k r q))

/-- Lane blocks that agree with one function of the row tile are pieces that agree with it. -/
theorem blocks_agree {e : EltTy} (k : Fin k1_t1_loop.trips) (p : (j : ℕ) → j < 24 → Vec Ideal S32x128 e) (G : S128x3072.Idx → Elt Ideal e)
    (H : ∀ j hj r l, p j hj (ix2 r l) = G (ix2 (row k r) (Spec.col ⟨j, hj⟩ l))) :
    ∀ n hn, ∀ pc ∈ blocks (F := Ideal) k p n hn, ∀ x, pc.2 x = G (pc.1.emb x)
  | 0, _, pc, h => absurd h List.not_mem_nil
  | n + 1, hn, pc, h => by
    rcases List.mem_cons.mp h with rfl | h
    · intro x
      obtain ⟨r, l, rfl⟩ : ∃ (r : Fin 32) (l : Fin 128), x = ix2 r l := ⟨x 0, x 1, eq_ix2 x⟩
      exact (H n hn r l).trans (congrArg G (brect_emb k n hn r l).symm)
    · exact blocks_agree k p G H n _ pc h

/-- Scales that agree with one function of the row tile's scales make a piece that agrees with it. -/
theorem scales_agree (k : Fin k1_t1_loop.trips) (v6 : IVec S32x128 32) (h6 : ∀ r l, v6 (ix2 r l) = BitVec.ofNat 32 l.val)
    (p : (j : ℕ) → j < 24 → FVec Ideal S32x128 .f32) (G : S128x24.Idx → Elt Ideal .f32)
    (H : ∀ j hj r, (Spec.scale fun l => p j hj (ix2 r l)) = G (ix2 (row k r) ⟨j, hj⟩)) :
    ∀ pc ∈ scales (F := Ideal) k v6 p, ∀ x, pc.2 x = G (pc.1.emb x) := by
  intro pc h
  obtain rfl := List.mem_singleton.mp h
  intro x
  obtain ⟨r, q, rfl⟩ : ∃ (r : Fin 32) (q : Fin 24), x = ix2 r q := ⟨x 0, x 1, eq_ix2 x⟩
  have e : ∀ y : FVec Ideal S32x128 .f32, extractStridedSlice S32x24 ![0, 0] y slices_S32x128_o0_0_S32x24 (ix2 r q) = y (ix2 r ⟨q.val, by omega⟩) := fun y => by
    pointwise
  refine (e _).trans ((chain_at v6 h6 p r _ 24 le_rfl q.isLt).trans ((H q.val q.isLt r).trans (congrArg G (srect_emb k r q).symm)))

/-- Lists that grow by one trip's pieces at a time agree with a function every trip's pieces agree with. -/
theorem trips_agree {s : Shape} {e : EltTy} (T : Fin k1_t1_loop.trips → List (View.Piece (Elt Ideal) s e)) (L : ℕ → List (View.Piece (Elt Ideal) s e))
    (h0 : L 0 = []) (hs : ∀ k : Fin k1_t1_loop.trips, L (k.val + 1) = T k ++ L k.val) (G : s.Idx → Elt Ideal e)
    (HT : ∀ k, ∀ pc ∈ T k, ∀ x, pc.2 x = G (pc.1.emb x)) :
    ∀ n, n ≤ k1_t1_loop.trips → ∀ pc ∈ L n, ∀ x, pc.2 x = G (pc.1.emb x)
  | 0, _, pc, h => by rw [h0] at h; exact absurd h List.not_mem_nil
  | n + 1, hn, pc, h => by
    rw [hs ⟨n, hn⟩] at h
    rcases List.mem_append.mp h with h | h
    · exact HT _ pc h
    · exact trips_agree T L h0 hs G HT n (Nat.le_of_succ_le hn) pc h

section Point

variable (𝒱 : Variants) (c : Dev nD) (bd : Option 𝒱.V) (i : grid1.Coords)
  (arg1 : Memref sig .tc .smem S3 .f32) (harg1 : arg1.IsWhole) (arg2 : Memref sig .tc .vmem S12x8x128 .f32) (harg2 : arg2.IsWhole) (arg3 : Memref sig .tc .vmem S128x3072 .f32) (harg3 : arg3.IsWhole) (arg4 : Memref sig .tc .vmem S128x3072 .bf16) (harg4 : arg4.IsWhole) (arg5 : Memref sig .tc .vmem S128x3072 .i8) (harg5 : arg5.IsWhole) (arg6 : Memref sig .tc .vmem S128x24 .f32) (harg6 : arg6.IsWhole) (arg7 : Memref sig .tc .vmem S128x3072 .i8) (harg7 : arg7.IsWhole) (arg8 : Memref sig .tc .vmem S128x24 .f32) (harg8 : arg8.IsWhole) (arg9 : Memref sig .tc .vmem S128x3072 .bf16) (harg9 : arg9.IsWhole) (arg10 : Memref sig .tc .vmem S128x3072 .f32) (harg10 : arg10.IsWhole) (arg11 : Memref sig .tc .vmem S8x128 .f32) (harg11 : arg11.IsWhole) (arg12 : Memref sig .tc .vmem S128x3072 .i8) (harg12 : arg12.IsWhole) (arg13 : Memref sig .tc .vmem S128x24 .f32) (harg13 : arg13.IsWhole) (arg14 : Memref sig .tc .vmem S128x3072 .i8) (harg14 : arg14.IsWhole) (arg15 : Memref sig .tc .vmem S128x24 .f32) (harg15 : arg15.IsWhole) (arg16 : Memref sig .tc .smem S1 .f32) (harg16 : arg16.IsWhole)
  (v3 v4 v5 : Elt Ideal .f32) (v6 : IVec S32x128 32) (h6 : ∀ r l, v6 (ix2 r l) = BitVec.ofNat 32 l.val)
  (x2 : Vec Ideal S128x3072 .f32) (x3 : Vec Ideal S128x3072 .bf16) (x4 : Vec Ideal S128x3072 .i8) (x5 : Vec Ideal S128x24 .f32)
  (x6 : Vec Ideal S128x3072 .i8) (x7 : Vec Ideal S128x24 .f32)

/-- The first moment of a lane block of trip `k`, at an element. -/
theorem mB (k : Fin k1_t1_loop.trips) (n : ℕ) (h : n < 24) (r : Fin 32) (l : Fin 128) :
    mV (F := Ideal) n h v3 (ldS (F := Ideal) arg6 (harg6.unread x5) k) (ldB (F := Ideal) arg3 (harg3.unread x2) k n h) (ldB (F := Ideal) arg5 (harg5.unread x4) k n h) (ix2 r l)
      = Spec.M v3 x2 x4 x5 (row k r) ⟨n, h⟩ l := by
  rw [mV_at, ldS_at, ldB_at, ldB_at]; rfl

/-- The second moment of a lane block of trip `k`, at an element. -/
theorem vB (k : Fin k1_t1_loop.trips) (n : ℕ) (h : n < 24) (r : Fin 32) (l : Fin 128) :
    vV (F := Ideal) n h v3 (ldS (F := Ideal) arg8 (harg8.unread x7) k) (ldB (F := Ideal) arg3 (harg3.unread x2) k n h) (ldB (F := Ideal) arg7 (harg7.unread x6) k n h) (ix2 r l)
      = Spec.V v3 x2 x6 x7 (row k r) ⟨n, h⟩ l := by
  rw [vV_at, ldS_at, ldB_at, ldB_at]; rfl

/-- The pieces stored to the step. -/
theorem agree_9 (n : ℕ) (hn : n ≤ k1_t1_loop.trips) :
    ∀ pc ∈ (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.1, ∀ x, pc.2 x = (Spec.steps v3 v4 v5 x2 x4 x5 x6 x7) (pc.1.emb x) := by
  refine trips_agree (fun k => (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k).2.1) (fun n => (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.1) rfl
    (fun k => congrArg (fun z => z.2.1) (pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k)) _ (fun k => ?_) n hn
  rw [trip_9]
  refine blocks_agree k _ _ (fun j hj r l => ?_) 24 le_rfl
  rw [uV_at, mB, vB]
  unfold Spec.steps
  rw [show Spec.grp (ix2 (row k r) (Spec.col ⟨j, hj⟩ l) 1) = ⟨j, hj⟩ from Spec.grp_col _ _, show Spec.lane (ix2 (row k r) (Spec.col ⟨j, hj⟩ l) 1) = l from Spec.lane_col _ _]
  rfl

/-- The pieces stored to the weights. -/
theorem agree_8 (n : ℕ) (hn : n ≤ k1_t1_loop.trips) :
    ∀ pc ∈ (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).1, ∀ x, pc.2 x = (Spec.weights v3 v4 v5 x2 x3 x4 x5 x6 x7) (pc.1.emb x) := by
  refine trips_agree (fun k => (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k).1) (fun n => (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).1) rfl
    (fun k => congrArg (fun z => z.1) (pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k)) _ (fun k => ?_) n hn
  rw [trip_8]
  refine blocks_agree k _ _ (fun j hj r l => ?_) 24 le_rfl
  rw [wV_at, uV_at, mB, vB, ldB_at]
  unfold Spec.weights Spec.steps
  rw [show Spec.grp (ix2 (row k r) (Spec.col ⟨j, hj⟩ l) 1) = ⟨j, hj⟩ from Spec.grp_col _ _, show Spec.lane (ix2 (row k r) (Spec.col ⟨j, hj⟩ l) 1) = l from Spec.lane_col _ _]
  rfl

/-- The pieces stored to the first moment's codes. -/
theorem agree_11 (n : ℕ) (hn : n ≤ k1_t1_loop.trips) :
    ∀ pc ∈ (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.2.1, ∀ x, pc.2 x = (Spec.codes (Spec.M v3 x2 x4 x5)) (pc.1.emb x) := by
  refine trips_agree (fun k => (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k).2.2.1) (fun n => (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.2.1) rfl
    (fun k => congrArg (fun z => z.2.2.1) (pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k)) _ (fun k => ?_) n hn
  rw [trip_11]
  refine blocks_agree k _ _ (fun j hj r l => ?_) 24 le_rfl
  rw [cV_at]
  simp only [mB]
  unfold Spec.codes
  rw [show Spec.grp (ix2 (row k r) (Spec.col ⟨j, hj⟩ l) 1) = ⟨j, hj⟩ from Spec.grp_col _ _, show Spec.lane (ix2 (row k r) (Spec.col ⟨j, hj⟩ l) 1) = l from Spec.lane_col _ _]
  rfl

/-- The pieces stored to the second moment's codes. -/
theorem agree_13 (n : ℕ) (hn : n ≤ k1_t1_loop.trips) :
    ∀ pc ∈ (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.2.2.2.1, ∀ x, pc.2 x = (Spec.codes (Spec.Q v3 x2 x6 x7)) (pc.1.emb x) := by
  refine trips_agree (fun k => (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k).2.2.2.2.1) (fun n => (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.2.2.2.1) rfl
    (fun k => congrArg (fun z => z.2.2.2.2.1) (pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k)) _ (fun k => ?_) n hn
  rw [trip_13]
  refine blocks_agree k _ _ (fun j hj r l => ?_) 24 le_rfl
  rw [cV_at]
  have e : ∀ l, sqrt (vV (F := Ideal) j hj v3 (ldS (F := Ideal) arg8 (harg8.unread x7) k) (ldB (F := Ideal) arg3 (harg3.unread x2) k j hj) (ldB (F := Ideal) arg7 (harg7.unread x6) k j hj)) (ix2 r l)
      = Spec.Q v3 x2 x6 x7 (row k r) ⟨j, hj⟩ l := fun l => congrArg (FloatOps.sqrt (F := Ideal) (φ := .f32)) (vB arg3 harg3 arg7 harg7 arg8 harg8 v3 x2 x6 x7 k j hj r l)
  simp only [e]
  unfold Spec.codes
  rw [show Spec.grp (ix2 (row k r) (Spec.col ⟨j, hj⟩ l) 1) = ⟨j, hj⟩ from Spec.grp_col _ _, show Spec.lane (ix2 (row k r) (Spec.col ⟨j, hj⟩ l) 1) = l from Spec.lane_col _ _]
  rfl

include h6 in
/-- The pieces stored to the first moment's scales. -/
theorem agree_12 (n : ℕ) (hn : n ≤ k1_t1_loop.trips) :
    ∀ pc ∈ (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.2.2.1, ∀ x, pc.2 x = (Spec.scales (Spec.M v3 x2 x4 x5)) (pc.1.emb x) := by
  refine trips_agree (fun k => (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k).2.2.2.1) (fun n => (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.2.2.1) rfl
    (fun k => congrArg (fun z => z.2.2.2.1) (pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k)) _ (fun k => ?_) n hn
  rw [trip_12]
  refine scales_agree k v6 h6 _ _ (fun j hj r => ?_)
  simp only [mB]
  rfl

include h6 in
/-- The pieces stored to the second moment's scales. -/
theorem agree_14 (n : ℕ) (hn : n ≤ k1_t1_loop.trips) :
    ∀ pc ∈ (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.2.2.2.2, ∀ x, pc.2 x = (Spec.scales (Spec.Q v3 x2 x6 x7)) (pc.1.emb x) := by
  refine trips_agree (fun k => (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k).2.2.2.2.2.1) (fun n => (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) n).2.2.2.2.2) rfl
    (fun k => congrArg (fun z => z.2.2.2.2.2) (pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v5 v6 (harg3.unread x2) (harg4.unread x3) (harg5.unread x4) (harg6.unread x5) (harg7.unread x6) (harg8.unread x7) k)) _ (fun k => ?_) n hn
  rw [trip_14]
  refine scales_agree k v6 h6 _ _ (fun j hj r => ?_)
  have e : ∀ l, sqrt (vV (F := Ideal) j hj v3 (ldS (F := Ideal) arg8 (harg8.unread x7) k) (ldB (F := Ideal) arg3 (harg3.unread x2) k j hj) (ldB (F := Ideal) arg7 (harg7.unread x6) k j hj)) (ix2 r l)
      = Spec.Q v3 x2 x6 x7 (row k r) ⟨j, hj⟩ l := fun l => congrArg (FloatOps.sqrt (F := Ideal) (φ := .f32)) (vB arg3 harg3 arg7 harg7 arg8 harg8 v3 x2 x6 x7 k j hj r l)
  simp only [e]
  rfl

end Point

end Cert.KernelIdeal.Adam

end
-- ==== Proof.KernelIdeal.AdamVal.lean ====
/-
The output blocks of a grid point of the Adam kernel, as the Adam step of its input blocks with the clipping factor and
bias corrections the kernel reads, over the extended reals.
-/
module

public import proofs.«01_k».proof.Proof.KernelIdeal.AdamBlk
public import proofs.«01_k».proof.Proof.KernelIdeal.AdamDat

@[expose] public section

set_option maxRecDepth 16384

noncomputable section

namespace Cert.KernelIdeal.Adam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert

/-- A view of a whole buffer written over by pieces that cover it and agree with one function reads back as that function. -/
theorem read_of_agree {sp : Space} {s : Shape} {e : EltTy} (v : View sig .tc sp s e) (f) (L : List (View.Piece (Elt Ideal) s e)) (G : s.Idx → Elt Ideal e)
    (hG : ∀ p ∈ L, ∀ x, p.2 x = G (p.1.emb x)) (hc : ∀ y, ∃ pc ∈ L, y ∈ pc.1.set) :
    v.read (Elt Ideal) (v.writes (Elt Ideal) f L) = G :=
  funext fun y => View.read_writes_apply_of_pieces v f G L hG y (hc y)

/-- Recasting an array's shape does not change the sum of its elements. -/
theorem sum_shapeCast {s t : Shape} (h : s.ShapeCasts t) (x : FVec Ideal s .f32) : (∑ i : t.Idx, shapeCast t x h i) = ∑ i : s.Idx, x i :=
  Equiv.sum_comp (Shape.reshapeEquiv h) x

/-- A one-element array recast, its element taken and repeated. -/
theorem extract_cast (x : FVec Ideal S1 .f32) (j : S8x128.Idx) :
    broadcast S8x128 (extractAt ![0, 0, 0, 0] (shapeCast S1x1x1x1 x shapeCasts_S1_S1x1x1x1) inpos_S1x1x1x1_p0_0_0_0) j = x (ix1 0) :=
  congrArg x (funext fun a => match a with | ⟨0, _⟩ => Subsingleton.elim (α := Fin 1) _ _)

/-- The stored norm is the root of the total of the sums of squares. -/
theorem pay1_at (x : Vec Ideal S12x8x128 .f32) (j : S8x128.Idx) : k1_pay1 (F := Ideal) x j = Spec.norm (∑ i : S12x8x128.Idx, x i) := by
  unfold k1_pay1 Spec.norm
  dsimp only
  rw [sqrt_apply, extract_cast]
  refine congrArg (FloatOps.sqrt (F := Ideal) (φ := .f32)) ?_
  refine (Ideal.multiReduction_add_total (shapeCast S1x12x8x128 (shapeCast S12x8x128 x shapeCasts_S12x8x128_S12x8x128) shapeCasts_S12x8x128_S1x12x8x128)
    0x00000000#32 reduces_S1x12x8x128_S1 (by decide) (.inl rfl) rfl _).trans ?_
  exact (sum_shapeCast _ _).trans (sum_shapeCast _ x)

/-- The maximum over a block of one repeated value is that value. -/
theorem max_const (z : Ideal .f32) (j : S1.Idx) :
    multiReduction (F := Ideal) .maximumf [1, 2] S1 (fun _ : S1x8x128.Idx => z) 0xFF800000#32 reduces_S1x8x128_S1 (.inl rfl) rfl j = z := by
  refine (multiReduction_maximumf_eq_fold (F := Ideal) (φ := .f32) (fun _ : S1x8x128.Idx => z) 0xFF800000#32 reduces_S1x8x128_S1 (.inl rfl) rfl j).trans ?_
  have hb : (FloatOps.ofBits .f32 0xFF800000#32 : Ideal .f32) = (⊥ : EReal) := by show Ideal.ofBits .f32 0xFF800000#32 = ⊥; simp [Ideal.ofBits, Ideal.ieee]
  rw [hb]
  refine (Finset.fold_const z (max_eq_right (le_max_right _ _))).trans ?_
  refine (if_neg ?_).trans (max_eq_right bot_le)
  refine Finset.ne_empty_of_mem (a := ix3 0 0 0) (Finset.mem_filter.mpr ⟨Finset.mem_univ _, funext fun b => ?_⟩)
  match b with
  | ⟨0, _⟩ => exact Subsingleton.elim (α := Fin 1) _ _

/-- The clipping factor the kernel stores. -/
theorem pay2_at (x : Vec Ideal S12x8x128 .f32) (mx : Ideal .f32) : k1_pay2 (F := Ideal) x mx = Spec.clip mx (Spec.norm (∑ i : S12x8x128.Idx, x i)) := by
  have e : shapeCast S1x8x128 (divf (broadcast S8x128 mx) (select (cmpf .ogt (k1_pay1 (F := Ideal) x) (broadcast S8x128 (Scalar.ofBits .f32 0x00000000#32))) (k1_pay1 (F := Ideal) x)
      (broadcast S8x128 (Scalar.ofBits .f32 0x3F800000#32)))) shapeCasts_S8x128_S1x8x128 = fun _ => Spec.clip mx (Spec.norm (∑ i : S12x8x128.Idx, x i)) :=
    funext fun i => congrArg (Spec.clip mx) (pay1_at x _)
  unfold k1_pay2
  dsimp only
  rw [e]
  exact max_const _ _

/-- A word of the three-word table of the bound and the corrections. -/
theorem word_at (a : Memref sig .tc .smem S3 .f32) (ha : a.IsWhole) (X : Vec Ideal S3 .f32) (o : ℕ) (ho : ∀ d, (![o] : Fin 1 → ℕ) d + S1.size d ≤ S3.size d) (h3 : o < 3)
    (hn : 0 < (Rect.unit (s := S3) ![o] S1.size ho).shape.numel) :
    View.readAt (Elt Ideal) a.view (Rect.unit (s := S3) ![o] S1.size ho).toLoadRect (ha.unread X) (Shape.Idx.first hn) = X (ix1 ⟨o, h3⟩) := by
  refine (ha.readAt_unread X _ _).trans (congrArg X (funext fun d => Fin.ext ?_))
  match d with
  | ⟨0, _⟩ => rfl

/-- The word of a one-word buffer. -/
theorem word1_at (a : Memref sig .tc .smem S1 .f32) (ha : a.IsWhole) (X : Vec Ideal S1 .f32) (ho : ∀ d, (![0] : Fin 1 → ℕ) d + S1.size d ≤ S1.size d)
    (hn : 0 < (Rect.unit (s := S1) ![0] S1.size ho).shape.numel) :
    View.readAt (Elt Ideal) a.view (Rect.unit (s := S1) ![0] S1.size ho).toLoadRect (ha.unread X) (Shape.Idx.first hn) = X (ix1 0) := by
  refine (ha.readAt_unread X _ _).trans (congrArg X (funext fun d => Fin.ext ?_))
  match d with
  | ⟨0, _⟩ => rfl

/-- The sums of squares, read whole. -/
theorem ss_at (a : Memref sig .tc .vmem S12x8x128 .f32) (ha : a.IsWhole) (X : Vec Ideal S12x8x128 .f32) :
    View.readAt (Elt Ideal) a.view (Rect.unit (s := S12x8x128) ![0, 0, 0] S12x8x128.size inb_S12x8x128_S12x8x128_0_0_0).toLoadRect (ha.unread X) = X := by
  funext y
  refine (ha.readAt_unread X _ y).trans (congrArg X (funext fun d => Fin.ext ?_))
  match d with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The lane numbers. -/
theorem lanes_at (r : Fin 32) (l : Fin 128) : iota .tc S32x128 32 [1] iota_S32x128_d1_w32 (ix2 r l) = BitVec.ofNat 32 l.val := by
  pointwise

/-- The clipping factor the first grid point computes. -/
theorem clip_at (c : Dev nD) (arg1 : Memref sig .tc .smem S3 .f32) (harg1 : arg1.IsWhole) (arg2 : Memref sig .tc .vmem S12x8x128 .f32) (harg2 : arg2.IsWhole)
    (x0 : Vec Ideal S3 .f32) (x1 : Vec Ideal S12x8x128 .f32) :
    run1A.sl.r_2 (F := Ideal) c arg1 harg1 arg2 harg2 x0 x1 = Spec.clip (x0 (ix1 0)) (Spec.norm (∑ i : S12x8x128.Idx, x1 i)) := by
  unfold run1A.sl.r_2 run1A.sl.r
  rw [ss_at, pay2_at]
  exact congrArg (fun z => Spec.clip z _) (word_at arg1 harg1 x0 0 _ (by decide) _)

section Out

variable (W : Dev nD → Valuation τ sig (Elt Ideal)) (c : Dev nD)

/-- The clipping factor every grid point uses. -/
def clipv : Ideal .f32 := Spec.clip ((iblk W c 0 t0 : Vec Ideal S3 .f32) (ix1 0)) (Spec.norm (∑ i : S12x8x128.Idx, (iblk W c 1 t0 : Vec Ideal S12x8x128 .f32) i))

/-- The scratch word holds the clipping factor. -/
theorem scv_eq : scv W c = fun _ => clipv W c := by
  unfold scv
  refine read_of_agree _ _ _ _ (fun p hp x => ?_) (cover1_A_S c (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (iblk W c 0 t0) (iblk W c 1 t0) (iblk W c 2 t0) (iblk W c 3 t0) (iblk W c 4 t0) (iblk W c 5 t0) (iblk W c 6 t0) (iblk W c 7 t0) ((hcond1_0 t0).mpr rfl))
  obtain rfl := List.mem_singleton.mp hp
  exact clip_at c _ _ _ _ _ _

/-- The norm's block holds the norm. -/
theorem nrm_eq : nrm W c = fun _ => Spec.norm (∑ i : S12x8x128.Idx, (iblk W c 1 t0 : Vec Ideal S12x8x128 .f32) i) := by
  unfold nrm
  refine read_of_agree _ _ _ _ (fun p hp x => ?_) (cover1_A_10 c (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (iblk W c 0 t0) (iblk W c 1 t0) (iblk W c 2 t0) (iblk W c 3 t0) (iblk W c 4 t0) (iblk W c 5 t0) (iblk W c 6 t0) (iblk W c 7 t0) ((hcond1_0 t0).mpr rfl))
  obtain rfl := List.mem_singleton.mp hp
  exact (congrArg (fun z => k1_pay1 (F := Ideal) z x) (ss_at _ _ _)).trans (pay1_at _ _)

/-- A point's clipping factor and two corrections, at the first point. -/
theorem wordsA (arg1 : Memref sig .tc .smem S3 .f32) (harg1 : arg1.IsWhole) (x0 : Vec Ideal S3 .f32) :
    run1A.sl.r_3 (F := Ideal) c arg1 harg1 x0 = x0 (ix1 1) ∧ run1A.sl.r_4 (F := Ideal) c arg1 harg1 x0 = x0 (ix1 2) :=
  ⟨word_at arg1 harg1 x0 1 _ (by decide) _, word_at arg1 harg1 x0 2 _ (by decide) _⟩

/-- The same at a later point, whose clipping factor is the scratch word. -/
theorem wordsB (arg1 : Memref sig .tc .smem S3 .f32) (harg1 : arg1.IsWhole) (x0 : Vec Ideal S3 .f32) (arg16 : Memref sig .tc .smem S1 .f32) (harg16 : arg16.IsWhole) (xs : Vec Ideal S1 .f32) :
    run1B.sl.r (F := Ideal) c arg16 harg16 xs = xs (ix1 0) ∧ run1B.sl.r_1 (F := Ideal) c arg1 harg1 x0 = x0 (ix1 1) ∧ run1B.sl.r_2 (F := Ideal) c arg1 harg1 x0 = x0 (ix1 2) :=
  ⟨word1_at arg16 harg16 xs _ _, word_at arg1 harg1 x0 1 _ (by decide) _, word_at arg1 harg1 x0 2 _ (by decide) _⟩

/-- The new weights of a row tile. -/
theorem out8_eq (t : Fin cfg1.N) : out8 W c t = Spec.weights (clipv W c) ((iblk W c 0 t : Vec Ideal S3 .f32) (ix1 1)) ((iblk W c 0 t : Vec Ideal S3 .f32) (ix1 2)) (iblk W c 2 t) (iblk W c 3 t) (iblk W c 4 t) (iblk W c 5 t) (iblk W c 6 t) (iblk W c 7 t) := by
  by_cases h : t.val = 0
  · obtain rfl : t = t0 := Fin.ext h
    unfold out8
    rw [dif_pos h]
    have e := agree_8 Variants.none c none (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (run1A.sl.r_2 (F := Ideal) c (ms1_0 t0) (hs1_0 t0) (ms1_1 t0) (hs1_1 t0) (iblk W c 0 t0) (iblk W c 1 t0)) (run1A.sl.r_3 (F := Ideal) c (ms1_0 t0) (hs1_0 t0) (iblk W c 0 t0)) (run1A.sl.r_4 (F := Ideal) c (ms1_0 t0) (hs1_0 t0) (iblk W c 0 t0)) run1A.sl.v6 (iblk W c 2 t0) (iblk W c 3 t0) (iblk W c 4 t0) (iblk W c 5 t0) (iblk W c 6 t0) (iblk W c 7 t0) k1_t1_loop.trips le_rfl
    refine (read_of_agree _ _ _ _ e (cover1_A_8 c (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (iblk W c 0 t0) (iblk W c 1 t0) (iblk W c 2 t0) (iblk W c 3 t0) (iblk W c 4 t0) (iblk W c 5 t0) (iblk W c 6 t0) (iblk W c 7 t0) ((hcond1_0 t0).mpr rfl))).trans ?_
    rw [clip_at, (wordsA c _ _ _).1, (wordsA c _ _ _).2]; rfl
  · unfold out8
    rw [dif_neg h]
    have e := agree_8 Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (run1B.sl.r (F := Ideal) c scM hscM (scv W c)) (run1B.sl.r_1 (F := Ideal) c (ms1_0 t) (hs1_0 t) (iblk W c 0 t)) (run1B.sl.r_2 (F := Ideal) c (ms1_0 t) (hs1_0 t) (iblk W c 0 t)) run1B.sl.v6 (iblk W c 2 t) (iblk W c 3 t) (iblk W c 4 t) (iblk W c 5 t) (iblk W c 6 t) (iblk W c 7 t) k1_t1_loop.trips le_rfl
    refine (read_of_agree _ _ _ _ e (cover1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (iblk W c 0 t) (iblk W c 1 t) (iblk W c 2 t) (iblk W c 3 t) (iblk W c 4 t) (iblk W c 5 t) (iblk W c 6 t) (iblk W c 7 t) (fun h' => h ((hcond1_0 t).mp h')) (scv W c))).trans ?_
    rw [(wordsB c (ms1_0 t) (hs1_0 t) (iblk W c 0 t) scM hscM (scv W c)).1, (wordsB c (ms1_0 t) (hs1_0 t) (iblk W c 0 t) scM hscM (scv W c)).2.1, (wordsB c (ms1_0 t) (hs1_0 t) (iblk W c 0 t) scM hscM (scv W c)).2.2, scv_eq]

/-- The steps of a row tile. -/
theorem out9_eq (t : Fin cfg1.N) : out9 W c t = Spec.steps (clipv W c) ((iblk W c 0 t : Vec Ideal S3 .f32) (ix1 1)) ((iblk W c 0 t : Vec Ideal S3 .f32) (ix1 2)) (iblk W c 2 t) (iblk W c 4 t) (iblk W c 5 t) (iblk W c 6 t) (iblk W c 7 t) := by
  by_cases h : t.val = 0
  · obtain rfl : t = t0 := Fin.ext h
    unfold out9
    rw [dif_pos h]
    have e := agree_9 Variants.none c none (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (run1A.sl.r_2 (F := Ideal) c (ms1_0 t0) (hs1_0 t0) (ms1_1 t0) (hs1_1 t0) (iblk W c 0 t0) (iblk W c 1 t0)) (run1A.sl.r_3 (F := Ideal) c (ms1_0 t0) (hs1_0 t0) (iblk W c 0 t0)) (run1A.sl.r_4 (F := Ideal) c (ms1_0 t0) (hs1_0 t0) (iblk W c 0 t0)) run1A.sl.v6 (iblk W c 2 t0) (iblk W c 3 t0) (iblk W c 4 t0) (iblk W c 5 t0) (iblk W c 6 t0) (iblk W c 7 t0) k1_t1_loop.trips le_rfl
    refine (read_of_agree _ _ _ _ e (cover1_A_9 c (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (iblk W c 0 t0) (iblk W c 1 t0) (iblk W c 2 t0) (iblk W c 3 t0) (iblk W c 4 t0) (iblk W c 5 t0) (iblk W c 6 t0) (iblk W c 7 t0) ((hcond1_0 t0).mpr rfl))).trans ?_
    rw [clip_at, (wordsA c _ _ _).1, (wordsA c _ _ _).2]; rfl
  · unfold out9
    rw [dif_neg h]
    have e := agree_9 Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (run1B.sl.r (F := Ideal) c scM hscM (scv W c)) (run1B.sl.r_1 (F := Ideal) c (ms1_0 t) (hs1_0 t) (iblk W c 0 t)) (run1B.sl.r_2 (F := Ideal) c (ms1_0 t) (hs1_0 t) (iblk W c 0 t)) run1B.sl.v6 (iblk W c 2 t) (iblk W c 3 t) (iblk W c 4 t) (iblk W c 5 t) (iblk W c 6 t) (iblk W c 7 t) k1_t1_loop.trips le_rfl
    refine (read_of_agree _ _ _ _ e (cover1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (iblk W c 0 t) (iblk W c 1 t) (iblk W c 2 t) (iblk W c 3 t) (iblk W c 4 t) (iblk W c 5 t) (iblk W c 6 t) (iblk W c 7 t) (fun h' => h ((hcond1_0 t).mp h')) (scv W c))).trans ?_
    rw [(wordsB c (ms1_0 t) (hs1_0 t) (iblk W c 0 t) scM hscM (scv W c)).1, (wordsB c (ms1_0 t) (hs1_0 t) (iblk W c 0 t) scM hscM (scv W c)).2.1, (wordsB c (ms1_0 t) (hs1_0 t) (iblk W c 0 t) scM hscM (scv W c)).2.2, scv_eq]

/-- The first moment's codes of a row tile. -/
theorem out11_eq (t : Fin cfg1.N) : out11 W c t = Spec.codes (Spec.M (clipv W c) (iblk W c 2 t) (iblk W c 4 t) (iblk W c 5 t)) := by
  by_cases h : t.val = 0
  · obtain rfl : t = t0 := Fin.ext h
    unfold out11
    rw [dif_pos h]
    have e := agree_11 Variants.none c none (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (run1A.sl.r_2 (F := Ideal) c (ms1_0 t0) (hs1_0 t0) (ms1_1 t0) (hs1_1 t0) (iblk W c 0 t0) (iblk W c 1 t0)) (run1A.sl.r_3 (F := Ideal) c (ms1_0 t0) (hs1_0 t0) (iblk W c 0 t0)) (run1A.sl.r_4 (F := Ideal) c (ms1_0 t0) (hs1_0 t0) (iblk W c 0 t0)) run1A.sl.v6 (iblk W c 2 t0) (iblk W c 3 t0) (iblk W c 4 t0) (iblk W c 5 t0) (iblk W c 6 t0) (iblk W c 7 t0) k1_t1_loop.trips le_rfl
    refine (read_of_agree _ _ _ _ e (cover1_A_11 c (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (iblk W c 0 t0) (iblk W c 1 t0) (iblk W c 2 t0) (iblk W c 3 t0) (iblk W c 4 t0) (iblk W c 5 t0) (iblk W c 6 t0) (iblk W c 7 t0) ((hcond1_0 t0).mpr rfl))).trans ?_
    rw [clip_at]; rfl
  · unfold out11
    rw [dif_neg h]
    have e := agree_11 Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (run1B.sl.r (F := Ideal) c scM hscM (scv W c)) (run1B.sl.r_1 (F := Ideal) c (ms1_0 t) (hs1_0 t) (iblk W c 0 t)) (run1B.sl.r_2 (F := Ideal) c (ms1_0 t) (hs1_0 t) (iblk W c 0 t)) run1B.sl.v6 (iblk W c 2 t) (iblk W c 3 t) (iblk W c 4 t) (iblk W c 5 t) (iblk W c 6 t) (iblk W c 7 t) k1_t1_loop.trips le_rfl
    refine (read_of_agree _ _ _ _ e (cover1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (iblk W c 0 t) (iblk W c 1 t) (iblk W c 2 t) (iblk W c 3 t) (iblk W c 4 t) (iblk W c 5 t) (iblk W c 6 t) (iblk W c 7 t) (fun h' => h ((hcond1_0 t).mp h')) (scv W c))).trans ?_
    rw [(wordsB c (ms1_0 t) (hs1_0 t) (iblk W c 0 t) scM hscM (scv W c)).1, scv_eq]

/-- The first moment's scales of a row tile. -/
theorem out12_eq (t : Fin cfg1.N) : out12 W c t = Spec.scales (Spec.M (clipv W c) (iblk W c 2 t) (iblk W c 4 t) (iblk W c 5 t)) := by
  by_cases h : t.val = 0
  · obtain rfl : t = t0 := Fin.ext h
    unfold out12
    rw [dif_pos h]
    have e := agree_12 Variants.none c none (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (run1A.sl.r_2 (F := Ideal) c (ms1_0 t0) (hs1_0 t0) (ms1_1 t0) (hs1_1 t0) (iblk W c 0 t0) (iblk W c 1 t0)) (run1A.sl.r_3 (F := Ideal) c (ms1_0 t0) (hs1_0 t0) (iblk W c 0 t0)) (run1A.sl.r_4 (F := Ideal) c (ms1_0 t0) (hs1_0 t0) (iblk W c 0 t0)) run1A.sl.v6 lanes_at (iblk W c 2 t0) (iblk W c 3 t0) (iblk W c 4 t0) (iblk W c 5 t0) (iblk W c 6 t0) (iblk W c 7 t0) k1_t1_loop.trips le_rfl
    refine (read_of_agree _ _ _ _ e (cover1_A_12 c (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (iblk W c 0 t0) (iblk W c 1 t0) (iblk W c 2 t0) (iblk W c 3 t0) (iblk W c 4 t0) (iblk W c 5 t0) (iblk W c 6 t0) (iblk W c 7 t0) ((hcond1_0 t0).mpr rfl))).trans ?_
    rw [clip_at]; rfl
  · unfold out12
    rw [dif_neg h]
    have e := agree_12 Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (run1B.sl.r (F := Ideal) c scM hscM (scv W c)) (run1B.sl.r_1 (F := Ideal) c (ms1_0 t) (hs1_0 t) (iblk W c 0 t)) (run1B.sl.r_2 (F := Ideal) c (ms1_0 t) (hs1_0 t) (iblk W c 0 t)) run1B.sl.v6 lanes_at (iblk W c 2 t) (iblk W c 3 t) (iblk W c 4 t) (iblk W c 5 t) (iblk W c 6 t) (iblk W c 7 t) k1_t1_loop.trips le_rfl
    refine (read_of_agree _ _ _ _ e (cover1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (iblk W c 0 t) (iblk W c 1 t) (iblk W c 2 t) (iblk W c 3 t) (iblk W c 4 t) (iblk W c 5 t) (iblk W c 6 t) (iblk W c 7 t) (fun h' => h ((hcond1_0 t).mp h')) (scv W c))).trans ?_
    rw [(wordsB c (ms1_0 t) (hs1_0 t) (iblk W c 0 t) scM hscM (scv W c)).1, scv_eq]

/-- The second moment's codes of a row tile. -/
theorem out13_eq (t : Fin cfg1.N) : out13 W c t = Spec.codes (Spec.Q (clipv W c) (iblk W c 2 t) (iblk W c 6 t) (iblk W c 7 t)) := by
  by_cases h : t.val = 0
  · obtain rfl : t = t0 := Fin.ext h
    unfold out13
    rw [dif_pos h]
    have e := agree_13 Variants.none c none (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (run1A.sl.r_2 (F := Ideal) c (ms1_0 t0) (hs1_0 t0) (ms1_1 t0) (hs1_1 t0) (iblk W c 0 t0) (iblk W c 1 t0)) (run1A.sl.r_3 (F := Ideal) c (ms1_0 t0) (hs1_0 t0) (iblk W c 0 t0)) (run1A.sl.r_4 (F := Ideal) c (ms1_0 t0) (hs1_0 t0) (iblk W c 0 t0)) run1A.sl.v6 (iblk W c 2 t0) (iblk W c 3 t0) (iblk W c 4 t0) (iblk W c 5 t0) (iblk W c 6 t0) (iblk W c 7 t0) k1_t1_loop.trips le_rfl
    refine (read_of_agree _ _ _ _ e (cover1_A_13 c (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (iblk W c 0 t0) (iblk W c 1 t0) (iblk W c 2 t0) (iblk W c 3 t0) (iblk W c 4 t0) (iblk W c 5 t0) (iblk W c 6 t0) (iblk W c 7 t0) ((hcond1_0 t0).mpr rfl))).trans ?_
    rw [clip_at]; rfl
  · unfold out13
    rw [dif_neg h]
    have e := agree_13 Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (run1B.sl.r (F := Ideal) c scM hscM (scv W c)) (run1B.sl.r_1 (F := Ideal) c (ms1_0 t) (hs1_0 t) (iblk W c 0 t)) (run1B.sl.r_2 (F := Ideal) c (ms1_0 t) (hs1_0 t) (iblk W c 0 t)) run1B.sl.v6 (iblk W c 2 t) (iblk W c 3 t) (iblk W c 4 t) (iblk W c 5 t) (iblk W c 6 t) (iblk W c 7 t) k1_t1_loop.trips le_rfl
    refine (read_of_agree _ _ _ _ e (cover1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (iblk W c 0 t) (iblk W c 1 t) (iblk W c 2 t) (iblk W c 3 t) (iblk W c 4 t) (iblk W c 5 t) (iblk W c 6 t) (iblk W c 7 t) (fun h' => h ((hcond1_0 t).mp h')) (scv W c))).trans ?_
    rw [(wordsB c (ms1_0 t) (hs1_0 t) (iblk W c 0 t) scM hscM (scv W c)).1, scv_eq]

/-- The second moment's scales of a row tile. -/
theorem out14_eq (t : Fin cfg1.N) : out14 W c t = Spec.scales (Spec.Q (clipv W c) (iblk W c 2 t) (iblk W c 6 t) (iblk W c 7 t)) := by
  by_cases h : t.val = 0
  · obtain rfl : t = t0 := Fin.ext h
    unfold out14
    rw [dif_pos h]
    have e := agree_14 Variants.none c none (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (run1A.sl.r_2 (F := Ideal) c (ms1_0 t0) (hs1_0 t0) (ms1_1 t0) (hs1_1 t0) (iblk W c 0 t0) (iblk W c 1 t0)) (run1A.sl.r_3 (F := Ideal) c (ms1_0 t0) (hs1_0 t0) (iblk W c 0 t0)) (run1A.sl.r_4 (F := Ideal) c (ms1_0 t0) (hs1_0 t0) (iblk W c 0 t0)) run1A.sl.v6 lanes_at (iblk W c 2 t0) (iblk W c 3 t0) (iblk W c 4 t0) (iblk W c 5 t0) (iblk W c 6 t0) (iblk W c 7 t0) k1_t1_loop.trips le_rfl
    refine (read_of_agree _ _ _ _ e (cover1_A_14 c (grid1.coords t0) (ms1_0 t0) (hs1_0 t0) (ms1_1 t0) (hs1_1 t0) (ms1_2 t0) (hs1_2 t0) (ms1_3 t0) (hs1_3 t0) (ms1_4 t0) (hs1_4 t0) (ms1_5 t0) (hs1_5 t0) (ms1_6 t0) (hs1_6 t0) (ms1_7 t0) (hs1_7 t0) (ms1_8 t0) (hs1_8 t0) (ms1_9 t0) (hs1_9 t0) (ms1_10 t0) (hs1_10 t0) (ms1_11 t0) (hs1_11 t0) (ms1_12 t0) (hs1_12 t0) (ms1_13 t0) (hs1_13 t0) (ms1_14 t0) (hs1_14 t0) scM hscM (iblk W c 0 t0) (iblk W c 1 t0) (iblk W c 2 t0) (iblk W c 3 t0) (iblk W c 4 t0) (iblk W c 5 t0) (iblk W c 6 t0) (iblk W c 7 t0) ((hcond1_0 t0).mpr rfl))).trans ?_
    rw [clip_at]; rfl
  · unfold out14
    rw [dif_neg h]
    have e := agree_14 Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (run1B.sl.r (F := Ideal) c scM hscM (scv W c)) (run1B.sl.r_1 (F := Ideal) c (ms1_0 t) (hs1_0 t) (iblk W c 0 t)) (run1B.sl.r_2 (F := Ideal) c (ms1_0 t) (hs1_0 t) (iblk W c 0 t)) run1B.sl.v6 lanes_at (iblk W c 2 t) (iblk W c 3 t) (iblk W c 4 t) (iblk W c 5 t) (iblk W c 6 t) (iblk W c 7 t) k1_t1_loop.trips le_rfl
    refine (read_of_agree _ _ _ _ e (cover1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM hscM (iblk W c 0 t) (iblk W c 1 t) (iblk W c 2 t) (iblk W c 3 t) (iblk W c 4 t) (iblk W c 5 t) (iblk W c 6 t) (iblk W c 7 t) (fun h' => h ((hcond1_0 t).mp h')) (scv W c))).trans ?_
    rw [(wordsB c (ms1_0 t) (hs1_0 t) (iblk W c 0 t) scM hscM (scv W c)).1, scv_eq]

end Out

end Cert.KernelIdeal.Adam

end
-- ==== Proof.KernelIdeal.AdamArr.lean ====
/-
The arrays the Adam pipeline leaves, as the Adam step of the whole input arrays, over the extended reals.
-/
module

public import proofs.«01_k».proof.Proof.KernelIdeal.AdamVal
public import Idealize.ShloMosaic.Lib.Pipeline.ValueKit

@[expose] public section

set_option maxRecDepth 16384

noncomputable section

namespace Cert.KernelIdeal.Adam

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert

/-- Row `r` of row tile `t`, in the whole arrays. -/
def trow (t : Fin cfg1.N) (r : Fin 128) : Fin 12288 := ⟨128 * t.val + r.val, by have : t.val < 96 := Nat.lt_of_lt_of_eq t.isLt N_1; omega⟩

/-! A row tile's results are the whole arrays' results at its rows. -/

section Tile

variable (t : Fin cfg1.N) (C b0 b1 : Spec.R) {g : Spec.Rows 128 Spec.R} {G : Spec.Rows 12288 Spec.R} {w : Spec.Rows 128 (Ideal .bf16)} {Wt : Spec.Rows 12288 (Ideal .bf16)}
  {mc vc : Spec.Rows 128 (BitVec 8)} {MC VC : Spec.Rows 12288 (BitVec 8)} {ms vs : Spec.Scales 128} {MS VS : Spec.Scales 12288}
  (hg : ∀ r k, g (ix2 r k) = G (ix2 (trow t r) k)) (hw : ∀ r k, w (ix2 r k) = Wt (ix2 (trow t r) k))
  (hmc : ∀ r k, mc (ix2 r k) = MC (ix2 (trow t r) k)) (hvc : ∀ r k, vc (ix2 r k) = VC (ix2 (trow t r) k))
  (hms : ∀ r q, ms (ix2 r q) = MS (ix2 (trow t r) q)) (hvs : ∀ r q, vs (ix2 r q) = VS (ix2 (trow t r) q))

include hg hmc hms in
/-- The first moment. -/
theorem M_tile (r : Fin 128) : Spec.M C g mc ms r = Spec.M C G MC MS (trow t r) := by
  funext q l; unfold Spec.M; rw [hg, hmc, hms]

include hg hvc hvs in
/-- The second moment. -/
theorem V_tile (r : Fin 128) : Spec.V C g vc vs r = Spec.V C G VC VS (trow t r) := by
  funext q l; unfold Spec.V; rw [hg, hvc, hvs]

include hg hvc hvs in
/-- Its root. -/
theorem Q_tile (r : Fin 128) : Spec.Q C g vc vs r = Spec.Q C G VC VS (trow t r) := by
  funext q l; unfold Spec.Q; rw [V_tile t C hg hvc hvs r]

include hg hmc hms hvc hvs in
/-- The step. -/
theorem steps_tile (r : Fin 128) (k : Fin 3072) : Spec.steps C b0 b1 g mc ms vc vs (ix2 r k) = Spec.steps C b0 b1 G MC MS VC VS (ix2 (trow t r) k) := by
  show Spec.step b0 b1 (Spec.M C g mc ms r _ _) (Spec.V C g vc vs r _ _) = Spec.step b0 b1 (Spec.M C G MC MS (trow t r) _ _) (Spec.V C G VC VS (trow t r) _ _)
  rw [M_tile t C hg hmc hms, V_tile t C hg hvc hvs]; rfl

include hg hw hmc hms hvc hvs in
/-- The weights. -/
theorem weights_tile (r : Fin 128) (k : Fin 3072) : Spec.weights C b0 b1 g w mc ms vc vs (ix2 r k) = Spec.weights C b0 b1 G Wt MC MS VC VS (ix2 (trow t r) k) := by
  unfold Spec.weights; rw [hw, steps_tile t C b0 b1 hg hmc hvc hms hvs]

/-- The codes of groups. -/
theorem codes_tile {x : Fin 128 → Fin 24 → Fin 128 → Spec.R} {X : Fin 12288 → Fin 24 → Fin 128 → Spec.R} (h : ∀ r, x r = X (trow t r)) (r : Fin 128) (k : Fin 3072) :
    Spec.codes x (ix2 r k) = Spec.codes X (ix2 (trow t r) k) := by
  show Spec.code (x r _) _ = Spec.code (X (trow t r) _) _
  rw [h]; rfl

/-- The scales of groups. -/
theorem scales_tile {x : Fin 128 → Fin 24 → Fin 128 → Spec.R} {X : Fin 12288 → Fin 24 → Fin 128 → Spec.R} (h : ∀ r, x r = X (trow t r)) (r : Fin 128) (q : Fin 24) :
    Spec.scales x (ix2 r q) = Spec.scales X (ix2 (trow t r) q) := by
  show Spec.scale (x r q) = Spec.scale (X (trow t r) q)
  rw [h]

end Tile

/-! Where the windows place their blocks. -/

/-- Window 2. -/
theorem emb2 (t : Fin cfg1.N) (r : Fin 128) (k : Fin 3072) : (win1_2.blk t).view.emb (ix2 r k) = ix2 (trow t r) k := by
  have e : win1_2.index t 0 = t.val ∧ win1_2.index t 1 = 0 := (by decide +kernel : ∀ t : Fin cfg1.N, win1_2.index t 0 = t.val ∧ win1_2.index t 1 = 0) t
  blk_ext [e.1, e.2, trow]

/-- Window 3. -/
theorem emb3 (t : Fin cfg1.N) (r : Fin 128) (k : Fin 3072) : (win1_3.blk t).view.emb (ix2 r k) = ix2 (trow t r) k := by
  have e : win1_3.index t 0 = t.val ∧ win1_3.index t 1 = 0 := (by decide +kernel : ∀ t : Fin cfg1.N, win1_3.index t 0 = t.val ∧ win1_3.index t 1 = 0) t
  blk_ext [e.1, e.2, trow]

/-- Window 4. -/
theorem emb4 (t : Fin cfg1.N) (r : Fin 128) (k : Fin 3072) : (win1_4.blk t).view.emb (ix2 r k) = ix2 (trow t r) k := by
  have e : win1_4.index t 0 = t.val ∧ win1_4.index t 1 = 0 := (by decide +kernel : ∀ t : Fin cfg1.N, win1_4.index t 0 = t.val ∧ win1_4.index t 1 = 0) t
  blk_ext [e.1, e.2, trow]

/-- Window 5. -/
theorem emb5 (t : Fin cfg1.N) (r : Fin 128) (k : Fin 24) : (win1_5.blk t).view.emb (ix2 r k) = ix2 (trow t r) k := by
  have e : win1_5.index t 0 = t.val ∧ win1_5.index t 1 = 0 := (by decide +kernel : ∀ t : Fin cfg1.N, win1_5.index t 0 = t.val ∧ win1_5.index t 1 = 0) t
  blk_ext [e.1, e.2, trow]

/-- Window 6. -/
theorem emb6 (t : Fin cfg1.N) (r : Fin 128) (k : Fin 3072) : (win1_6.blk t).view.emb (ix2 r k) = ix2 (trow t r) k := by
  have e : win1_6.index t 0 = t.val ∧ win1_6.index t 1 = 0 := (by decide +kernel : ∀ t : Fin cfg1.N, win1_6.index t 0 = t.val ∧ win1_6.index t 1 = 0) t
  blk_ext [e.1, e.2, trow]

/-- Window 7. -/
theorem emb7 (t : Fin cfg1.N) (r : Fin 128) (k : Fin 24) : (win1_7.blk t).view.emb (ix2 r k) = ix2 (trow t r) k := by
  have e : win1_7.index t 0 = t.val ∧ win1_7.index t 1 = 0 := (by decide +kernel : ∀ t : Fin cfg1.N, win1_7.index t 0 = t.val ∧ win1_7.index t 1 = 0) t
  blk_ext [e.1, e.2, trow]

/-- Window 8. -/
theorem emb8 (t : Fin cfg1.N) (r : Fin 128) (k : Fin 3072) : (win1_8.blk t).view.emb (ix2 r k) = ix2 (trow t r) k := by
  have e : win1_8.index t 0 = t.val ∧ win1_8.index t 1 = 0 := (by decide +kernel : ∀ t : Fin cfg1.N, win1_8.index t 0 = t.val ∧ win1_8.index t 1 = 0) t
  blk_ext [e.1, e.2, trow]

/-- Window 9. -/
theorem emb9 (t : Fin cfg1.N) (r : Fin 128) (k : Fin 3072) : (win1_9.blk t).view.emb (ix2 r k) = ix2 (trow t r) k := by
  have e : win1_9.index t 0 = t.val ∧ win1_9.index t 1 = 0 := (by decide +kernel : ∀ t : Fin cfg1.N, win1_9.index t 0 = t.val ∧ win1_9.index t 1 = 0) t
  blk_ext [e.1, e.2, trow]

/-- Window 11. -/
theorem emb11 (t : Fin cfg1.N) (r : Fin 128) (k : Fin 3072) : (win1_11.blk t).view.emb (ix2 r k) = ix2 (trow t r) k := by
  have e : win1_11.index t 0 = t.val ∧ win1_11.index t 1 = 0 := (by decide +kernel : ∀ t : Fin cfg1.N, win1_11.index t 0 = t.val ∧ win1_11.index t 1 = 0) t
  blk_ext [e.1, e.2, trow]

/-- Window 12. -/
theorem emb12 (t : Fin cfg1.N) (r : Fin 128) (k : Fin 24) : (win1_12.blk t).view.emb (ix2 r k) = ix2 (trow t r) k := by
  have e : win1_12.index t 0 = t.val ∧ win1_12.index t 1 = 0 := (by decide +kernel : ∀ t : Fin cfg1.N, win1_12.index t 0 = t.val ∧ win1_12.index t 1 = 0) t
  blk_ext [e.1, e.2, trow]

/-- Window 13. -/
theorem emb13 (t : Fin cfg1.N) (r : Fin 128) (k : Fin 3072) : (win1_13.blk t).view.emb (ix2 r k) = ix2 (trow t r) k := by
  have e : win1_13.index t 0 = t.val ∧ win1_13.index t 1 = 0 := (by decide +kernel : ∀ t : Fin cfg1.N, win1_13.index t 0 = t.val ∧ win1_13.index t 1 = 0) t
  blk_ext [e.1, e.2, trow]

/-- Window 14. -/
theorem emb14 (t : Fin cfg1.N) (r : Fin 128) (k : Fin 24) : (win1_14.blk t).view.emb (ix2 r k) = ix2 (trow t r) k := by
  have e : win1_14.index t 0 = t.val ∧ win1_14.index t 1 = 0 := (by decide +kernel : ∀ t : Fin cfg1.N, win1_14.index t 0 = t.val ∧ win1_14.index t 1 = 0) t
  blk_ext [e.1, e.2, trow]

section Arrays

variable (W : Dev nD → Valuation τ sig (Elt Ideal)) (c : Dev nD)

/-- The gradient the region finds. -/
abbrev gA : Spec.Rows 12288 Spec.R := V W c main_v4_0
/-- The weights the region finds. -/
abbrev wA : Spec.Rows 12288 (Ideal .bf16) := V W c main_arg4
/-- The first moment's codes. -/
abbrev mcA : Spec.Rows 12288 (BitVec 8) := V W c main_arg5
/-- The first moment's scales. -/
abbrev msA : Spec.Scales 12288 := V W c main_arg6
/-- The second moment's codes. -/
abbrev vcA : Spec.Rows 12288 (BitVec 8) := V W c main_arg7
/-- The second moment's scales. -/
abbrev vsA : Spec.Scales 12288 := V W c main_arg8
/-- The bound on the norm and the two bias corrections. -/
abbrev bcA : Vec Ideal S3 .f32 := V W c main_v13
/-- The sums of squares of the column tiles. -/
abbrev ssA : Vec Ideal S12x8x128 .f32 := V W c main_v4_1

/-- The corrections' block is their array. -/
theorem bc_at (t : Fin cfg1.N) : (iblk W c 0 t : Vec Ideal S3 .f32) = bcA W c := by
  funext y
  unfold iblk
  blk_simp
  refine congrArg (V W c main_v13) ?_
  have e : win1_0.index t 0 = 0 := (by decide +kernel : ∀ t : Fin cfg1.N, win1_0.index t 0 = 0) t
  blk_ext [e]
/-- The sums' block is their array. -/
theorem ss_blk (t : Fin cfg1.N) : (iblk W c 1 t : Vec Ideal S12x8x128 .f32) = ssA W c := by
  funext y
  unfold iblk
  blk_simp
  refine congrArg (V W c main_v4_1) ?_
  have e : win1_1.index t 0 = 0 ∧ win1_1.index t 1 = 0 ∧ win1_1.index t 2 = 0 := (by decide +kernel : ∀ t : Fin cfg1.N, win1_1.index t 0 = 0 ∧ win1_1.index t 1 = 0 ∧ win1_1.index t 2 = 0) t
  blk_ext [e.1, e.2.1, e.2.2]

/-- The clipping factor, from the arrays. -/
theorem clipv_eq : clipv W c = Spec.clip (bcA W c (ix1 0)) (Spec.norm (∑ i : S12x8x128.Idx, ssA W c i)) := by
  unfold clipv; rw [bc_at, ss_blk]

/-- A block of window 2 is its array at the tile's rows. -/
theorem blk2_at (t : Fin cfg1.N) (r : Fin 128) (k) : (iblk W c 2 t : Vec Ideal S128x3072 .f32) (ix2 r k) = gA W c (ix2 (trow t r) k) :=
  congrArg (gA W c) (emb2 t r k)
/-- A block of window 3 is its array at the tile's rows. -/
theorem blk3_at (t : Fin cfg1.N) (r : Fin 128) (k) : (iblk W c 3 t : Vec Ideal S128x3072 .bf16) (ix2 r k) = wA W c (ix2 (trow t r) k) :=
  congrArg (wA W c) (emb3 t r k)
/-- A block of window 4 is its array at the tile's rows. -/
theorem blk4_at (t : Fin cfg1.N) (r : Fin 128) (k) : (iblk W c 4 t : Vec Ideal S128x3072 .i8) (ix2 r k) = mcA W c (ix2 (trow t r) k) :=
  congrArg (mcA W c) (emb4 t r k)
/-- A block of window 5 is its array at the tile's rows. -/
theorem blk5_at (t : Fin cfg1.N) (r : Fin 128) (q) : (iblk W c 5 t : Vec Ideal S128x24 .f32) (ix2 r q) = msA W c (ix2 (trow t r) q) :=
  congrArg (msA W c) (emb5 t r q)
/-- A block of window 6 is its array at the tile's rows. -/
theorem blk6_at (t : Fin cfg1.N) (r : Fin 128) (k) : (iblk W c 6 t : Vec Ideal S128x3072 .i8) (ix2 r k) = vcA W c (ix2 (trow t r) k) :=
  congrArg (vcA W c) (emb6 t r k)
/-- A block of window 7 is its array at the tile's rows. -/
theorem blk7_at (t : Fin cfg1.N) (r : Fin 128) (q) : (iblk W c 7 t : Vec Ideal S128x24 .f32) (ix2 r q) = vsA W c (ix2 (trow t r) q) :=
  congrArg (vsA W c) (emb7 t r q)

/-- The new weights the pipeline leaves. -/
theorem arr8 : (dat W c).arrAt 8 cfg1.N = Spec.weights (clipv W c) (bcA W c (ix1 1)) (bcA W c (ix1 2)) (gA W c) (wA W c) (mcA W c) (msA W c) (vcA W c) (vsA W c) := by
  refine (dat W c).arrAt_eq_of_covers 8 _ (by decide +kernel) fun t hf y => ?_
  blk_simp
  rw [after1_8, out8_eq, bc_at]
  obtain ⟨r, k, rfl⟩ : ∃ (r : Fin 128) (k : Fin 3072), y = ix2 r k := ⟨y 0, y 1, eq_ix2 y⟩
  exact (weights_tile t _ _ _ (blk2_at W c t) (blk3_at W c t) (blk4_at W c t) (blk6_at W c t) (blk5_at W c t) (blk7_at W c t) r k).trans (congrArg _ (emb8 t r k).symm)

/-- The steps the pipeline leaves. -/
theorem arr9 : (dat W c).arrAt 9 cfg1.N = Spec.steps (clipv W c) (bcA W c (ix1 1)) (bcA W c (ix1 2)) (gA W c) (mcA W c) (msA W c) (vcA W c) (vsA W c) := by
  refine (dat W c).arrAt_eq_of_covers 9 _ (by decide +kernel) fun t hf y => ?_
  blk_simp
  rw [after1_9, out9_eq, bc_at]
  obtain ⟨r, k, rfl⟩ : ∃ (r : Fin 128) (k : Fin 3072), y = ix2 r k := ⟨y 0, y 1, eq_ix2 y⟩
  exact (steps_tile t _ _ _ (blk2_at W c t) (blk4_at W c t) (blk6_at W c t) (blk5_at W c t) (blk7_at W c t) r k).trans (congrArg _ (emb9 t r k).symm)

/-- The first moment's codes the pipeline leaves. -/
theorem arr11 : (dat W c).arrAt 11 cfg1.N = Spec.codes (Spec.M (clipv W c) (gA W c) (mcA W c) (msA W c)) := by
  refine (dat W c).arrAt_eq_of_covers 11 _ (by decide +kernel) fun t hf y => ?_
  blk_simp
  rw [after1_11, out11_eq]
  obtain ⟨r, k, rfl⟩ : ∃ (r : Fin 128) (k : Fin 3072), y = ix2 r k := ⟨y 0, y 1, eq_ix2 y⟩
  exact (codes_tile t (M_tile t _ (blk2_at W c t) (blk4_at W c t) (blk5_at W c t)) r k).trans (congrArg _ (emb11 t r k).symm)

/-- The first moment's scales the pipeline leaves. -/
theorem arr12 : (dat W c).arrAt 12 cfg1.N = Spec.scales (Spec.M (clipv W c) (gA W c) (mcA W c) (msA W c)) := by
  refine (dat W c).arrAt_eq_of_covers 12 _ (by decide +kernel) fun t hf y => ?_
  blk_simp
  rw [after1_12, out12_eq]
  obtain ⟨r, k, rfl⟩ : ∃ (r : Fin 128) (k : Fin 24), y = ix2 r k := ⟨y 0, y 1, eq_ix2 y⟩
  exact (scales_tile t (M_tile t _ (blk2_at W c t) (blk4_at W c t) (blk5_at W c t)) r k).trans (congrArg _ (emb12 t r k).symm)

/-- The second moment's codes the pipeline leaves. -/
theorem arr13 : (dat W c).arrAt 13 cfg1.N = Spec.codes (Spec.Q (clipv W c) (gA W c) (vcA W c) (vsA W c)) := by
  refine (dat W c).arrAt_eq_of_covers 13 _ (by decide +kernel) fun t hf y => ?_
  blk_simp
  rw [after1_13, out13_eq]
  obtain ⟨r, k, rfl⟩ : ∃ (r : Fin 128) (k : Fin 3072), y = ix2 r k := ⟨y 0, y 1, eq_ix2 y⟩
  exact (codes_tile t (Q_tile t _ (blk2_at W c t) (blk6_at W c t) (blk7_at W c t)) r k).trans (congrArg _ (emb13 t r k).symm)

/-- The second moment's scales the pipeline leaves. -/
theorem arr14 : (dat W c).arrAt 14 cfg1.N = Spec.scales (Spec.Q (clipv W c) (gA W c) (vcA W c) (vsA W c)) := by
  refine (dat W c).arrAt_eq_of_covers 14 _ (by decide +kernel) fun t hf y => ?_
  blk_simp
  rw [after1_14, out14_eq]
  obtain ⟨r, k, rfl⟩ : ∃ (r : Fin 128) (k : Fin 24), y = ix2 r k := ⟨y 0, y 1, eq_ix2 y⟩
  exact (scales_tile t (Q_tile t _ (blk2_at W c t) (blk6_at W c t) (blk7_at W c t)) r k).trans (congrArg _ (emb14 t r k).symm)

/-- The norm's array holds the norm. -/
theorem arr10 : (dat W c).arrAt 10 cfg1.N = fun _ => Spec.norm (∑ i : S12x8x128.Idx, ssA W c i) := by
  refine (dat W c).arrAt_eq_of_covers 10 _ (by decide +kernel) fun t hf y => ?_
  blk_simp
  rw [after1_10, nrm_eq, ss_blk]

end Arrays

end Cert.KernelIdeal.Adam

end
-- ==== Proof.Value.Grad.lean ====
/-
The gradient summed over all tokens, the bias corrections, and the two ways of cutting the tokens into blocks.
-/
module

public import proofs.«01_k».proof.Proof.Value.Spec

@[expose] public section

noncomputable section

namespace Cert.Spec

open Idealize.ShloMosaic

/-- A moment's bias correction at step `t`: one less the decay, of bits `b`, to the power `t`. -/
def corr (b t : BitVec 32) : R :=
  FloatOps.subf (φ := .f32) (Scalar.ofBits .f32 0x3F800000#32) (FloatOps.hostPowf (φ := .f32) (Scalar.ofBits .f32 b) (FloatOps.sitofp .f32 t))

/-- The sequence of token `t`. -/
def seq (t : Fin 16384) : Fin 2 := ⟨t.val / 8192, by omega⟩

/-- The place of token `t` in its sequence. -/
def pos (t : Fin 16384) : Fin 8192 := ⟨t.val % 8192, by omega⟩

/-- The token at place `s` of sequence `b`. -/
def token (b : Fin 2) (s : Fin 8192) : Fin 16384 := ⟨8192 * b.val + s.val, by omega⟩

theorem seq_token (b : Fin 2) (s : Fin 8192) : seq (token b s) = b := by
  apply Fin.ext; show (8192 * b.val + s.val) / 8192 = b.val; omega

theorem pos_token (b : Fin 2) (s : Fin 8192) : pos (token b s) = s := by
  apply Fin.ext; show (8192 * b.val + s.val) % 8192 = s.val; omega

section Grad

variable (x : (⟨3, ![2, 8192, 12288]⟩ : Shape).Idx → EReal) (xs : (⟨2, ![2, 8192]⟩ : Shape).Idx → EReal)
  (dy : (⟨3, ![2, 8192, 3072]⟩ : Shape).Idx → EReal) (ds : (⟨2, ![2, 8192]⟩ : Shape).Idx → EReal)

/-- The gradient: over all tokens, the products of the scaled activations and the scaled output gradients. -/
def grad : Rows 12288 R := fun y =>
  ∑ b : Fin 2, ∑ s : Fin 8192, (x (ix3 b s (y 0)) * xs (ix2 b s)) * (dy (ix3 b s (y 1)) * ds (ix2 b s))

/-- The gradient's sum over the tokens in blocks of 1024, the two scales multiplied first. -/
theorem grad_blocks (y : (⟨2, ![12288, 3072]⟩ : Shape).Idx) (T : Fin 16 → Fin 1024 → Fin 16384) (hT : ∀ s j, (T s j).val = 1024 * s.val + j.val) :
    (∑ s : Fin 16, ∑ j : Fin 1024, x (ix3 (seq (T s j)) (pos (T s j)) (y 0)) * (xs (ix2 (seq (T s j)) (pos (T s j))) * ds (ix2 (seq (T s j)) (pos (T s j))))
        * dy (ix3 (seq (T s j)) (pos (T s j)) (y 1))) = grad x xs dy ds y := by
  have e : ∀ t : Fin 16384, x (ix3 (seq t) (pos t) (y 0)) * (xs (ix2 (seq t) (pos t)) * ds (ix2 (seq t) (pos t))) * dy (ix3 (seq t) (pos t) (y 1))
      = (x (ix3 (seq t) (pos t) (y 0)) * xs (ix2 (seq t) (pos t))) * (dy (ix3 (seq t) (pos t) (y 1)) * ds (ix2 (seq t) (pos t))) := fun t => by
    rw [← mul_assoc, mul_assoc (_ * _), mul_comm (ds _)]
  have hA := sum_split 16 1024 fun t : Fin 16384 => (x (ix3 (seq t) (pos t) (y 0)) * xs (ix2 (seq t) (pos t))) * (dy (ix3 (seq t) (pos t) (y 1)) * ds (ix2 (seq t) (pos t)))
  have hB := sum_split 2 8192 fun t : Fin 16384 => (x (ix3 (seq t) (pos t) (y 0)) * xs (ix2 (seq t) (pos t))) * (dy (ix3 (seq t) (pos t) (y 1)) * ds (ix2 (seq t) (pos t)))
  refine (Finset.sum_congr rfl fun s _ => Finset.sum_congr rfl fun j _ => ?_).trans (hA.symm.trans (hB.trans (Finset.sum_congr rfl fun b _ => Finset.sum_congr rfl fun s _ => ?_)))
  · rw [e]
    have : T s j = ⟨1024 * s.val + j.val, by omega⟩ := Fin.ext (hT s j)
    rw [this]
  · have h1 := seq_token b s
    have h2 := pos_token b s
    unfold token at h1 h2
    rw [h1, h2]

end Grad

/-- The arguments of the step. -/
structure Args where
  /-- The activations. -/
  x : (⟨3, ![2, 8192, 12288]⟩ : Shape).Idx → EReal
  /-- The activations' scales, one per token. -/
  xs : (⟨2, ![2, 8192]⟩ : Shape).Idx → EReal
  /-- The output gradients. -/
  dy : (⟨3, ![2, 8192, 3072]⟩ : Shape).Idx → EReal
  /-- The output gradients' scales, one per token. -/
  ds : (⟨2, ![2, 8192]⟩ : Shape).Idx → EReal
  /-- The weights. -/
  w : Rows 12288 (Ideal .bf16)
  /-- The first moment's codes. -/
  mc : Rows 12288 (BitVec 8)
  /-- The first moment's scales. -/
  ms : Scales 12288
  /-- The second moment's codes. -/
  vc : Rows 12288 (BitVec 8)
  /-- The second moment's scales. -/
  vs : Scales 12288
  /-- The step's number. -/
  t : BitVec 32
  /-- The bound on the gradient's norm. -/
  mx : R

namespace Args

variable (A : Args)

/-- The gradient. -/
def g : Rows 12288 R := grad A.x A.xs A.dy A.ds

/-- The gradient's norm. -/
def nrm : R := norm (∑ y : (⟨2, ![12288, 3072]⟩ : Shape).Idx, A.g y * A.g y)

/-- The clipping factor. -/
def C : R := clip A.mx A.nrm

/-- The first moment's bias correction. -/
def b0 : R := corr 0x3F666666#32 A.t

/-- The second moment's bias correction. -/
def b1 : R := corr 0x3F7FBE77#32 A.t

/-- The new weights. -/
def out0 : Rows 12288 (Ideal .bf16) := weights A.C A.b0 A.b1 A.g A.w A.mc A.ms A.vc A.vs

/-- The steps. -/
def out1 : Rows 12288 R := steps A.C A.b0 A.b1 A.g A.mc A.ms A.vc A.vs

/-- The first moment's new codes. -/
def out3 : Rows 12288 (BitVec 8) := codes (M A.C A.g A.mc A.ms)

/-- The first moment's new scales. -/
def out4 : Scales 12288 := scales (M A.C A.g A.mc A.ms)

/-- The second moment's new codes. -/
def out5 : Rows 12288 (BitVec 8) := codes (Q A.C A.g A.vc A.vs)

/-- The second moment's new scales. -/
def out6 : Scales 12288 := scales (Q A.C A.g A.vc A.vs)

end Args

end Cert.Spec

end
-- ==== Proof.KernelIdeal.Results.lean ====
/-
The kernel's run: its seven results are the step's, and its arguments are unchanged.
-/
module

public import proofs.«01_k».proof.Proof.KernelIdeal.Run
public import proofs.«01_k».proof.Proof.KernelIdeal.WgradVal
public import proofs.«01_k».proof.Proof.KernelIdeal.AdamArr
public import proofs.«01_k».proof.Proof.Value.Grad
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert Cert.KernelIdeal.Run

variable (m : (ℓ : Loc nD τ sig) → Buf (Elt Ideal) ℓ) (c : Dev nD)

/-- The step's arguments, as the kernel's buffers hold them. -/
def args : Spec.Args where
  x := m ((c.tc : Thread nD τ).loc main_arg0)
  xs := m ((c.tc : Thread nD τ).loc main_arg1)
  dy := m ((c.tc : Thread nD τ).loc main_arg2)
  ds := m ((c.tc : Thread nD τ).loc main_arg3)
  w := m ((c.tc : Thread nD τ).loc main_arg4)
  mc := m ((c.tc : Thread nD τ).loc main_arg5)
  ms := m ((c.tc : Thread nD τ).loc main_arg6)
  vc := m ((c.tc : Thread nD τ).loc main_arg7)
  vs := m ((c.tc : Thread nD τ).loc main_arg8)
  t := m ((c.tc : Thread nD τ).loc main_arg9) ix0
  mx := m ((c.tc : Thread nD τ).loc main_arg10) ix0

/-! ## The gradient -/

/-- Token `t` of `x`'s flattened array. -/
theorem x_at (t : Fin 16384) (r : Fin 12288) : Wgrad.xA (V1 m) c (ix2 t r) = (args m c).x (ix3 (Spec.seq t) (Spec.pos t) r) := by
  dsimp only [Wgrad.xA, V1, V0, hostOps0]; after_results
  dsimp only [args, Spec.seq, Spec.pos]
  pointwise

/-- Token `t` of `dy`'s flattened array. -/
theorem dy_at (t : Fin 16384) (r : Fin 3072) : Wgrad.dyA (V1 m) c (ix2 t r) = (args m c).dy (ix3 (Spec.seq t) (Spec.pos t) r) := by
  dsimp only [Wgrad.dyA, V1, V0, hostOps0]; after_results
  dsimp only [args, Spec.seq, Spec.pos]
  pointwise

/-- Token `j` of block `s` of the scales `xs`. -/
theorem sx_at (s : Fin 16) (j : Fin 1024) : Wgrad.sxA (V1 m) c (ix3 s 0 j) = (args m c).xs (ix2 (Spec.seq (Wgrad.tok s j)) (Spec.pos (Wgrad.tok s j))) := by
  dsimp only [Wgrad.sxA, V1, V0, hostOps0]; after_results
  dsimp only [args, Spec.seq, Spec.pos, Wgrad.tok]
  pointwise
  refine congrArg₂ (fun a b => m ((c.tc : Thread nD τ).loc main_arg1) (ix2 a b)) (Fin.ext ?_) (Fin.ext ?_)
  · show s.val / 8 = (1024 * s.val + j.val) / 8192
    omega
  · show s.val % 8 * 1024 + j.val = (1024 * s.val + j.val) % 8192
    omega

/-- Token `j` of block `s` of the scales `ds`. -/
theorem sy_at (s : Fin 16) (j : Fin 1024) : Wgrad.syA (V1 m) c (ix3 s 0 j) = (args m c).ds (ix2 (Spec.seq (Wgrad.tok s j)) (Spec.pos (Wgrad.tok s j))) := by
  dsimp only [Wgrad.syA, V1, V0, hostOps0]; after_results
  dsimp only [args, Spec.seq, Spec.pos, Wgrad.tok]
  pointwise
  refine congrArg₂ (fun a b => m ((c.tc : Thread nD τ).loc main_arg3) (ix2 a b)) (Fin.ext ?_) (Fin.ext ?_)
  · show s.val / 8 = (1024 * s.val + j.val) / 8192
    omega
  · show s.val % 8 * 1024 + j.val = (1024 * s.val + j.val) % 8192
    omega

/-- The gradient the first region leaves is the step's. -/
theorem grad_eq : Wgrad.grad (V1 m) c = (args m c).g := by
  funext y
  unfold Wgrad.grad Spec.Args.g
  rw [← Spec.grad_blocks _ _ _ _ y Wgrad.tok (fun _ _ => rfl)]
  exact Finset.sum_congr rfl fun s _ => Finset.sum_congr rfl fun j _ =>
    congrArg₂ (fun a b : EReal => a * b) (congrArg₂ (fun a b : EReal => a * b) (x_at m c (Wgrad.tok s j) (y 0)) (congrArg₂ (fun a b : EReal => a * b) (sx_at m c s j) (sy_at m c s j))) (dy_at m c (Wgrad.tok s j) (y 1))

/-- What the second region finds in its arrays. -/
abbrev W3 : Dev nD → Valuation τ sig (Elt Ideal) := V3 m (outs2 m)

/-- The gradient the second region finds. -/
theorem g_eq : Adam.gA (W3 m) c = (args m c).g := by
  have h : W3 m c (Proc.devRef .tc main_v4_0) = after0 m c (Proc.devRef .tc main_v4_0) :=
    (V3_of m (outs m) c main_v4_0 (by decide)).trans (after0_eq m c main_v4_0).symm
  refine h.trans ((Pipeline.afterRegion_arr (Wgrad.dat (V1 m) c) (V1 m c) (by decide) 4).trans ?_)
  rw [Wgrad.arr4, grad_eq]

/-- The sums of squares the second region finds add up to the gradient's. -/
theorem n_eq : Spec.norm (∑ i : S12x8x128.Idx, Adam.ssA (W3 m) c i) = (args m c).nrm := by
  have h : W3 m c (Proc.devRef .tc main_v4_1) = after0 m c (Proc.devRef .tc main_v4_1) :=
    (V3_of m (outs m) c main_v4_1 (by decide)).trans (after0_eq m c main_v4_1).symm
  have e : Adam.ssA (W3 m) c = Wgrad.ssq (args m c).g :=
    h.trans ((Pipeline.afterRegion_arr (Wgrad.dat (V1 m) c) (V1 m c) (by decide) 5).trans (by rw [Wgrad.arr5, grad_eq]))
  rw [e, Wgrad.sum_ssq]
  rfl

/-! ## The other arrays -/

theorem w_eq : Adam.wA (W3 m) c = (args m c).w :=
  (V3_of m (outs m) c main_arg4 (by decide)).trans ((V2_of m (outs m) c main_arg4 (by decide)).trans (V1_of m c main_arg4 (by decide)))

theorem mc_eq : Adam.mcA (W3 m) c = (args m c).mc :=
  (V3_of m (outs m) c main_arg5 (by decide)).trans ((V2_of m (outs m) c main_arg5 (by decide)).trans (V1_of m c main_arg5 (by decide)))

theorem ms_eq : Adam.msA (W3 m) c = (args m c).ms :=
  (V3_of m (outs m) c main_arg6 (by decide)).trans ((V2_of m (outs m) c main_arg6 (by decide)).trans (V1_of m c main_arg6 (by decide)))

theorem vc_eq : Adam.vcA (W3 m) c = (args m c).vc :=
  (V3_of m (outs m) c main_arg7 (by decide)).trans ((V2_of m (outs m) c main_arg7 (by decide)).trans (V1_of m c main_arg7 (by decide)))

theorem vs_eq : Adam.vsA (W3 m) c = (args m c).vs :=
  (V3_of m (outs m) c main_arg8 (by decide)).trans ((V2_of m (outs m) c main_arg8 (by decide)).trans (V1_of m c main_arg8 (by decide)))

theorem arg9_eq : V2 m (outs2 m) c (Proc.devRef .tc main_arg9) = m ((c.tc : Thread nD τ).loc main_arg9) :=
  (V2_of m (outs m) c main_arg9 (by decide)).trans (V1_of m c main_arg9 (by decide))

theorem arg10_eq : V2 m (outs2 m) c (Proc.devRef .tc main_arg10) = m ((c.tc : Thread nD τ).loc main_arg10) :=
  (V2_of m (outs m) c main_arg10 (by decide)).trans (V1_of m c main_arg10 (by decide))

/-- The words the host computes from any buffers: the bound, then the two bias corrections. -/
theorem words (V : Valuation τ sig (Elt Ideal)) :
    (StableHlo.after hostOps1 V (Proc.devRef .tc main_v13) : Vec Ideal S3 .f32) (ix1 0) = (V (Proc.devRef .tc main_arg10) : Vec Ideal S_ .f32) ix0
      ∧ (StableHlo.after hostOps1 V (Proc.devRef .tc main_v13) : Vec Ideal S3 .f32) (ix1 1) = Spec.corr 0x3F666666#32 ((V (Proc.devRef .tc main_arg9) : Vec Ideal S_ .i32) ix0)
      ∧ (StableHlo.after hostOps1 V (Proc.devRef .tc main_v13) : Vec Ideal S3 .f32) (ix1 2) = Spec.corr 0x3F7FBE77#32 ((V (Proc.devRef .tc main_arg9) : Vec Ideal S_ .i32) ix0) := by
  dsimp only [hostOps1]; after_results
  unfold Spec.corr
  refine ⟨?_, ?_, ?_⟩
  · pointwise; simp only [↓ StableHlo.readResult]; pointwise
  · pointwise; simp only [↓ StableHlo.readResult]; pointwise
  · pointwise; simp only [↓ StableHlo.readResult]; pointwise

theorem mx_eq : Adam.bcA (W3 m) c (ix1 0) = (args m c).mx := (words (V2 m (outs2 m) c)).1.trans (congrFun (arg10_eq m c) ix0)

theorem b0_eq : Adam.bcA (W3 m) c (ix1 1) = (args m c).b0 := (words (V2 m (outs2 m) c)).2.1.trans (congrArg (Spec.corr 0x3F666666#32) (congrFun (arg9_eq m c) ix0))

theorem b1_eq : Adam.bcA (W3 m) c (ix1 2) = (args m c).b1 := (words (V2 m (outs2 m) c)).2.2.trans (congrArg (Spec.corr 0x3F7FBE77#32) (congrFun (arg9_eq m c) ix0))

theorem c_eq : Adam.clipv (W3 m) c = (args m c).C := by
  rw [Adam.clipv_eq, mx_eq, n_eq]
  rfl

/-! ## The results -/

theorem res0 : V5 m (outs m) c main_v14_0 = (args m c).out0 := by
  refine (V5_of m (outs m) c main_v14_0 (by decide)).trans ((after1_eq m c main_v14_0).symm.trans ?_)
  refine (Pipeline.afterRegion_arr (Adam.dat (W3 m) c) (W3 m c) (by decide) 8).trans ?_
  rw [Adam.arr8, c_eq, g_eq, b0_eq, b1_eq, w_eq, mc_eq, ms_eq, vc_eq, vs_eq]; rfl

theorem res1 : V5 m (outs m) c main_v14_1 = (args m c).out1 := by
  refine (V5_of m (outs m) c main_v14_1 (by decide)).trans ((after1_eq m c main_v14_1).symm.trans ?_)
  refine (Pipeline.afterRegion_arr (Adam.dat (W3 m) c) (W3 m c) (by decide) 9).trans ?_
  rw [Adam.arr9, c_eq, g_eq, b0_eq, b1_eq, mc_eq, ms_eq, vc_eq, vs_eq]; rfl

theorem res3 : V5 m (outs m) c main_v14_3 = (args m c).out3 := by
  refine (V5_of m (outs m) c main_v14_3 (by decide)).trans ((after1_eq m c main_v14_3).symm.trans ?_)
  refine (Pipeline.afterRegion_arr (Adam.dat (W3 m) c) (W3 m c) (by decide) 11).trans ?_
  rw [Adam.arr11, c_eq, g_eq, mc_eq, ms_eq]; rfl

theorem res4 : V5 m (outs m) c main_v14_4 = (args m c).out4 := by
  refine (V5_of m (outs m) c main_v14_4 (by decide)).trans ((after1_eq m c main_v14_4).symm.trans ?_)
  refine (Pipeline.afterRegion_arr (Adam.dat (W3 m) c) (W3 m c) (by decide) 12).trans ?_
  rw [Adam.arr12, c_eq, g_eq, mc_eq, ms_eq]; rfl

theorem res5 : V5 m (outs m) c main_v14_5 = (args m c).out5 := by
  refine (V5_of m (outs m) c main_v14_5 (by decide)).trans ((after1_eq m c main_v14_5).symm.trans ?_)
  refine (Pipeline.afterRegion_arr (Adam.dat (W3 m) c) (W3 m c) (by decide) 13).trans ?_
  rw [Adam.arr13, c_eq, g_eq, vc_eq, vs_eq]; rfl

theorem res6 : V5 m (outs m) c main_v14_6 = (args m c).out6 := by
  refine (V5_of m (outs m) c main_v14_6 (by decide)).trans ((after1_eq m c main_v14_6).symm.trans ?_)
  refine (Pipeline.afterRegion_arr (Adam.dat (W3 m) c) (W3 m c) (by decide) 14).trans ?_
  rw [Adam.arr14, c_eq, g_eq, vc_eq, vs_eq]; rfl

theorem nrm_arr : V4 m (outs m) c main_v14_2 = fun _ => (args m c).nrm := by
  refine (after1_eq m c main_v14_2).symm.trans ((Pipeline.afterRegion_arr (Adam.dat (W3 m) c) (W3 m c) (by decide) 10).trans ?_)
  rw [Adam.arr10, n_eq]

/-- The norm, sliced from its array. -/
theorem res2 : V5 m (outs m) c main_v16 = fun _ => (args m c).nrm := by
  have e : ∀ V : Valuation τ sig (Elt Ideal), V (Proc.devRef .tc main_v14_2) = (fun _ => (args m c).nrm) →
      StableHlo.after hostOps2 V (Proc.devRef .tc main_v16) = fun _ => (args m c).nrm := fun V h => by
    dsimp only [hostOps2]; after_results
    rw [h]
    rfl
  exact e _ (nrm_arr m c)

/-- THE RUN: every weakly fair execution ends with the step's results. -/
theorem run (ρ : Dev nD → PrngReg) : θ_run defs (onTc (τ := τ) (main (F := Ideal))) ⟨m, fun _ => 0, ρ⟩ (fun r => ∀ c : Dev nD,
    (r.2.mem ((c.tc : Thread nD τ).loc main_v14_0) = (args m c).out0
      ∧ r.2.mem ((c.tc : Thread nD τ).loc main_v14_1) = (args m c).out1
      ∧ r.2.mem ((c.tc : Thread nD τ).loc main_v16) = (fun _ => (args m c).nrm)
      ∧ r.2.mem ((c.tc : Thread nD τ).loc main_v14_3) = (args m c).out3
      ∧ r.2.mem ((c.tc : Thread nD τ).loc main_v14_4) = (args m c).out4
      ∧ r.2.mem ((c.tc : Thread nD τ).loc main_v14_5) = (args m c).out5
      ∧ r.2.mem ((c.tc : Thread nD τ).loc main_v14_6) = (args m c).out6)) :=
  (θ_run defs _ _).mono (fun _ h c => ⟨((h.1 c).read m main_v14_0 rfl).trans (res0 m c), ((h.1 c).read m main_v14_1 rfl).trans (res1 m c), ((h.1 c).read m main_v16 rfl).trans (res2 m c),
    ((h.1 c).read m main_v14_3 rfl).trans (res3 m c), ((h.1 c).read m main_v14_4 rfl).trans (res4 m c), ((h.1 c).read m main_v14_5 rfl).trans (res5 m c), ((h.1 c).read m main_v14_6 rfl).trans (res6 m c)⟩) (run_main m ρ)

end Cert.KernelIdeal.Val

end
-- ==== Proof.ReferenceIdeal.Pay.lean ====
/-
The reference's arithmetic, element by element, over the extended reals.
-/
module

public import proofs.«01_k».proof.Proof.Gen.ReferenceIdeal.Skeleton
public import proofs.«01_k».proof.Proof.Value.Spec
public import Idealize.ShloMosaic.Lib.Pointwise
public import Idealize.ShloMosaic.Lib.TwoAxisContraction

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert

/-- Columns split into groups of lanes. -/
theorem split_at {α : Type} (x : S12288x3072.Idx → α) (r : Fin 12288) (q : Fin 24) (l : Fin 128) :
    shapeCast S12288x24x128 x shapeCasts_S12288x3072_S12288x24x128 (ix3 r q l) = x (ix2 r (Spec.col q l)) := by
  have e : Spec.col q l = ⟨q.val * 128 + l.val, by omega⟩ := Fin.ext (congrArg (· + l.val) (Nat.mul_comm 128 q.val))
  rw [e]
  pointwise

/-- Groups of lanes joined into columns. -/
theorem join_at {α : Type} (x : S12288x24x128.Idx → α) (r : Fin 12288) (k : Fin 3072) :
    shapeCast S12288x3072 x shapeCasts_S12288x24x128_S12288x3072 (ix2 r k) = x (ix3 r (Spec.grp k) (Spec.lane k)) := by
  unfold Spec.grp Spec.lane
  pointwise

/-- One value per group repeated over its lanes. -/
theorem lanes_at (x : FVec Ideal S12288x24 .f32) (r : Fin 12288) (q : Fin 24) (l : Fin 128) :
    broadcastTo S12288x24x128 (shapeCast S12288x24x1 x shapeCasts_S12288x24_S12288x24x1) broadcasts_S12288x24x1_S12288x24x128 (ix3 r q l) = x (ix2 r q) := by
  pointwise

/-- The weight gradient: the sum over the tokens of the product of the two scaled inputs. -/
theorem pay1_at (x : Vec Ideal S2x8192x12288 .fp8e4m3) (xs : Vec Ideal S2x8192 .f32) (dy : Vec Ideal S2x8192x3072 .fp8e5m2) (ds : Vec Ideal S2x8192 .f32) (r : Fin 12288) (k : Fin 3072) :
    k0_pay1 (F := Ideal) x xs dy ds (ix2 r k) = ∑ b : Fin 2, ∑ s : Fin 8192, ((x (ix3 b s r) : EReal) * (xs (ix2 b s) : EReal)) * ((dy (ix3 b s k) : EReal) * (ds (ix2 b s) : EReal)) := by
  pointwise [k0_pay1]

/-- A one-element array recast, and its element. -/
theorem extract_cast (x : FVec Ideal S1 .f32) : extractAt ![0, 0, 0] (shapeCast S1x1x1 x shapeCasts_S1_S1x1x1) inpos_S1x1x1_p0_0_0 = x (ix1 0) :=
  congrArg x (funext fun a => match a with | ⟨0, _⟩ => Subsingleton.elim (α := Fin 1) _ _)

/-- Recasting an array's shape does not change the sum of its elements. -/
theorem sum_shapeCast {s t : Shape} (h : s.ShapeCasts t) (x : FVec Ideal s .f32) : (∑ i : t.Idx, shapeCast t x h i) = ∑ i : s.Idx, x i :=
  Equiv.sum_comp (Shape.reshapeEquiv h) x

section Step

variable (x : Vec Ideal S2x8192x12288 .fp8e4m3) (xs : Vec Ideal S2x8192 .f32) (dy : Vec Ideal S2x8192x3072 .fp8e5m2) (ds : Vec Ideal S2x8192 .f32)

/-- The norm: the root of the sum of the gradient's squares. -/
theorem pay2_eq : k0_pay2 (F := Ideal) x xs dy ds = Spec.norm (∑ y : S12288x3072.Idx, (k0_pay1 (F := Ideal) x xs dy ds y : EReal) * (k0_pay1 (F := Ideal) x xs dy ds y : EReal)) := by
  unfold k0_pay2 Spec.norm
  dsimp only
  rw [extract_cast]
  refine congrArg (FloatOps.sqrt (F := Ideal) (φ := .f32)) ?_
  refine (Ideal.multiReduction_add_total (shapeCast S1x12288x3072 (mulf (k0_pay1 (F := Ideal) x xs dy ds) (k0_pay1 (F := Ideal) x xs dy ds)) shapeCasts_S12288x3072_S1x12288x3072)
    0x00000000#32 reduces_S1x12288x3072_S1 (by decide) (.inl rfl) rfl _).trans ?_
  exact sum_shapeCast _ _

/-- The clipped gradient. -/
theorem pay3_at (mx : Ideal .f32) (r : Fin 12288) (q : Fin 24) (l : Fin 128) : k0_pay3 (F := Ideal) x xs dy ds mx (ix3 r q l)
    = FloatOps.mulf (φ := .f32) (Spec.clip mx (k0_pay2 (F := Ideal) x xs dy ds)) (k0_pay1 (F := Ideal) x xs dy ds (ix2 r (Spec.col q l))) := by
  unfold k0_pay3
  rw [split_at]
  rfl

end Step

/-- The old first moment. -/
theorem pay4_at (mc : Vec Ideal S12288x3072 .i8) (ms : Vec Ideal S12288x24 .f32) (r : Fin 12288) (q : Fin 24) (l : Fin 128) :
    k0_pay4 (F := Ideal) mc ms (ix3 r q l) = FloatOps.mulf (φ := .f32) (FloatOps.sitofp .f32 (mc (ix2 r (Spec.col q l)) : BitVec 8)) (ms (ix2 r q)) := by
  unfold k0_pay4
  exact congrArg₂ (FloatOps.mulf (F := Ideal) (φ := .f32)) (congrArg (FloatOps.sitofp (F := Ideal) .f32) (split_at mc r q l)) (lanes_at ms r q l)

/-- The codes of the old second moment's root. -/
theorem pay5_at (vc : Vec Ideal S12288x3072 .i8) (r : Fin 12288) (q : Fin 24) (l : Fin 128) :
    k0_pay5 (F := Ideal) vc (ix3 r q l) = FloatOps.sitofp (F := Ideal) .f32 (vc (ix2 r (Spec.col q l)) : BitVec 8) := by
  unfold k0_pay5
  exact congrArg (FloatOps.sitofp (F := Ideal) .f32) (split_at vc r q l)

section Moments

variable (C : Ideal .f32) (g : Vec Ideal S12288x3072 .f32) (gb : FVec Ideal S12288x24x128 .f32)
  (hgb : ∀ r q l, gb (ix3 r q l) = FloatOps.mulf (F := Ideal) (φ := .f32) C (g (ix2 r (Spec.col q l))))
  (w : Vec Ideal S12288x3072 .bf16) (mc : Vec Ideal S12288x3072 .i8) (ms : Vec Ideal S12288x24 .f32) (vc : Vec Ideal S12288x3072 .i8) (vs : Vec Ideal S12288x24 .f32)

include hgb

/-- The new first moment. -/
theorem pay6_at (r : Fin 12288) (q : Fin 24) (l : Fin 128) : k0_pay6 (F := Ideal) gb (k0_pay4 mc ms) (ix3 r q l) = Spec.M C g mc ms r q l := by
  show FloatOps.addf (FloatOps.mulf _ (k0_pay4 (F := Ideal) mc ms (ix3 r q l))) (FloatOps.mulf _ (gb (ix3 r q l))) = _
  rw [pay4_at, hgb]; rfl

/-- The new second moment. -/
theorem pay7_at (r : Fin 12288) (q : Fin 24) (l : Fin 128) : k0_pay7 (F := Ideal) gb (k0_pay5 vc) vs (ix3 r q l) = Spec.V C g vc vs r q l := by
  unfold k0_pay7
  show FloatOps.addf (FloatOps.mulf _ (FloatOps.mulf (FloatOps.mulf (k0_pay5 (F := Ideal) vc (ix3 r q l)) (broadcastTo S12288x24x128 (shapeCast S12288x24x1 vs shapeCasts_S12288x24_S12288x24x1) broadcasts_S12288x24x1_S12288x24x128 (ix3 r q l)))
    (FloatOps.mulf (k0_pay5 (F := Ideal) vc (ix3 r q l)) (broadcastTo S12288x24x128 (shapeCast S12288x24x1 vs shapeCasts_S12288x24_S12288x24x1) broadcasts_S12288x24x1_S12288x24x128 (ix3 r q l)))))
    (FloatOps.mulf (FloatOps.mulf _ (gb (ix3 r q l))) (gb (ix3 r q l))) = _
  rw [pay5_at, lanes_at, hgb]; rfl

/-- The step. -/
theorem pay8_at (b0 b1 : Ideal .f32) (r : Fin 12288) (q : Fin 24) (l : Fin 128) :
    k0_pay8 (F := Ideal) gb (k0_pay4 mc ms) (k0_pay5 vc) vs b0 b1 (ix3 r q l) = Spec.step b0 b1 (Spec.M C g mc ms r q l) (Spec.V C g vc vs r q l) := by
  rw [← pay6_at C g gb hgb mc ms r q l, ← pay7_at C g gb hgb vc vs r q l]; rfl

/-- The steps. -/
theorem pay10_eq (b0 b1 : Ideal .f32) :
    k0_pay10 (F := Ideal) gb (k0_pay4 mc ms) (k0_pay5 vc) vs b0 b1 = Spec.steps C b0 b1 g mc ms vc vs := by
  funext y
  obtain ⟨r, k, rfl⟩ : ∃ (r : Fin 12288) (k : Fin 3072), y = ix2 r k := ⟨y 0, y 1, eq_ix2 y⟩
  unfold k0_pay10
  rw [join_at, pay8_at C g gb hgb]; rfl

/-- The new weights. -/
theorem pay9_eq (b0 b1 : Ideal .f32) :
    k0_pay9 (F := Ideal) gb (k0_pay4 mc ms) (k0_pay5 vc) vs b0 b1 w = Spec.weights C b0 b1 g w mc ms vc vs := by
  funext y
  obtain ⟨r, k, rfl⟩ : ∃ (r : Fin 12288) (k : Fin 3072), y = ix2 r k := ⟨y 0, y 1, eq_ix2 y⟩
  unfold k0_pay9
  rw [join_at]
  show FloatOps.truncf _ _ (FloatOps.addf (FloatOps.extf _ _ (shapeCast S12288x24x128 w shapeCasts_S12288x3072_S12288x24x128 (ix3 r (Spec.grp k) (Spec.lane k))))
    (k0_pay8 (F := Ideal) gb (k0_pay4 mc ms) (k0_pay5 vc) vs b0 b1 (ix3 r (Spec.grp k) (Spec.lane k)))) = _
  rw [split_at, pay8_at C g gb hgb, Spec.col_grp_lane]; rfl

end Moments

/-- The greatest magnitude over a group's lanes. -/
theorem groupMax_at (x : FVec Ideal S12288x24x128 .f32) (r : Fin 12288) (q : Fin 24) :
    multiReduction (F := Ideal) .maximumf [2] S12288x24 (absf x) 0xFF800000#32 reduces_S12288x24x128_S12288x24 (.inl rfl) rfl (ix2 r q)
      = (Finset.univ : Finset (Fin 128)).fold max (FloatOps.ofBits .f32 0xFF800000#32) fun l => FloatOps.absf (φ := .f32) (x (ix3 r q l)) := by
  refine (Ideal.multiReduction_maximumf_single _ _ _ _ _ _).trans ?_
  refine Finset.fold_congr fun l _ => ?_
  refine congrArg (fun i => FloatOps.absf (F := Ideal) (φ := .f32) (x i)) ?_
  funext a
  match a with
  | ⟨0, _⟩ => rfl
  | ⟨1, _⟩ => rfl
  | ⟨2, _⟩ => rfl

/-- The code from the element and its scale, element by element. -/
theorem round_at (x z : FVec Ideal S12288x24x128 .f32) (i : S12288x24x128.Idx) :
    fptosi (F := Ideal) 8 (minimumf (broadcast S12288x24x128 (Scalar.ofBits (F := Ideal) .f32 0x42FE0000#32)) (maximumf (broadcast S12288x24x128 (Scalar.ofBits (F := Ideal) .f32 0xC2FE0000#32))
        (roundeven (divf x z)))) i
      = FloatOps.fptosi (F := Ideal) (φ := .f32) 8 (FloatOps.minimumf (φ := .f32) (Scalar.ofBits .f32 0x42FE0000#32)
          (FloatOps.maximumf (φ := .f32) (Scalar.ofBits .f32 0xC2FE0000#32) (FloatOps.roundeven (φ := .f32) (FloatOps.divf (φ := .f32) (x i) (z i))))) := rfl

/-- The second scales are computed the same way as the first. -/
theorem pay15_pay13 (x : FVec Ideal S12288x24x128 .f32) : k0_pay15 (F := Ideal) x = k0_pay13 (F := Ideal) (absf x) := by
  unfold k0_pay15 k0_pay13
  rfl

section Codes

variable (X : Fin 12288 → Fin 24 → Fin 128 → Ideal .f32) (x : FVec Ideal S12288x24x128 .f32) (hx : ∀ r q l, x (ix3 r q l) = X r q l)

include hx

omit hx in
/-- The scale from the greatest magnitude, element by element. -/
theorem pick_at (z : FVec Ideal S12288x24 .f32) (i : S12288x24.Idx) :
    select (cmpf .oeq z (broadcast S12288x24 (Scalar.ofBits (F := Ideal) .f32 0x00000000#32))) (broadcast S12288x24 (Scalar.ofBits (F := Ideal) .f32 0x3F800000#32))
        (divf z (broadcast S12288x24 (Scalar.ofBits (F := Ideal) .f32 0x42FE0000#32))) i
      = Scalar.select (FloatOps.cmpf (F := Ideal) (φ := .f32) .oeq (z i) (Scalar.ofBits .f32 0x00000000#32)) (Scalar.ofBits .f32 0x3F800000#32 : Ideal .f32)
        (FloatOps.divf (φ := .f32) (z i) (Scalar.ofBits .f32 0x42FE0000#32)) := rfl

/-- The scale of a group. -/
theorem scale_at (r : Fin 12288) (q : Fin 24) : k0_pay13 (F := Ideal) (absf x) (ix2 r q) = Spec.scale (X r q) := by
  have e : X r q = fun l => x (ix3 r q l) := funext fun l => (hx r q l).symm
  unfold k0_pay13 Spec.scale
  rw [e, pick_at, groupMax_at]

/-- The scales. -/
theorem pay13_eq : k0_pay13 (F := Ideal) (absf x) = Spec.scales X := by
  funext y
  obtain ⟨r, q, rfl⟩ : ∃ (r : Fin 12288) (q : Fin 24), y = ix2 r q := ⟨y 0, y 1, eq_ix2 y⟩
  exact scale_at X x hx r q

/-- The second scales. -/
theorem pay15_eq : k0_pay15 (F := Ideal) x = Spec.scales X := by
  rw [pay15_pay13]
  exact pay13_eq X x hx

/-- The codes. -/
theorem pay14_eq : k0_pay14 (F := Ideal) x (absf x) = Spec.codes X := by
  funext y
  obtain ⟨r, k, rfl⟩ : ∃ (r : Fin 12288) (k : Fin 3072), y = ix2 r k := ⟨y 0, y 1, eq_ix2 y⟩
  unfold k0_pay14
  rw [join_at, round_at, lanes_at, scale_at X x hx, hx]
  rfl

/-- The second codes. -/
theorem pay16_eq : k0_pay16 (F := Ideal) x = Spec.codes X := by
  rw [← pay14_eq X x hx]
  unfold k0_pay16 k0_pay14
  rw [pay15_pay13]

end Codes

end Cert.ReferenceIdeal.Val

end
-- ==== Proof.ReferenceIdeal.Out.lean ====
/-
The reference's seven results as functions of its arguments, over the extended reals.
-/
module

public import proofs.«01_k».proof.Proof.Gen.ReferenceIdeal.Frame
public import proofs.«01_k».proof.Proof.ReferenceIdeal.Pay
public import Idealize.ShloMosaic.Lib.Pipeline.ValueKit
public import Idealize.ShloMosaic.Lib.WholeRead
public import Idealize.ShloMosaic.Lib.Pipeline.ReadBack

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert

variable (m : (ℓ : Loc nD τ sig) → Buf (Elt Ideal) ℓ) (c : Dev nD)

/-- What the region finds in `main_arg0`. -/
abbrev xA : Vec Ideal S2x8192x12288 .fp8e4m3 := V m c main_arg0
/-- What the region finds in `main_arg1`. -/
abbrev xsA : Vec Ideal S2x8192 .f32 := V m c main_arg1
/-- What the region finds in `main_arg2`. -/
abbrev dyA : Vec Ideal S2x8192x3072 .fp8e5m2 := V m c main_arg2
/-- What the region finds in `main_arg3`. -/
abbrev dsA : Vec Ideal S2x8192 .f32 := V m c main_arg3
/-- What the region finds in `main_arg4`. -/
abbrev wA : Vec Ideal S12288x3072 .bf16 := V m c main_arg4
/-- What the region finds in `main_arg5`. -/
abbrev mcA : Vec Ideal S12288x3072 .i8 := V m c main_arg5
/-- What the region finds in `main_arg6`. -/
abbrev msA : Vec Ideal S12288x24 .f32 := V m c main_arg6
/-- What the region finds in `main_arg7`. -/
abbrev vcA : Vec Ideal S12288x3072 .i8 := V m c main_arg7
/-- What the region finds in `main_arg8`. -/
abbrev vsA : Vec Ideal S12288x24 .f32 := V m c main_arg8
/-- What the region finds in `main_v7`. -/
abbrev bcA : Vec Ideal S2 .f32 := V m c main_v7
/-- What the region finds in `main_v8`. -/
abbrev mxA : Vec Ideal S1 .f32 := V m c main_v8

/-- Window 0's block is its whole array. -/
theorem blk0 (t : Fin cfg0.N) : (iblk m c 0 t : Vec Ideal S2x8192x12288 .fp8e4m3) = xA m c := by
  have e : win0_0.index t 0 = 0 ∧ win0_0.index t 1 = 0 ∧ win0_0.index t 2 = 0 := (by decide +kernel : ∀ t : Fin cfg0.N, win0_0.index t 0 = 0 ∧ win0_0.index t 1 = 0 ∧ win0_0.index t 2 = 0) t
  funext y
  refine congrArg (xA m c) (?_ : (win0_0.blk t).view.emb y = y)
  blk_ext [e.1, e.2.1, e.2.2]

/-- Window 1's block is its whole array. -/
theorem blk1 (t : Fin cfg0.N) : (iblk m c 1 t : Vec Ideal S2x8192 .f32) = xsA m c := by
  have e : win0_1.index t 0 = 0 ∧ win0_1.index t 1 = 0 := (by decide +kernel : ∀ t : Fin cfg0.N, win0_1.index t 0 = 0 ∧ win0_1.index t 1 = 0) t
  funext y
  refine congrArg (xsA m c) (?_ : (win0_1.blk t).view.emb y = y)
  blk_ext [e.1, e.2]

/-- Window 2's block is its whole array. -/
theorem blk2 (t : Fin cfg0.N) : (iblk m c 2 t : Vec Ideal S2x8192x3072 .fp8e5m2) = dyA m c := by
  have e : win0_2.index t 0 = 0 ∧ win0_2.index t 1 = 0 ∧ win0_2.index t 2 = 0 := (by decide +kernel : ∀ t : Fin cfg0.N, win0_2.index t 0 = 0 ∧ win0_2.index t 1 = 0 ∧ win0_2.index t 2 = 0) t
  funext y
  refine congrArg (dyA m c) (?_ : (win0_2.blk t).view.emb y = y)
  blk_ext [e.1, e.2.1, e.2.2]

/-- Window 3's block is its whole array. -/
theorem blk3 (t : Fin cfg0.N) : (iblk m c 3 t : Vec Ideal S2x8192 .f32) = dsA m c := by
  have e : win0_3.index t 0 = 0 ∧ win0_3.index t 1 = 0 := (by decide +kernel : ∀ t : Fin cfg0.N, win0_3.index t 0 = 0 ∧ win0_3.index t 1 = 0) t
  funext y
  refine congrArg (dsA m c) (?_ : (win0_3.blk t).view.emb y = y)
  blk_ext [e.1, e.2]

/-- Window 4's block is its whole array. -/
theorem blk4 (t : Fin cfg0.N) : (iblk m c 4 t : Vec Ideal S12288x3072 .bf16) = wA m c := by
  have e : win0_4.index t 0 = 0 ∧ win0_4.index t 1 = 0 := (by decide +kernel : ∀ t : Fin cfg0.N, win0_4.index t 0 = 0 ∧ win0_4.index t 1 = 0) t
  funext y
  refine congrArg (wA m c) (?_ : (win0_4.blk t).view.emb y = y)
  blk_ext [e.1, e.2]

/-- Window 5's block is its whole array. -/
theorem blk5 (t : Fin cfg0.N) : (iblk m c 5 t : Vec Ideal S12288x3072 .i8) = mcA m c := by
  have e : win0_5.index t 0 = 0 ∧ win0_5.index t 1 = 0 := (by decide +kernel : ∀ t : Fin cfg0.N, win0_5.index t 0 = 0 ∧ win0_5.index t 1 = 0) t
  funext y
  refine congrArg (mcA m c) (?_ : (win0_5.blk t).view.emb y = y)
  blk_ext [e.1, e.2]

/-- Window 6's block is its whole array. -/
theorem blk6 (t : Fin cfg0.N) : (iblk m c 6 t : Vec Ideal S12288x24 .f32) = msA m c := by
  have e : win0_6.index t 0 = 0 ∧ win0_6.index t 1 = 0 := (by decide +kernel : ∀ t : Fin cfg0.N, win0_6.index t 0 = 0 ∧ win0_6.index t 1 = 0) t
  funext y
  refine congrArg (msA m c) (?_ : (win0_6.blk t).view.emb y = y)
  blk_ext [e.1, e.2]

/-- Window 7's block is its whole array. -/
theorem blk7 (t : Fin cfg0.N) : (iblk m c 7 t : Vec Ideal S12288x3072 .i8) = vcA m c := by
  have e : win0_7.index t 0 = 0 ∧ win0_7.index t 1 = 0 := (by decide +kernel : ∀ t : Fin cfg0.N, win0_7.index t 0 = 0 ∧ win0_7.index t 1 = 0) t
  funext y
  refine congrArg (vcA m c) (?_ : (win0_7.blk t).view.emb y = y)
  blk_ext [e.1, e.2]

/-- Window 8's block is its whole array. -/
theorem blk8 (t : Fin cfg0.N) : (iblk m c 8 t : Vec Ideal S12288x24 .f32) = vsA m c := by
  have e : win0_8.index t 0 = 0 ∧ win0_8.index t 1 = 0 := (by decide +kernel : ∀ t : Fin cfg0.N, win0_8.index t 0 = 0 ∧ win0_8.index t 1 = 0) t
  funext y
  refine congrArg (vsA m c) (?_ : (win0_8.blk t).view.emb y = y)
  blk_ext [e.1, e.2]

/-- Window 9's block is its whole array. -/
theorem blk9 (t : Fin cfg0.N) : (iblk m c 9 t : Vec Ideal S2 .f32) = bcA m c := by
  have e : win0_9.index t 0 = 0 := (by decide +kernel : ∀ t : Fin cfg0.N, win0_9.index t 0 = 0) t
  funext y
  refine congrArg (bcA m c) (?_ : (win0_9.blk t).view.emb y = y)
  blk_ext [e]

/-- Window 10's block is its whole array. -/
theorem blk10 (t : Fin cfg0.N) : (iblk m c 10 t : Vec Ideal S1 .f32) = mxA m c := by
  have e : win0_10.index t 0 = 0 := (by decide +kernel : ∀ t : Fin cfg0.N, win0_10.index t 0 = 0) t
  funext y
  refine congrArg (mxA m c) (?_ : (win0_10.blk t).view.emb y = y)
  blk_ext [e]

/-- Output window 11's block is its whole array. -/
theorem emb11 (t : Fin cfg0.N) (y : S12288x3072.Idx) : (win0_11.blk t).view.emb y = y := by
  have e : win0_11.index t 0 = 0 ∧ win0_11.index t 1 = 0 := (by decide +kernel : ∀ t : Fin cfg0.N, win0_11.index t 0 = 0 ∧ win0_11.index t 1 = 0) t
  blk_ext [e.1, e.2]

/-- Output window 12's block is its whole array. -/
theorem emb12 (t : Fin cfg0.N) (y : S12288x3072.Idx) : (win0_12.blk t).view.emb y = y := by
  have e : win0_12.index t 0 = 0 ∧ win0_12.index t 1 = 0 := (by decide +kernel : ∀ t : Fin cfg0.N, win0_12.index t 0 = 0 ∧ win0_12.index t 1 = 0) t
  blk_ext [e.1, e.2]

/-- Output window 13's block is its whole array. -/
theorem emb13 (t : Fin cfg0.N) (y : S1.Idx) : (win0_13.blk t).view.emb y = y := by
  have e : win0_13.index t 0 = 0 := (by decide +kernel : ∀ t : Fin cfg0.N, win0_13.index t 0 = 0) t
  blk_ext [e]

/-- Output window 14's block is its whole array. -/
theorem emb14 (t : Fin cfg0.N) (y : S12288x3072.Idx) : (win0_14.blk t).view.emb y = y := by
  have e : win0_14.index t 0 = 0 ∧ win0_14.index t 1 = 0 := (by decide +kernel : ∀ t : Fin cfg0.N, win0_14.index t 0 = 0 ∧ win0_14.index t 1 = 0) t
  blk_ext [e.1, e.2]

/-- Output window 15's block is its whole array. -/
theorem emb15 (t : Fin cfg0.N) (y : S12288x24.Idx) : (win0_15.blk t).view.emb y = y := by
  have e : win0_15.index t 0 = 0 ∧ win0_15.index t 1 = 0 := (by decide +kernel : ∀ t : Fin cfg0.N, win0_15.index t 0 = 0 ∧ win0_15.index t 1 = 0) t
  blk_ext [e.1, e.2]

/-- Output window 16's block is its whole array. -/
theorem emb16 (t : Fin cfg0.N) (y : S12288x3072.Idx) : (win0_16.blk t).view.emb y = y := by
  have e : win0_16.index t 0 = 0 ∧ win0_16.index t 1 = 0 := (by decide +kernel : ∀ t : Fin cfg0.N, win0_16.index t 0 = 0 ∧ win0_16.index t 1 = 0) t
  blk_ext [e.1, e.2]

/-- Output window 17's block is its whole array. -/
theorem emb17 (t : Fin cfg0.N) (y : S12288x24.Idx) : (win0_17.blk t).view.emb y = y := by
  have e : win0_17.index t 0 = 0 ∧ win0_17.index t 1 = 0 := (by decide +kernel : ∀ t : Fin cfg0.N, win0_17.index t 0 = 0 ∧ win0_17.index t 1 = 0) t
  blk_ext [e.1, e.2]

/-- The reference's gradient. -/
abbrev gR : Vec Ideal S12288x3072 .f32 := k0_pay1 (F := Ideal) (xA m c) (xsA m c) (dyA m c) (dsA m c)

/-- The reference's norm. -/
abbrev nR : Ideal .f32 := k0_pay2 (F := Ideal) (xA m c) (xsA m c) (dyA m c) (dsA m c)

/-- The reference's clipping factor. -/
abbrev cR : Ideal .f32 := Spec.clip (mxA m c (ix1 0)) (nR m c)

/-- The clipped gradient, in groups of lanes. -/
abbrev gbR : FVec Ideal S12288x24x128 .f32 := k0_pay3 (F := Ideal) (xA m c) (xsA m c) (dyA m c) (dsA m c) (mxA m c (ix1 0))

theorem gbR_at (r : Fin 12288) (q : Fin 24) (l : Fin 128) : gbR m c (ix3 r q l) = FloatOps.mulf (F := Ideal) (φ := .f32) (cR m c) (gR m c (ix2 r (Spec.col q l))) :=
  pay3_at (xA m c) (xsA m c) (dyA m c) (dsA m c) (mxA m c (ix1 0)) r q l

/-- The only index of a one-word read. -/
theorem first1 {h : 0 < S1.numel} : Shape.Idx.first h = (ix1 0 : S1.Idx) := funext fun a => match a with | ⟨0, _⟩ => Subsingleton.elim (α := Fin 1) _ _

/-- The first of two words. -/
theorem ld_word0 (X : Vec Ideal S2 .f32) (h : ∀ a, (![0] : Fin 1 → Nat) a + S1.size a ≤ S2.size a) : View.ld X (Rect.unit ![0] ![1] h) (ix1 0) = X (ix1 0) :=
  congrArg X (funext fun a => match a with | ⟨0, _⟩ => rfl)

/-- The second of two words. -/
theorem ld_word1 (X : Vec Ideal S2 .f32) (h : ∀ a, (![1] : Fin 1 → Nat) a + S1.size a ≤ S2.size a) : View.ld X (Rect.unit ![1] ![1] h) (ix1 0) = X (ix1 1) :=
  congrArg X (funext fun a => match a with | ⟨0, _⟩ => rfl)

theorem pay_out11 (t : Fin cfg0.N) : (outsAt0 m c t).1 = k0_pay9 (gbR m c) (k0_pay4 (mcA m c) (msA m c)) (k0_pay5 (vcA m c)) (vsA m c) (bcA m c (ix1 0)) (bcA m c (ix1 1)) (wA m c) := by
  unfold outsAt0
  funext y
  frame_out
  simp only [read_unread_whole, blk0, blk1, blk2, blk3, blk4, blk5, blk6, blk7, blk8, blk9, blk10, first1]
  exact congrFun (congrArg₂ (fun a b => k0_pay9 (gbR m c) (k0_pay4 (mcA m c) (msA m c)) (k0_pay5 (vcA m c)) (vsA m c) a b (wA m c)) (ld_word0 (bcA m c) _) (ld_word1 (bcA m c) _)) y

theorem pay_out12 (t : Fin cfg0.N) : (outsAt0 m c t).2.1 = k0_pay10 (gbR m c) (k0_pay4 (mcA m c) (msA m c)) (k0_pay5 (vcA m c)) (vsA m c) (bcA m c (ix1 0)) (bcA m c (ix1 1)) := by
  unfold outsAt0
  funext y
  frame_out
  simp only [read_unread_whole, blk0, blk1, blk2, blk3, blk4, blk5, blk6, blk7, blk8, blk9, blk10, first1]
  exact congrFun (congrArg₂ (fun a b => k0_pay10 (gbR m c) (k0_pay4 (mcA m c) (msA m c)) (k0_pay5 (vcA m c)) (vsA m c) a b) (ld_word0 (bcA m c) _) (ld_word1 (bcA m c) _)) y

theorem pay_out13 (t : Fin cfg0.N) : (outsAt0 m c t).2.2.1 = fun _ => nR m c := by
  unfold outsAt0
  funext y
  frame_out
  simp only [read_unread_whole, blk0, blk1, blk2, blk3, blk4, blk5, blk6, blk7, blk8, blk9, blk10, first1]

theorem pay_out14 (t : Fin cfg0.N) : (outsAt0 m c t).2.2.2.1 = k0_pay14 (k0_pay6 (gbR m c) (k0_pay4 (mcA m c) (msA m c))) (k0_pay12 (gbR m c) (k0_pay4 (mcA m c) (msA m c))) := by
  unfold outsAt0
  funext y
  frame_out
  simp only [read_unread_whole, blk0, blk1, blk2, blk3, blk4, blk5, blk6, blk7, blk8, blk9, blk10, first1]

theorem pay_out15 (t : Fin cfg0.N) : (outsAt0 m c t).2.2.2.2.1 = k0_pay13 (k0_pay12 (gbR m c) (k0_pay4 (mcA m c) (msA m c))) := by
  unfold outsAt0
  funext y
  frame_out
  simp only [read_unread_whole, blk0, blk1, blk2, blk3, blk4, blk5, blk6, blk7, blk8, blk9, blk10, first1]

theorem pay_out16 (t : Fin cfg0.N) : (outsAt0 m c t).2.2.2.2.2.1 = k0_pay16 (k0_pay11 (gbR m c) (k0_pay5 (vcA m c)) (vsA m c)) := by
  unfold outsAt0
  funext y
  frame_out
  simp only [read_unread_whole, blk0, blk1, blk2, blk3, blk4, blk5, blk6, blk7, blk8, blk9, blk10, first1]

theorem pay_out17 (t : Fin cfg0.N) : (outsAt0 m c t).2.2.2.2.2.2 = k0_pay15 (k0_pay11 (gbR m c) (k0_pay5 (vcA m c)) (vsA m c)) := by
  unfold outsAt0
  funext y
  frame_out
  simp only [read_unread_whole, blk0, blk1, blk2, blk3, blk4, blk5, blk6, blk7, blk8, blk9, blk10, first1]

/-- The square root of the second moment, in groups of lanes. -/
theorem root_at (r : Fin 12288) (q : Fin 24) (l : Fin 128) :
    k0_pay11 (F := Ideal) (gbR m c) (k0_pay5 (vcA m c)) (vsA m c) (ix3 r q l) = Spec.Q (cR m c) (gR m c) (vcA m c) (vsA m c) r q l :=
  congrArg (FloatOps.sqrt (F := Ideal) (φ := .f32)) (pay7_at (cR m c) (gR m c) (gbR m c) (gbR_at m c) (vcA m c) (vsA m c) r q l)

/-- The new weights the region leaves. -/
theorem arr11 : (dats m 0 c).arrAt 11 cfg0.N = Spec.weights (cR m c) (bcA m c (ix1 0)) (bcA m c (ix1 1)) (gR m c) (wA m c) (mcA m c) (msA m c) (vcA m c) (vsA m c) := by
  refine (dats m 0 c).arrAt_eq_of_covers 11 _ (by decide +kernel) fun t hf y => ?_
  blk_simp
  rw [after0_11, pay_out11]
  exact (congrFun (pay9_eq (cR m c) (gR m c) (gbR m c) (gbR_at m c) _ _ _ _ _ _ _) y).trans (congrArg _ (emb11 t y).symm)

/-- The steps the region leaves. -/
theorem arr12 : (dats m 0 c).arrAt 12 cfg0.N = Spec.steps (cR m c) (bcA m c (ix1 0)) (bcA m c (ix1 1)) (gR m c) (mcA m c) (msA m c) (vcA m c) (vsA m c) := by
  refine (dats m 0 c).arrAt_eq_of_covers 12 _ (by decide +kernel) fun t hf y => ?_
  blk_simp
  rw [after0_12, pay_out12]
  exact (congrFun (pay10_eq (cR m c) (gR m c) (gbR m c) (gbR_at m c) _ _ _ _ _ _) y).trans (congrArg _ (emb12 t y).symm)

/-- The norm the region leaves. -/
theorem arr13 : (dats m 0 c).arrAt 13 cfg0.N = fun _ => nR m c := by
  refine (dats m 0 c).arrAt_eq_of_covers 13 _ (by decide +kernel) fun t hf y => ?_
  blk_simp
  rw [after0_13, pay_out13]

/-- The first moment's codes the region leaves. -/
theorem arr14 : (dats m 0 c).arrAt 14 cfg0.N = Spec.codes (Spec.M (cR m c) (gR m c) (mcA m c) (msA m c)) := by
  refine (dats m 0 c).arrAt_eq_of_covers 14 _ (by decide +kernel) fun t hf y => ?_
  blk_simp
  rw [after0_14, pay_out14]
  exact (congrFun (pay14_eq _ _ (pay6_at (cR m c) (gR m c) (gbR m c) (gbR_at m c) (mcA m c) (msA m c))) y).trans (congrArg _ (emb14 t y).symm)

/-- The first moment's scales the region leaves. -/
theorem arr15 : (dats m 0 c).arrAt 15 cfg0.N = Spec.scales (Spec.M (cR m c) (gR m c) (mcA m c) (msA m c)) := by
  refine (dats m 0 c).arrAt_eq_of_covers 15 _ (by decide +kernel) fun t hf y => ?_
  blk_simp
  rw [after0_15, pay_out15]
  exact (congrFun (pay13_eq _ _ (pay6_at (cR m c) (gR m c) (gbR m c) (gbR_at m c) (mcA m c) (msA m c))) y).trans (congrArg _ (emb15 t y).symm)

/-- The second moment's codes the region leaves. -/
theorem arr16 : (dats m 0 c).arrAt 16 cfg0.N = Spec.codes (Spec.Q (cR m c) (gR m c) (vcA m c) (vsA m c)) := by
  refine (dats m 0 c).arrAt_eq_of_covers 16 _ (by decide +kernel) fun t hf y => ?_
  blk_simp
  rw [after0_16, pay_out16]
  exact (congrFun (pay16_eq _ _ (root_at m c)) y).trans (congrArg _ (emb16 t y).symm)

/-- The second moment's scales the region leaves. -/
theorem arr17 : (dats m 0 c).arrAt 17 cfg0.N = Spec.scales (Spec.Q (cR m c) (gR m c) (vcA m c) (vsA m c)) := by
  refine (dats m 0 c).arrAt_eq_of_covers 17 _ (by decide +kernel) fun t hf y => ?_
  blk_simp
  rw [after0_17, pay_out17]
  exact (congrFun (pay15_eq _ _ (root_at m c)) y).trans (congrArg _ (emb17 t y).symm)

end Cert.ReferenceIdeal.Val

end
-- ==== Proof.ReferenceIdeal.Results.lean ====
/-
The reference's run: its seven results are the step's, and its arguments are unchanged.
-/
module

public import proofs.«01_k».proof.Proof.ReferenceIdeal.Out
public import proofs.«01_k».proof.Proof.Value.Grad
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert

variable (m : (ℓ : Loc nD τ sig) → Buf (Elt Ideal) ℓ) (c : Dev nD)

/-- The step's arguments, as the reference's buffers hold them. -/
def args : Spec.Args where
  x := m ((c.tc : Thread nD τ).loc main_arg0)
  xs := m ((c.tc : Thread nD τ).loc main_arg1)
  dy := m ((c.tc : Thread nD τ).loc main_arg2)
  ds := m ((c.tc : Thread nD τ).loc main_arg3)
  w := m ((c.tc : Thread nD τ).loc main_arg4)
  mc := m ((c.tc : Thread nD τ).loc main_arg5)
  ms := m ((c.tc : Thread nD τ).loc main_arg6)
  vc := m ((c.tc : Thread nD τ).loc main_arg7)
  vs := m ((c.tc : Thread nD τ).loc main_arg8)
  t := m ((c.tc : Thread nD τ).loc main_arg9) ix0
  mx := m ((c.tc : Thread nD τ).loc main_arg10) ix0

/-! ## What the region finds in its arrays -/

theorem xA_eq : xA m c = (args m c).x := by
  dsimp only [xA, V, V0, hostOps0, List.flatten, List.append]; after_results; rfl

theorem xsA_eq : xsA m c = (args m c).xs := by
  dsimp only [xsA, V, V0, hostOps0, List.flatten, List.append]; after_results; rfl

theorem dyA_eq : dyA m c = (args m c).dy := by
  dsimp only [dyA, V, V0, hostOps0, List.flatten, List.append]; after_results; rfl

theorem dsA_eq : dsA m c = (args m c).ds := by
  dsimp only [dsA, V, V0, hostOps0, List.flatten, List.append]; after_results; rfl

theorem wA_eq : wA m c = (args m c).w := by
  dsimp only [wA, V, V0, hostOps0, List.flatten, List.append]; after_results; rfl

theorem mcA_eq : mcA m c = (args m c).mc := by
  dsimp only [mcA, V, V0, hostOps0, List.flatten, List.append]; after_results; rfl

theorem msA_eq : msA m c = (args m c).ms := by
  dsimp only [msA, V, V0, hostOps0, List.flatten, List.append]; after_results; rfl

theorem vcA_eq : vcA m c = (args m c).vc := by
  dsimp only [vcA, V, V0, hostOps0, List.flatten, List.append]; after_results; rfl

theorem vsA_eq : vsA m c = (args m c).vs := by
  dsimp only [vsA, V, V0, hostOps0, List.flatten, List.append]; after_results; rfl

/-- The first word of the pair is the first moment's bias correction. -/
theorem b0_eq : bcA m c (ix1 0) = (args m c).b0 := by
  dsimp only [bcA, V, V0, hostOps0, List.flatten, List.append]; after_results
  dsimp only [args, Spec.Args.b0]
  unfold Spec.corr
  pointwise

/-- The second word of the pair is the second moment's bias correction. -/
theorem b1_eq : bcA m c (ix1 1) = (args m c).b1 := by
  dsimp only [bcA, V, V0, hostOps0, List.flatten, List.append]; after_results
  dsimp only [args, Spec.Args.b1]
  unfold Spec.corr
  pointwise

theorem mx_eq : mxA m c (ix1 0) = (args m c).mx := by
  dsimp only [mxA, V, V0, hostOps0, List.flatten, List.append]; after_results
  dsimp only [args]
  pointwise

/-- The reference's gradient is the step's. -/
theorem g_eq : gR m c = (args m c).g := by
  funext y
  obtain ⟨r, k, rfl⟩ : ∃ (r : Fin 12288) (k : Fin 3072), y = ix2 r k := ⟨y 0, y 1, eq_ix2 y⟩
  rw [gR, pay1_at, xA_eq, xsA_eq, dyA_eq, dsA_eq]
  rfl

/-- The reference's norm is the step's. -/
theorem n_eq : nR m c = (args m c).nrm := by
  rw [nR, pay2_eq]
  unfold Spec.Args.nrm
  rw [← g_eq]

/-- The reference's clipping factor is the step's. -/
theorem c_eq : cR m c = (args m c).C := by
  unfold cR Spec.Args.C
  rw [mx_eq, n_eq]

/-! ## The results -/

theorem res0 : (dats m 0 c).arrAt 11 cfg0.N = (args m c).out0 := by
  rw [arr11, c_eq, g_eq, b0_eq, b1_eq, wA_eq, mcA_eq, msA_eq, vcA_eq, vsA_eq]; rfl

theorem res1 : (dats m 0 c).arrAt 12 cfg0.N = (args m c).out1 := by
  rw [arr12, c_eq, g_eq, b0_eq, b1_eq, mcA_eq, msA_eq, vcA_eq, vsA_eq]; rfl

theorem res3 : (dats m 0 c).arrAt 14 cfg0.N = (args m c).out3 := by
  rw [arr14, c_eq, g_eq, mcA_eq, msA_eq]; rfl

theorem res4 : (dats m 0 c).arrAt 15 cfg0.N = (args m c).out4 := by
  rw [arr15, c_eq, g_eq, mcA_eq, msA_eq]; rfl

theorem res5 : (dats m 0 c).arrAt 16 cfg0.N = (args m c).out5 := by
  rw [arr16, c_eq, g_eq, vcA_eq, vsA_eq]; rfl

theorem res6 : (dats m 0 c).arrAt 17 cfg0.N = (args m c).out6 := by
  rw [arr17, c_eq, g_eq, vcA_eq, vsA_eq]; rfl

theorem res2 : (dats m 0 c).arrAt 13 cfg0.N = fun _ => (args m c).nrm := by
  rw [arr13, n_eq]

/-- The norm, out of its array of one. -/
theorem tail2 : Pipeline.afterTail₀ cfgs (dats m) 0 (V0 m) [hostOps1] c main_v10 = fun _ => (args m c).nrm := by
  unfold Pipeline.afterTail₀
  dsimp only [hostOps1, List.flatten, List.append]; after_results
  have e : Pipeline.withArrays (cfgs 0).spec c (V0 m c) (fun w => (dats m 0 c).arrAt w (cfgs 0).N) (Proc.devRef .tc main_v9_2) = fun _ => (args m c).nrm :=
    (Pipeline.withArrays_arr (cfgs 0).spec (by decide) c (V0 m c) (fun w => (dats m 0 c).arrAt w (cfgs 0).N) 13).trans (res2 m c)
  rw [e]
  rfl

/-- THE RUN: every weakly fair execution ends with the step's results, the arguments unchanged. -/
theorem run (ρ : Dev nD → PrngReg) : θ_run defs (onTc (τ := τ) (main (F := Ideal))) ⟨m, fun _ => 0, ρ⟩ (fun r => ∀ c : Dev nD,
    (r.2.mem ((c.tc : Thread nD τ).loc main_v9_0) = (args m c).out0
      ∧ r.2.mem ((c.tc : Thread nD τ).loc main_v9_1) = (args m c).out1
      ∧ r.2.mem ((c.tc : Thread nD τ).loc main_v10) = (fun _ => (args m c).nrm)
      ∧ r.2.mem ((c.tc : Thread nD τ).loc main_v9_3) = (args m c).out3
      ∧ r.2.mem ((c.tc : Thread nD τ).loc main_v9_4) = (args m c).out4
      ∧ r.2.mem ((c.tc : Thread nD τ).loc main_v9_5) = (args m c).out5
      ∧ r.2.mem ((c.tc : Thread nD τ).loc main_v9_6) = (args m c).out6)) :=
  (θ_run defs _ _).mono (fun _ h c => ⟨((h c).1 11).trans (res0 m c), ((h c).1 12).trans (res1 m c), ((h c).2 main_v10 (by decide)).trans (tail2 m c),
    ((h c).1 14).trans (res3 m c), ((h c).1 15).trans (res4 m c), ((h c).1 16).trans (res5 m c), ((h c).1 17).trans (res6 m c)⟩) (run_main m ρ)

end Cert.ReferenceIdeal.Val

end
-- ==== Proof.lean ====
/-
The claim: the kernel and its two readings end with their arguments unchanged and every semaphore at zero, the two
readings of the kernel agree, and over the extended reals the kernel's seven results are the reference's.
-/
module

public import proofs.«01_k».proof.Defs
public import proofs.«01_k».proof.Proof.Kernel.Run
public import proofs.«01_k».proof.Proof.KernelIdeal.Results
public import proofs.«01_k».proof.Proof.ReferenceIdeal.Results
public import Idealize.ShloMosaic.Lib.Claim

@[expose] public section

noncomputable section

namespace Cert.Proof

open Idealize.ShloMosaic Idealize.SL.Sem

/-- From equal arguments the two programs take the same step. -/
theorem args_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    : ReferenceIdeal.Val.args m' c = KernelIdeal.Val.args m c := by
  unfold ReferenceIdeal.Val.args KernelIdeal.Val.args
  rw [Spec.Args.mk.injEq]
  exact ⟨h0, h1, h2, h3, h4, h5, h6, h7, h8, congrFun h9 ix0, congrFun h10 ix0⟩

/-- Over the extended reals the kernel's seven results are the reference's. -/
theorem algebraic : algebraic_KernelIdeal_ReferenceIdeal (hKernelIdeal := KernelIdeal.Gen.facts) (hReferenceIdeal := ReferenceIdeal.Gen.facts) := by
  intro m g m' g' _ h
  refine ⟨fun c => (KernelIdeal.Val.args m c).out0, fun c => (KernelIdeal.Val.args m c).out1, fun c _ => (KernelIdeal.Val.args m c).nrm, fun c => (KernelIdeal.Val.args m c).out3,
    fun c => (KernelIdeal.Val.args m c).out4, fun c => (KernelIdeal.Val.args m c).out5, fun c => (KernelIdeal.Val.args m c).out6, ?_, ?_⟩
  · refine (θ_run _ _ _).mono (fun r hr c => ?_) (θ_run_and (KernelIdeal.Val.run m g) (KernelIdeal.Run.frame m g))
    obtain ⟨r0, r1, r2, r3, r4, r5, r6⟩ := hr.1 c
    exact ⟨r0, r1, r2, r3, r4, r5, r6, hr.2.1 c⟩
  · refine (θ_run _ _ _).mono (fun r hr c => ?_) (θ_run_and (ReferenceIdeal.Val.run m' g') (ReferenceIdeal.Gen.frame m' g'))
    obtain ⟨r0, r1, r2, r3, r4, r5, r6⟩ := hr.1 c
    obtain ⟨h0, h1, h2, h3, h4, h5, h6, h7, h8, h9, h10⟩ := h c
    have e := args_eq m m' c h0 h1 h2 h3 h4 h5 h6 h7 h8 h9 h10
    exact ⟨r0.trans (congrArg Spec.Args.out0 e), r1.trans (congrArg Spec.Args.out1 e), r2.trans (congrArg (fun A : Spec.Args => fun _ => A.nrm) e), r3.trans (congrArg Spec.Args.out3 e),
      r4.trans (congrArg Spec.Args.out4 e), r5.trans (congrArg Spec.Args.out5 e), r6.trans (congrArg Spec.Args.out6 e), hr.2.1 c⟩

/-- Everything the certificate claims. -/
theorem claim : Cert.Claim :=
  ⟨Kernel.Gen.facts, KernelIdeal.Gen.facts, ReferenceIdeal.Gen.facts, fun m ρ _ => Kernel.Run.frame m ρ, fun m ρ _ => KernelIdeal.Run.frame m ρ,
    fun m ρ _ => ReferenceIdeal.Gen.frame m ρ, trivial, algebraic⟩

end Cert.Proof

end
